-- ==== Defs.lean ====
def Pre_Gather [hPre_ids_in_range : Cert.Pre_ids_in_range.Facts] (m : (ℓ : Loc Cert.Gather.nD Cert.Gather.τ Cert.Gather.sig) → Buf (Elt Bits) ℓ) : Prop :=
  ∀ c : Dev Cert.Gather.nD,
    (Cert.Pre_ids_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_ids_in_range : Cert.Pre_ids_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_ids_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal [hPre_ids_in_range : Cert.Pre_ids_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_ids_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Gather [hGather : Cert.Gather.Facts] [hPre_ids_in_range : Cert.Pre_ids_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_ids_in_range : Cert.Pre_ids_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] [hPre_ids_in_range : Cert.Pre_ids_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6)
      ∧ r.2.mem ((c.tc : Thread Cert.Encode.nD Cert.Encode.τ).loc Cert.Encode.main_arg7) = m ((c.tc : Thread Cert.Encode.nD Cert.Encode.τ).loc Cert.Encode.main_arg7)
      ∧ r.2.mem ((c.tc : Thread Cert.Encode.nD Cert.Encode.τ).loc Cert.Encode.main_arg8) = m ((c.tc : Thread Cert.Encode.nD Cert.Encode.τ).loc Cert.Encode.main_arg8)
      ∧ r.2.mem ((c.tc : Thread Cert.Encode.nD Cert.Encode.τ).loc Cert.Encode.main_arg9) = m ((c.tc : Thread Cert.Encode.nD Cert.Encode.τ).loc Cert.Encode.main_arg9)
      ∧ r.2.mem ((c.tc : Thread Cert.Encode.nD Cert.Encode.τ).loc Cert.Encode.main_arg10) = m ((c.tc : Thread Cert.Encode.nD Cert.Encode.τ).loc Cert.Encode.main_arg10)
      ∧ r.2.mem ((c.tc : Thread Cert.Encode.nD Cert.Encode.τ).loc Cert.Encode.main_arg11) = m ((c.tc : Thread Cert.Encode.nD Cert.Encode.τ).loc Cert.Encode.main_arg11)
      ∧ r.2.mem ((c.tc : Thread Cert.Encode.nD Cert.Encode.τ).loc Cert.Encode.main_arg12) = m ((c.tc : Thread Cert.Encode.nD Cert.Encode.τ).loc Cert.Encode.main_arg12)
      ∧ r.2.mem ((c.tc : Thread Cert.Encode.nD Cert.Encode.τ).loc Cert.Encode.main_arg13) = m ((c.tc : Thread Cert.Encode.nD Cert.Encode.τ).loc Cert.Encode.main_arg13)
      ∧ r.2.mem ((c.tc : Thread Cert.Encode.nD Cert.Encode.τ).loc Cert.Encode.main_arg14) = m ((c.tc : Thread Cert.Encode.nD Cert.Encode.τ).loc Cert.Encode.main_arg14)
      ∧ r.2.mem ((c.tc : Thread Cert.Encode.nD Cert.Encode.τ).loc Cert.Encode.main_arg15) = m ((c.tc : Thread Cert.Encode.nD Cert.Encode.τ).loc Cert.Encode.main_arg15)
      ∧ r.2.mem ((c.tc : Thread Cert.Encode.nD Cert.Encode.τ).loc Cert.Encode.main_arg16) = m ((c.tc : Thread Cert.Encode.nD Cert.Encode.τ).loc Cert.Encode.main_arg16)
      ∧ r.2.mem ((c.tc : Thread Cert.Encode.nD Cert.Encode.τ).loc Cert.Encode.main_arg17) = m ((c.tc : Thread Cert.Encode.nD Cert.Encode.τ).loc Cert.Encode.main_arg17)
      ∧ r.2.mem ((c.tc : Thread Cert.Encode.nD Cert.Encode.τ).loc Cert.Encode.main_arg18) = m ((c.tc : Thread Cert.Encode.nD Cert.Encode.τ).loc Cert.Encode.main_arg18)
      ∧ r.2.mem ((c.tc : Thread Cert.Encode.nD Cert.Encode.τ).loc Cert.Encode.main_arg19) = m ((c.tc : Thread Cert.Encode.nD Cert.Encode.τ).loc Cert.Encode.main_arg19)
      ∧ r.2.mem ((c.tc : Thread Cert.Encode.nD Cert.Encode.τ).loc Cert.Encode.main_arg20) = m ((c.tc : Thread Cert.Encode.nD Cert.Encode.τ).loc Cert.Encode.main_arg20)
      ∧ r.2.mem ((c.tc : Thread Cert.Encode.nD Cert.Encode.τ).loc Cert.Encode.main_arg21) = m ((c.tc : Thread Cert.Encode.nD Cert.Encode.τ).loc Cert.Encode.main_arg21)
      ∧ r.2.mem ((c.tc : Thread Cert.Encode.nD Cert.Encode.τ).loc Cert.Encode.main_arg22) = m ((c.tc : Thread Cert.Encode.nD Cert.Encode.τ).loc Cert.Encode.main_arg22)
      ∧ r.2.mem ((c.tc : Thread Cert.Encode.nD Cert.Encode.τ).loc Cert.Encode.main_arg23) = m ((c.tc : Thread Cert.Encode.nD Cert.Encode.τ).loc Cert.Encode.main_arg23))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
      ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
      ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
      ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
      ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
      ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16)
      ∧ r.2.mem ((c.tc : Thread Cert.EncodeIdeal.nD Cert.EncodeIdeal.τ).loc Cert.EncodeIdeal.main_arg17) = m ((c.tc : Thread Cert.EncodeIdeal.nD Cert.EncodeIdeal.τ).loc Cert.EncodeIdeal.main_arg17)
      ∧ r.2.mem ((c.tc : Thread Cert.EncodeIdeal.nD Cert.EncodeIdeal.τ).loc Cert.EncodeIdeal.main_arg18) = m ((c.tc : Thread Cert.EncodeIdeal.nD Cert.EncodeIdeal.τ).loc Cert.EncodeIdeal.main_arg18)
      ∧ r.2.mem ((c.tc : Thread Cert.EncodeIdeal.nD Cert.EncodeIdeal.τ).loc Cert.EncodeIdeal.main_arg19) = m ((c.tc : Thread Cert.EncodeIdeal.nD Cert.EncodeIdeal.τ).loc Cert.EncodeIdeal.main_arg19)
      ∧ r.2.mem ((c.tc : Thread Cert.EncodeIdeal.nD Cert.EncodeIdeal.τ).loc Cert.EncodeIdeal.main_arg20) = m ((c.tc : Thread Cert.EncodeIdeal.nD Cert.EncodeIdeal.τ).loc Cert.EncodeIdeal.main_arg20)
      ∧ r.2.mem ((c.tc : Thread Cert.EncodeIdeal.nD Cert.EncodeIdeal.τ).loc Cert.EncodeIdeal.main_arg21) = m ((c.tc : Thread Cert.EncodeIdeal.nD Cert.EncodeIdeal.τ).loc Cert.EncodeIdeal.main_arg21)
      ∧ r.2.mem ((c.tc : Thread Cert.EncodeIdeal.nD Cert.EncodeIdeal.τ).loc Cert.EncodeIdeal.main_arg22) = m ((c.tc : Thread Cert.EncodeIdeal.nD Cert.EncodeIdeal.τ).loc Cert.EncodeIdeal.main_arg22)
      ∧ r.2.mem ((c.tc : Thread Cert.EncodeIdeal.nD Cert.EncodeIdeal.τ).loc Cert.EncodeIdeal.main_arg23) = m ((c.tc : Thread Cert.EncodeIdeal.nD Cert.EncodeIdeal.τ).loc Cert.EncodeIdeal.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] [hPre_ids_in_range : Cert.Pre_ids_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v4)) (v1 : (c : Dev Cert.GatherIdeal.nD) → Buf (Elt Ideal) ((c.tc : Thread Cert.GatherIdeal.nD Cert.GatherIdeal.τ).loc Cert.GatherIdeal.main_v5)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_v5) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v5) = v0 c
          ∧ r.2.mem ((c.tc : Thread Cert.GatherReferenceIdeal.nD Cert.GatherReferenceIdeal.τ).loc Cert.GatherReferenceIdeal.main_v6) = v1 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def preserves_Encode_EncodeIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hGather : Cert.Gather.Facts) (hGatherIdeal : Cert.GatherIdeal.Facts) (hGatherReferenceIdeal : Cert.GatherReferenceIdeal.Facts) (hEncode : Cert.Encode.Facts) (hEncodeIdeal : Cert.EncodeIdeal.Facts) (hKernelIdeal : Cert.KernelIdeal.Facts) (hReferenceIdeal : Cert.ReferenceIdeal.Facts) (hPre_ids_in_range : Cert.Pre_ids_in_range.Facts) (hPre_finite_scores : Cert.Pre_finite_scores.Facts),
    quiescent_Gather (hGather := hGather) (hPre_ids_in_range := hPre_ids_in_range)
    ∧ quiescent_GatherIdeal (hGatherIdeal := hGatherIdeal) (hPre_ids_in_range := hPre_ids_in_range)
    ∧ quiescent_GatherReferenceIdeal (hGatherReferenceIdeal := hGatherReferenceIdeal) (hPre_ids_in_range := hPre_ids_in_range)
    ∧ quiescent_Encode (hEncode := hEncode)
    ∧ quiescent_EncodeIdeal (hEncodeIdeal := hEncodeIdeal)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Gather_GatherIdeal
    ∧ algebraic_GatherIdeal_GatherReferenceIdeal (hGatherIdeal := hGatherIdeal) (hGatherReferenceIdeal := hGatherReferenceIdeal) (hPre_ids_in_range := hPre_ids_in_range)
    ∧ preserves_Encode_EncodeIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x2048x128 : Shape := ⟨3, ![4, 2048, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4x2048x128 .f32) (main_arg1 : FVec F S4x2048x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x512 .f32) (main_arg15 : FVec F S512 .f32) (main_arg16 : FVec F S512x128 .f32) (main_arg17 : FVec F S128 .f32) (main_arg18 : FVec F S128x128 .f32) (main_arg19 : FVec F S128 .f32) (main_arg20 : FVec F S128x32 .f32) (main_arg21 : FVec F S32 .f32) (main_arg22 : FVec F S32x1 .f32) (main_arg23 : FVec F S1 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Pre_ids_in_range.lean ====
abbrev S4x2048x128 : Shape := ⟨3, ![4, 2048, 128]⟩
abbrev S4x1x1024 : Shape := ⟨3, ![4, 1, 1024]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel

variable [Facts]

def fn {F : FTy → Type} [FloatOps F] (main_arg0 : FVec F S4x2048x128 .f32) (main_arg1 : FVec F S4x2048x128 .f32) (main_arg2 : IVec S4x1x1024 32) : IVec S_ 1 :=
  let main_c : IVec S_ 32 := constantI S_ 32 0#32
  let main_v0 : IVec S4x1x1024 32 := broadcastInDim S4x1x1024 ![] bcast_S_S4x1x1024 main_c
  let main_v1 : IVec S4x1x1024 1 := cmpi .sge main_arg2 main_v0
  let main_c_0 : IVec S_ 32 := constantI S_ 32 8192#32
  let main_v2 : IVec S4x1x1024 32 := broadcastInDim S4x1x1024 ![] bcast_S_S4x1x1024 main_c_0
  let main_v3 : IVec S4x1x1024 1 := cmpi .slt main_arg2 main_v2
  let main_v4 : IVec S4x1x1024 1 := andi main_v1 main_v3
  let main_c_1 : IVec S_ 1 := constantI S_ 1 1#1
  let main_v5 : IVec S_ 1 := (fun x v => Host.reduce IntOp.andi x v reducesTo_S4x1x1024_S_d0_1_2 h_S_) main_v4 main_c_1
  main_v5
-- ==== Gather.lean ====
abbrev S4x2048x128 : Shape := ⟨3, ![4, 2048, 128]⟩
abbrev S4x1x1024 : Shape := ⟨3, ![4, 1, 1024]⟩
abbrev S8192x128 : Shape := ⟨2, ![8192, 128]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S4x1024x128 : Shape := ⟨3, ![4, 1024, 128]⟩

abbrev nBuf : Table → Nat
  | .hbm => 10
  | .local .scVector .vmem => 3
  | _ => 0

abbrev bufTy : (tb : Table) → Fin (nBuf tb) → BufTy
  | .hbm, ⟨0, _⟩ => ⟨S4x2048x128, .f32⟩
  | .hbm, ⟨1, _⟩ => ⟨S4x2048x128, .f32⟩
  | .hbm, ⟨2, _⟩ => ⟨S4x1x1024, .i32⟩
  | .hbm, ⟨3, _⟩ => ⟨S8192x128, .f32⟩
  | .hbm, ⟨4, _⟩ => ⟨S8192x128, .f32⟩
  | .hbm, ⟨5, _⟩ => ⟨S4096, .i32⟩
  | .hbm, ⟨6, _⟩ => ⟨S4096x128, .f32⟩
  | .hbm, ⟨7, _⟩ => ⟨S4096x128, .f32⟩
  | .hbm, ⟨8, _⟩ => ⟨S4x1024x128, .f32⟩
  | .hbm, ⟨9, _⟩ => ⟨S4x1024x128, .f32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | _, _ => ⟨S4x2048x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S4x2048x128 : Shape := ⟨3, ![4, 2048, 128]⟩
abbrev S4x1x1024 : Shape := ⟨3, ![4, 1, 1024]⟩
abbrev S4096 : Shape := ⟨1, ![4096]⟩
abbrev S8192x128 : Shape := ⟨2, ![8192, 128]⟩
abbrev S4096x1 : Shape := ⟨2, ![4096, 1]⟩
abbrev S4096x128 : Shape := ⟨2, ![4096, 128]⟩
abbrev S4x1024x128 : Shape := ⟨3, ![4, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x1x1024, .i32⟩
  | .hbm, ⟨3, _⟩ => ⟨S4096, .i32⟩
  | .hbm, ⟨4, _⟩ => ⟨S8192x128, .f32⟩
  | .hbm, ⟨5, _⟩ => ⟨S4096x1, .i32⟩
  | .hbm, ⟨6, _⟩ => ⟨S4096x128, .f32⟩
  | .hbm, ⟨7, _⟩ => ⟨S8192x128, .f32⟩
  | .hbm, ⟨8, _⟩ => ⟨S4096x1, .i32⟩
  | .hbm, ⟨9, _⟩ => ⟨S4096x128, .f32⟩
  | .hbm, ⟨10, _⟩ => ⟨S4x1024x128, .f32⟩
  | .hbm, ⟨11, _⟩ => ⟨S4x1024x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Encode.lean ====
abbrev S4x2048x128 : Shape := ⟨3, ![4, 2048, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x128 : Shape := ⟨2, ![1, 128]⟩
abbrev S1x512 : Shape := ⟨2, ![1, 512]⟩
abbrev S1x32 : Shape := ⟨2, ![1, 32]⟩
abbrev S1x1 : Shape := ⟨2, ![1, 1]⟩
abbrev S4x1x1024 : Shape := ⟨3, ![4, 1, 1024]⟩
abbrev S1x2048x128 : Shape := ⟨3, ![1, 2048, 128]⟩
abbrev S1x1x1024 : Shape := ⟨3, ![1, 1, 1024]⟩
abbrev S2048x128 : Shape := ⟨2, ![2048, 128]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩
abbrev S2048x1 : Shape := ⟨2, ![2048, 1]⟩
abbrev S2048x256 : Shape := ⟨2, ![2048, 256]⟩
abbrev S256x64 : Shape := ⟨2, ![256, 64]⟩
abbrev S2048x8 : Shape := ⟨2, ![2048, 8]⟩
abbrev S2048x4 : Shape := ⟨2, ![2048, 4]⟩
abbrev S2048x2 : Shape := ⟨2, ![2048, 2]⟩
abbrev S2048x512 : Shape := ⟨2, ![2048, 512]⟩
abbrev S2048x32 : Shape := ⟨2, ![2048, 32]⟩
abbrev S1x2048 : Shape := ⟨2, ![1, 2048]⟩
abbrev S1x8 : Shape := ⟨2, ![1, 8]⟩
abbrev S1x4 : Shape := ⟨2, ![1, 4]⟩
abbrev S1x2 : Shape := ⟨2, ![1, 2]⟩
abbrev S2048x2048 : Shape := ⟨2, ![2048, 2048]⟩
abbrev S1024 : Shape := ⟨1, ![1024]⟩
abbrev S1x1024 : Shape := ⟨2, ![1, 1024]⟩

abbrev nBuf : Space → Nat
  | .hbm => 39
  | .vmem => 30
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x512, .f32⟩
  | .hbm, ⟨15, _⟩ => ⟨S512, .f32⟩
  | .hbm, ⟨16, _⟩ => ⟨S512x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x32, .f32⟩
  | .hbm, ⟨21, _⟩ => ⟨S32, .f32⟩
  | .hbm, ⟨22, _⟩ => ⟨S32x1, .f32⟩
  | .hbm, ⟨23, _⟩ => ⟨S1, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x512, .f32⟩
  | .hbm, ⟨33, _⟩ => ⟨S1x128, .f32⟩
  | .hbm, ⟨34, _⟩ => ⟨S1x128, .f32⟩
  | .hbm, ⟨35, _⟩ => ⟨S1x32, .f32⟩
  | .hbm, ⟨36, _⟩ => ⟨S1x1, .f32⟩
  | .hbm, ⟨37, _⟩ => ⟨S4x2048x128, .f32⟩
  | .hbm, ⟨38, _⟩ => ⟨S4x1x1024, .i32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x512, .f32⟩
  | .local _ .vmem, ⟨17, _⟩ => ⟨S1x512, .f32⟩
  | .local _ .vmem, ⟨18, _⟩ => ⟨S512x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S1x2048x128, .f32⟩
  | .local _ .vmem, ⟨27, _⟩ => ⟨S1x2048x128, .f32⟩
  | .local _ .vmem, ⟨28, _⟩ => ⟨S1x1x1024, .i32⟩
  | .local _ .vmem, ⟨29, _⟩ => ⟨S1x1x1024, .i32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13_0 : Ref sig .tc := ⟨.hbm, 37, rfl⟩
abbrev main_v13_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x2048x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x1024 .i32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
abbrev S4x2048x128 : Shape := ⟨3, ![4, 2048, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x128 : Shape := ⟨2, ![1, 128]⟩
abbrev S1x512 : Shape := ⟨2, ![1, 512]⟩
abbrev S1x32 : Shape := ⟨2, ![1, 32]⟩
abbrev S1x1 : Shape := ⟨2, ![1, 1]⟩
abbrev S4x1x1024 : Shape := ⟨3, ![4, 1, 1024]⟩
abbrev S1x2048x128 : Shape := ⟨3, ![1, 2048, 128]⟩
abbrev S1x1x1024 : Shape := ⟨3, ![1, 1, 1024]⟩
abbrev S2048x128 : Shape := ⟨2, ![2048, 128]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩
abbrev S2048x1 : Shape := ⟨2, ![2048, 1]⟩
abbrev S2048x256 : Shape := ⟨2, ![2048, 256]⟩
abbrev S256x64 : Shape := ⟨2, ![256, 64]⟩
abbrev S2048x8 : Shape := ⟨2, ![2048, 8]⟩
abbrev S2048x4 : Shape := ⟨2, ![2048, 4]⟩
abbrev S2048x2 : Shape := ⟨2, ![2048, 2]⟩
abbrev S2048x512 : Shape := ⟨2, ![2048, 512]⟩
abbrev S2048x32 : Shape := ⟨2, ![2048, 32]⟩
abbrev S1x2048 : Shape := ⟨2, ![1, 2048]⟩
abbrev S1x8 : Shape := ⟨2, ![1, 8]⟩
abbrev S1x4 : Shape := ⟨2, ![1, 4]⟩
abbrev S1x2 : Shape := ⟨2, ![1, 2]⟩
abbrev S2048x2048 : Shape := ⟨2, ![2048, 2048]⟩
abbrev S1024 : Shape := ⟨1, ![1024]⟩
abbrev S1x1024 : Shape := ⟨2, ![1, 1024]⟩
abbrev S8192x128 : Shape := ⟨2, ![8192, 128]⟩
abbrev S4096 : Shape := ⟨1, ![4096]⟩
abbrev S4096x128 : Shape := ⟨2, ![4096, 128]⟩
abbrev S_ : Shape := ⟨0, ![]⟩
abbrev S4x1024x128 : Shape := ⟨3, ![4, 1024, 128]⟩

abbrev nBuf : Table → Nat
  | .hbm => 46
  | .local .tc .vmem => 30
  | .local .scVector .vmem => 3
  | _ => 0

abbrev bufTy : (tb : Table) → Fin (nBuf tb) → BufTy
  | .hbm, ⟨0, _⟩ => ⟨S4x2048x128, .f32⟩
  | .hbm, ⟨1, _⟩ => ⟨S4x2048x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x512, .f32⟩
  | .hbm, ⟨15, _⟩ => ⟨S512, .f32⟩
  | .hbm, ⟨16, _⟩ => ⟨S512x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x32, .f32⟩
  | .hbm, ⟨21, _⟩ => ⟨S32, .f32⟩
  | .hbm, ⟨22, _⟩ => ⟨S32x1, .f32⟩
  | .hbm, ⟨23, _⟩ => ⟨S1, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x512, .f32⟩
  | .hbm, ⟨33, _⟩ => ⟨S1x128, .f32⟩
  | .hbm, ⟨34, _⟩ => ⟨S1x128, .f32⟩
  | .hbm, ⟨35, _⟩ => ⟨S1x32, .f32⟩
  | .hbm, ⟨36, _⟩ => ⟨S1x1, .f32⟩
  | .hbm, ⟨37, _⟩ => ⟨S4x2048x128, .f32⟩
  | .hbm, ⟨38, _⟩ => ⟨S4x1x1024, .i32⟩
  | .hbm, ⟨39, _⟩ => ⟨S8192x128, .f32⟩
  | .hbm, ⟨40, _⟩ => ⟨S8192x128, .f32⟩
  | .hbm, ⟨41, _⟩ => ⟨S4096, .i32⟩
  | .hbm, ⟨42, _⟩ => ⟨S4096x128, .f32⟩
  | .hbm, ⟨43, _⟩ => ⟨S4096x128, .f32⟩
  | .hbm, ⟨44, _⟩ => ⟨S4x1024x128, .f32⟩
  | .hbm, ⟨45, _⟩ => ⟨S4x1024x128, .f32⟩
  | .local .tc .vmem, ⟨0, _⟩ => ⟨S1x2048x128, .f32⟩
  | .local .tc .vmem, ⟨1, _⟩ => ⟨S1x2048x128, .f32⟩
  | .local .tc .vmem, ⟨2, _⟩ => ⟨S1x2048x128, .f32⟩
  | .local .tc .vmem, ⟨3, _⟩ => ⟨S1x2048x128, .f32⟩
  | .local .tc .vmem, ⟨4, _⟩ => ⟨S128x128, .f32⟩
  | .local .tc .vmem, ⟨5, _⟩ => ⟨S1x128, .f32⟩
  | .local .tc .vmem, ⟨6, _⟩ => ⟨S128x128, .f32⟩
  | .local .tc .vmem, ⟨7, _⟩ => ⟨S1x128, .f32⟩
  | .local .tc .vmem, ⟨8, _⟩ => ⟨S128x128, .f32⟩
  | .local .tc .vmem, ⟨9, _⟩ => ⟨S1x128, .f32⟩
  | .local .tc .vmem, ⟨10, _⟩ => ⟨S128x128, .f32⟩
  | .local .tc .vmem, ⟨11, _⟩ => ⟨S1x128, .f32⟩
  | .local .tc .vmem, ⟨12, _⟩ => ⟨S1x128, .f32⟩
  | .local .tc .vmem, ⟨13, _⟩ => ⟨S1x128, .f32⟩
  | .local .tc .vmem, ⟨14, _⟩ => ⟨S1x128, .f32⟩
  | .local .tc .vmem, ⟨15, _⟩ => ⟨S1x128, .f32⟩
  | .local .tc .vmem, ⟨16, _⟩ => ⟨S128x512, .f32⟩
  | .local .tc .vmem, ⟨17, _⟩ => ⟨S1x512, .f32⟩
  | .local .tc .vmem, ⟨18, _⟩ => ⟨S512x128, .f32⟩
  | .local .tc .vmem, ⟨19, _⟩ => ⟨S1x128, .f32⟩
  | .local .tc .vmem, ⟨20, _⟩ => ⟨S128x128, .f32⟩
  | .local .tc .vmem, ⟨21, _⟩ => ⟨S1x128, .f32⟩
  | .local .tc .vmem, ⟨22, _⟩ => ⟨S128x32, .f32⟩
  | .local .tc .vmem, ⟨23, _⟩ => ⟨S1x32, .f32⟩
  | .local .tc .vmem, ⟨24, _⟩ => ⟨S32x1, .f32⟩
  | .local .tc .vmem, ⟨25, _⟩ => ⟨S1x1, .f32⟩
  | .local .tc .vmem, ⟨26, _⟩ => ⟨S1x2048x128, .f32⟩
  | .local .tc .vmem, ⟨27, _⟩ => ⟨S1x2048x128, .f32⟩
  | .local .tc .vmem, ⟨28, _⟩ => ⟨S1x1x1024, .i32⟩
  | .local .tc .vmem, ⟨29, _⟩ => ⟨S1x1x1024, .i32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | _, _ => ⟨S4x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => false
  | ⟨31, _⟩ => false
  | ⟨32, _⟩ => false
  | ⟨33, _⟩ => false
  | ⟨34, _⟩ => false
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13_0 : Ref sig .tc := ⟨.hbm, 37, rfl⟩
abbrev main_v13_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17_0 : Ref sig .tc := ⟨.hbm, 42, rfl⟩
abbrev main_v17_1 : Ref sig .tc := ⟨.hbm, 43, rfl⟩
abbrev main_v18 : Ref sig .tc := ⟨.hbm, 44, rfl⟩
abbrev main_v19 : Ref sig .tc := ⟨.hbm, 45, rfl⟩
abbrev main_v14_scv : Ref sig .scVector := ⟨.hbm, 39, rfl⟩
abbrev main_v15_scv : Ref sig .scVector := ⟨.hbm, 40, rfl⟩
abbrev main_v16_scv : Ref sig .scVector := ⟨.hbm, 41, rfl⟩
abbrev main_v17_0_scv : Ref sig .scVector := ⟨.hbm, 42, rfl⟩
abbrev main_v17_1_scv : Ref sig .scVector := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27
abbrev cc0_sem25_0 : DmaSem sig := 28
abbrev cc0_sem25_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x2048x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x1024 .i32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x128 : Shape := ⟨3, ![4, 2048, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1x128 : Shape := ⟨3, ![1, 1, 128]⟩
abbrev S4x2048x2x64 : Shape := ⟨4, ![4, 2048, 2, 64]⟩
abbrev S4x2x2048x64 : Shape := ⟨4, ![4, 2, 2048, 64]⟩
abbrev S4x2x2048x2048 : Shape := ⟨4, ![4, 2, 2048, 2048]⟩
abbrev S_ : Shape := ⟨0, ![]⟩
abbrev S4x2x2048 : Shape := ⟨3, ![4, 2, 2048]⟩
abbrev S4x2x2048x1 : Shape := ⟨4, ![4, 2, 2048, 1]⟩
abbrev S4x2048 : Shape := ⟨2, ![4, 2048]⟩
abbrev S4x2048x1 : Shape := ⟨3, ![4, 2048, 1]⟩
abbrev S4x2048x512 : Shape := ⟨3, ![4, 2048, 512]⟩
abbrev S1x1x512 : Shape := ⟨3, ![1, 1, 512]⟩
abbrev S4x2048x32 : Shape := ⟨3, ![4, 2048, 32]⟩
abbrev S1x1x32 : Shape := ⟨3, ![1, 1, 32]⟩
abbrev S1x1x1 : Shape := ⟨3, ![1, 1, 1]⟩
abbrev S4 : Shape := ⟨1, ![4]⟩
abbrev S4x1 : Shape := ⟨2, ![4, 1]⟩
abbrev S4x1024 : Shape := ⟨2, ![4, 1024]⟩
abbrev S4x1024x1 : Shape := ⟨3, ![4, 1024, 1]⟩
abbrev S4x1024x128 : Shape := ⟨3, ![4, 1024, 128]⟩

abbrev nBuf : Space → Nat
  | .hbm => 241
  | .vmem => 0
  | .smem => 0
  | _ => 0

abbrev hbmTy0_0 (i : Nat) : BufTy := match i % 128 with
  | 0 => ⟨S4x2048x128, .f32⟩
  | 1 => ⟨S4x2048x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x512, .f32⟩
  | 15 => ⟨S512, .f32⟩
  | 16 => ⟨S512x128, .f32⟩
  | 17 => ⟨S128, .f32⟩
  | 18 => ⟨S128x128, .f32⟩
  | 19 => ⟨S128, .f32⟩
  | 20 => ⟨S128x32, .f32⟩
  | 21 => ⟨S32, .f32⟩
  | 22 => ⟨S32x1, .f32⟩
  | 23 => ⟨S1, .f32⟩
  | 24 => ⟨S4x2048x128, .f32⟩
  | 25 => ⟨S4x2048x128, .f32⟩
  | 26 => ⟨S1x1x128, .f32⟩
  | 27 => ⟨S4x2048x128, .f32⟩
  | 28 => ⟨S4x2048x128, .f32⟩
  | 29 => ⟨S4x2048x2x64, .f32⟩
  | 30 => ⟨S4x2x2048x64, .f32⟩
  | 31 => ⟨S4x2048x128, .f32⟩
  | 32 => ⟨S1x1x128, .f32⟩
  | 33 => ⟨S4x2048x128, .f32⟩
  | 34 => ⟨S4x2048x128, .f32⟩
  | 35 => ⟨S4x2048x2x64, .f32⟩
  | 36 => ⟨S4x2x2048x64, .f32⟩
  | 37 => ⟨S4x2048x128, .f32⟩
  | 38 => ⟨S1x1x128, .f32⟩
  | 39 => ⟨S4x2048x128, .f32⟩
  | 40 => ⟨S4x2048x128, .f32⟩
  | 41 => ⟨S4x2048x2x64, .f32⟩
  | 42 => ⟨S4x2x2048x64, .f32⟩
  | 43 => ⟨S4x2x2048x2048, .f32⟩
  | 44 => ⟨S_, .f32⟩
  | 45 => ⟨S4x2x2048x2048, .f32⟩
  | 46 => ⟨S4x2x2048x2048, .f32⟩
  | 47 => ⟨S_, .f32⟩
  | 48 => ⟨S4x2x2048, .f32⟩
  | 49 => ⟨S_, .f32⟩
  | 50 => ⟨S4x2x2048, .f32⟩
  | 51 => ⟨S4x2x2048, .f32⟩
  | 52 => ⟨S4x2x2048x1, .f32⟩
  | 53 => ⟨S4x2x2048x2048, .f32⟩
  | 54 => ⟨S4x2x2048x2048, .f32⟩
  | 55 => ⟨S4x2x2048x2048, .f32⟩
  | 56 => ⟨S_, .f32⟩
  | 57 => ⟨S4x2x2048, .f32⟩
  | 58 => ⟨S4x2x2048x1, .f32⟩
  | 59 => ⟨S4x2x2048x2048, .f32⟩
  | 60 => ⟨S4x2x2048x2048, .f32⟩
  | 61 => ⟨S4x2x2048x64, .f32⟩
  | 62 => ⟨S4x2048x2x64, .f32⟩
  | 63 => ⟨S4x2048x128, .f32⟩
  | 64 => ⟨S4x2048x128, .f32⟩
  | 65 => ⟨S1x1x128, .f32⟩
  | 66 => ⟨S4x2048x128, .f32⟩
  | 67 => ⟨S4x2048x128, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S4x2048x128, .f32⟩
  | 75 => ⟨S4x2048x128, .f32⟩
  | 76 => ⟨S4x2048x128, .f32⟩
  | 77 => ⟨S_, .f32⟩
  | 78 => ⟨S4x2048, .f32⟩
  | 79 => ⟨S4x2048x1, .f32⟩
  | 80 => ⟨S_, .f32⟩
  | 81 => ⟨S4x2048x1, .f32⟩
  | 82 => ⟨S4x2048x1, .f32⟩
  | 83 => ⟨S4x2048x128, .f32⟩
  | 84 => ⟨S4x2048x128, .f32⟩
  | 85 => ⟨S_, .f32⟩
  | 86 => ⟨S4x2048x1, .f32⟩
  | 87 => ⟨S4x2048x1, .f32⟩
  | 88 => ⟨S4x2048x1, .f32⟩
  | 89 => ⟨S4x2048x128, .f32⟩
  | 90 => ⟨S4x2048x128, .f32⟩
  | 91 => ⟨S1x1x128, .f32⟩
  | 92 => ⟨S4x2048x128, .f32⟩
  | 93 => ⟨S4x2048x128, .f32⟩
  | 94 => ⟨S1x1x128, .f32⟩
  | 95 => ⟨S4x2048x128, .f32⟩
  | 96 => ⟨S4x2048x128, .f32⟩
  | 97 => ⟨S4x2048x128, .f32⟩
  | 98 => ⟨S4x2048x512, .f32⟩
  | 99 => ⟨S1x1x512, .f32⟩
  | 100 => ⟨S4x2048x512, .f32⟩
  | 101 => ⟨S4x2048x512, .f32⟩
  | 102 => ⟨S_, .f32⟩
  | 103 => ⟨S4x2048x512, .f32⟩
  | 104 => ⟨S4x2048x512, .f32⟩
  | 105 => ⟨S4x2048x512, .f32⟩
  | 106 => ⟨S_, .f32⟩
  | 107 => ⟨S4x2048x512, .f32⟩
  | 108 => ⟨S4x2048x512, .f32⟩
  | 109 => ⟨S4x2048x512, .f32⟩
  | 110 => ⟨S4x2048x512, .f32⟩
  | 111 => ⟨S4x2048x128, .f32⟩
  | 112 => ⟨S1x1x128, .f32⟩
  | 113 => ⟨S4x2048x128, .f32⟩
  | 114 => ⟨S4x2048x128, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S4x2048x128, .f32⟩
  | 122 => ⟨S4x2048x128, .f32⟩
  | 123 => ⟨S4x2048x128, .f32⟩
  | 124 => ⟨S_, .f32⟩
  | 125 => ⟨S4x2048, .f32⟩
  | 126 => ⟨S4x2048x1, .f32⟩
  | 127 => ⟨S_, .f32⟩
  | _ => ⟨S4x2048x128, .f32⟩

abbrev hbmTy0_1 (i : Nat) : BufTy := match i % 128 with
  | 0 => ⟨S4x2048x1, .f32⟩
  | 1 => ⟨S4x2048x1, .f32⟩
  | 2 => ⟨S4x2048x128, .f32⟩
  | 3 => ⟨S4x2048x128, .f32⟩
  | 4 => ⟨S_, .f32⟩
  | 5 => ⟨S4x2048x1, .f32⟩
  | 6 => ⟨S4x2048x1, .f32⟩
  | 7 => ⟨S4x2048x1, .f32⟩
  | 8 => ⟨S4x2048x128, .f32⟩
  | 9 => ⟨S4x2048x128, .f32⟩
  | 10 => ⟨S1x1x128, .f32⟩
  | 11 => ⟨S4x2048x128, .f32⟩
  | 12 => ⟨S4x2048x128, .f32⟩
  | 13 => ⟨S1x1x128, .f32⟩
  | 14 => ⟨S4x2048x128, .f32⟩
  | 15 => ⟨S4x2048x128, .f32⟩
  | 16 => ⟨S4x2048x128, .f32⟩
  | 17 => ⟨S4x2048x128, .f32⟩
  | 18 => ⟨S1x1x128, .f32⟩
  | 19 => ⟨S4x2048x128, .f32⟩
  | 20 => ⟨S4x2048x128, .f32⟩
  | 21 => ⟨S_, .f32⟩
  | 22 => ⟨S4x2048x128, .f32⟩
  | 23 => ⟨S4x2048x128, .f32⟩
  | 24 => ⟨S4x2048x128, .f32⟩
  | 25 => ⟨S_, .f32⟩
  | 26 => ⟨S4x2048x128, .f32⟩
  | 27 => ⟨S4x2048x128, .f32⟩
  | 28 => ⟨S4x2048x128, .f32⟩
  | 29 => ⟨S4x2048x128, .f32⟩
  | 30 => ⟨S4x2048x32, .f32⟩
  | 31 => ⟨S1x1x32, .f32⟩
  | 32 => ⟨S4x2048x32, .f32⟩
  | 33 => ⟨S4x2048x32, .f32⟩
  | 34 => ⟨S_, .f32⟩
  | 35 => ⟨S4x2048x32, .f32⟩
  | 36 => ⟨S4x2048x32, .f32⟩
  | 37 => ⟨S4x2048x32, .f32⟩
  | 38 => ⟨S_, .f32⟩
  | 39 => ⟨S4x2048x32, .f32⟩
  | 40 => ⟨S4x2048x32, .f32⟩
  | 41 => ⟨S4x2048x32, .f32⟩
  | 42 => ⟨S4x2048x32, .f32⟩
  | 43 => ⟨S4x2048x1, .f32⟩
  | 44 => ⟨S1x1x1, .f32⟩
  | 45 => ⟨S4x2048x1, .f32⟩
  | 46 => ⟨S4x2048x1, .f32⟩
  | 47 => ⟨S4x2048, .f32⟩
  | 48 => ⟨S_, .f32⟩
  | 49 => ⟨S4, .f32⟩
  | 50 => ⟨S_, .f32⟩
  | 51 => ⟨S4, .f32⟩
  | 52 => ⟨S4, .f32⟩
  | 53 => ⟨S4x1, .f32⟩
  | 54 => ⟨S4x2048, .f32⟩
  | 55 => ⟨S4x2048, .f32⟩
  | 56 => ⟨S4x2048, .f32⟩
  | 57 => ⟨S_, .f32⟩
  | 58 => ⟨S4, .f32⟩
  | 59 => ⟨S4x1, .f32⟩
  | 60 => ⟨S4x2048, .f32⟩
  | 61 => ⟨S4x2048, .f32⟩
  | 62 => ⟨S4x2048, .f32⟩
  | 63 => ⟨S4x2048, .i32⟩
  | 64 => ⟨S4x2048, .f32⟩
  | 65 => ⟨S4x2048, .i32⟩
  | 66 => ⟨S4x1024, .i32⟩
  | 67 => ⟨S4x1024x1, .i32⟩
  | 68 => ⟨S_, .i32⟩
  | 69 => ⟨S4x1024x1, .i32⟩
  | 70 => ⟨S4x1024x1, .i1⟩
  | 71 => ⟨S_, .i32⟩
  | 72 => ⟨S4x1024x1, .i32⟩
  | 73 => ⟨S4x1024x1, .i32⟩
  | 74 => ⟨S4x1024x1, .i32⟩
  | 75 => ⟨S1, .i32⟩
  | 76 => ⟨S_, .i32⟩
  | 77 => ⟨S4x1024x1, .i32⟩
  | 78 => ⟨S4x1024x1, .i1⟩
  | 79 => ⟨S1x1x1, .i32⟩
  | 80 => ⟨S4x1024x1, .i32⟩
  | 81 => ⟨S4x1024x1, .i1⟩
  | 82 => ⟨S4x1024x1, .i1⟩
  | 83 => ⟨S_, .i1⟩
  | 84 => ⟨S4x1024, .i1⟩
  | 85 => ⟨S4x1024x128, .f32⟩
  | 86 => ⟨S4x1024x128, .i1⟩
  | 87 => ⟨S_, .f32⟩
  | 88 => ⟨S4x1024x128, .f32⟩
  | 89 => ⟨S4x1024x128, .f32⟩
  | 90 => ⟨S4x1024x1, .i32⟩
  | 91 => ⟨S_, .i32⟩
  | 92 => ⟨S4x1024x1, .i32⟩
  | 93 => ⟨S4x1024x1, .i1⟩
  | 94 => ⟨S_, .i32⟩
  | 95 => ⟨S4x1024x1, .i32⟩
  | 96 => ⟨S4x1024x1, .i32⟩
  | 97 => ⟨S4x1024x1, .i32⟩
  | 98 => ⟨S1, .i32⟩
  | 99 => ⟨S_, .i32⟩
  | 100 => ⟨S4x1024x1, .i32⟩
  | 101 => ⟨S4x1024x1, .i1⟩
  | 102 => ⟨S1x1x1, .i32⟩
  | 103 => ⟨S4x1024x1, .i32⟩
  | 104 => ⟨S4x1024x1, .i1⟩
  | 105 => ⟨S4x1024x1, .i1⟩
  | 106 => ⟨S_, .i1⟩
  | 107 => ⟨S4x1024, .i1⟩
  | 108 => ⟨S4x1024x128, .f32⟩
  | 109 => ⟨S4x1024x128, .i1⟩
  | 110 => ⟨S_, .f32⟩
  | 111 => ⟨S4x1024x128, .f32⟩
  | 112 => ⟨S4x1024x128, .f32⟩
  | _ => ⟨S4x2048x128, .f32⟩

abbrev hbmTy (i : Nat) : BufTy := match i / 128 with
  | 0 => hbmTy0_0 i
  | 1 => hbmTy0_1 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_cst_0 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_9 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_12 : Ref sig .tc := ⟨.hbm, 124, rfl⟩
abbrev main_v87 : Ref sig .tc := ⟨.hbm, 125, rfl⟩
abbrev main_v88 : Ref sig .tc := ⟨.hbm, 126, rfl⟩
abbrev main_cst_13 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_15 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_16 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_17 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_18 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_19 : Ref sig .tc := ⟨.hbm, 176, rfl⟩
abbrev main_v132 : Ref sig .tc := ⟨.hbm, 177, rfl⟩
abbrev main_cst_20 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_21 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_call0_v0 : Ref sig .tc := ⟨.hbm, 191, rfl⟩
abbrev main_call0_v1_0 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call1_c : Ref sig .tc := ⟨.hbm, 196, rfl⟩
abbrev main_call1_v0 : Ref sig .tc := ⟨.hbm, 197, rfl⟩
abbrev main_call1_v1 : Ref sig .tc := ⟨.hbm, 198, rfl⟩
abbrev main_call1_c_0 : Ref sig .tc := ⟨.hbm, 199, rfl⟩
abbrev main_call1_v2 : Ref sig .tc := ⟨.hbm, 200, rfl⟩
abbrev main_call1_v3 : Ref sig .tc := ⟨.hbm, 201, rfl⟩
abbrev main_call1_v4 : Ref sig .tc := ⟨.hbm, 202, rfl⟩
abbrev main_call1_c_1 : Ref sig .tc := ⟨.hbm, 203, rfl⟩
abbrev main_call1_c_2 : Ref sig .tc := ⟨.hbm, 204, rfl⟩
abbrev main_call1_v5 : Ref sig .tc := ⟨.hbm, 205, rfl⟩
abbrev main_call1_v6 : Ref sig .tc := ⟨.hbm, 206, rfl⟩
abbrev main_call1_v7 : Ref sig .tc := ⟨.hbm, 207, rfl⟩
abbrev main_call1_v8 : Ref sig .tc := ⟨.hbm, 208, rfl⟩
abbrev main_call1_v9 : Ref sig .tc := ⟨.hbm, 209, rfl⟩
abbrev main_call1_v10 : Ref sig .tc := ⟨.hbm, 210, rfl⟩
abbrev main_call1_c_3 : Ref sig .tc := ⟨.hbm, 211, rfl⟩
abbrev main_call1_v11 : Ref sig .tc := ⟨.hbm, 212, rfl⟩
abbrev main_call1_v12 : Ref sig .tc := ⟨.hbm, 213, rfl⟩
abbrev main_call1_v13 : Ref sig .tc := ⟨.hbm, 214, rfl⟩
abbrev main_call1_cst : Ref sig .tc := ⟨.hbm, 215, rfl⟩
abbrev main_call1_v14 : Ref sig .tc := ⟨.hbm, 216, rfl⟩
abbrev main_v147 : Ref sig .tc := ⟨.hbm, 217, rfl⟩
abbrev main_v148 : Ref sig .tc := ⟨.hbm, 218, rfl⟩
abbrev main_call2_c : Ref sig .tc := ⟨.hbm, 219, rfl⟩
abbrev main_call2_v0 : Ref sig .tc := ⟨.hbm, 220, rfl⟩
abbrev main_call2_v1 : Ref sig .tc := ⟨.hbm, 221, rfl⟩
abbrev main_call2_c_0 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_call2_c_1 : Ref sig .tc := ⟨.hbm, 226, rfl⟩
abbrev main_call2_c_2 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_v8 : Ref sig .tc := ⟨.hbm, 231, rfl⟩
abbrev main_call2_v9 : Ref sig .tc := ⟨.hbm, 232, rfl⟩
abbrev main_call2_v10 : Ref sig .tc := ⟨.hbm, 233, rfl⟩
abbrev main_call2_c_3 : Ref sig .tc := ⟨.hbm, 234, rfl⟩
abbrev main_call2_v11 : Ref sig .tc := ⟨.hbm, 235, rfl⟩
abbrev main_call2_v12 : Ref sig .tc := ⟨.hbm, 236, rfl⟩
abbrev main_call2_v13 : Ref sig .tc := ⟨.hbm, 237, rfl⟩
abbrev main_call2_cst : Ref sig .tc := ⟨.hbm, 238, rfl⟩
abbrev main_call2_v14 : Ref sig .tc := ⟨.hbm, 239, rfl⟩
abbrev main_v149 : Ref sig .tc := ⟨.hbm, 240, rfl⟩

abbrev nD : Nat := 1
abbrev τ : Topo := Topo.v7x

variable {F : FTy → Type} [FloatOps F]
-- ==== Proof.GatherTile.lean ====
/-
  One tile's task of the SparseCore call: it copies its 128 row numbers, streams those rows of the two tables into
  its two row buffers at once, and copies the buffers out to its blocks of the two results.

  The triple `tile_body` says what the task leaves: in its block of each result, the rows of that result's table that
  its row numbers name (`gval`). The contents of the tables (`tx`, `tp`), of the list of row numbers (`ix`) and of
  the results before the call (`o0`, `o1`) are parameters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic
public import proofs.«01_k».proof.Proof.Gen.GatherIdeal
public import proofs.«01_k».proof.Proof.Gen.GatherIdeal.Skeleton

@[expose] public section

noncomputable section

namespace Cert.Proof.GatherCall

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_v0
abbrev pLoc (d : Dev nD) : Loc nD τ sig := (SparseCore.T d).loc main_v1
abbrev iLoc (d : Dev nD) : Loc nD τ sig := (SparseCore.T d).loc main_v2
abbrev oxLoc (d : Dev nD) : Loc nD τ sig := (SparseCore.T d).loc main_v3_0
abbrev opLoc (d : Dev nD) : Loc nD τ sig := (SparseCore.T d).loc main_v3_1

local notation "xV" => (Memref.whole main_v0_scv : Memref sig Kind.scVector Space.hbm S8192x128 EltTy.f32)
local notation "pV" => (Memref.whole main_v1_scv : Memref sig Kind.scVector Space.hbm S8192x128 EltTy.f32)
local notation "iV" => (Memref.whole main_v2_scv : Memref sig Kind.scVector Space.hbm S4096 EltTy.i32)
local notation "oxV" => (Memref.whole main_v3_0_scv : Memref sig Kind.scVector Space.hbm S4096x128 EltTy.f32)
local notation "opV" => (Memref.whole main_v3_1_scv : Memref sig Kind.scVector Space.hbm S4096x128 EltTy.f32)
local notation "sV" => (Memref.whole cc0_scratch0 : Memref sig Kind.scVector Space.vmem S128 EltTy.i32)
local notation "rxV" => (Memref.whole cc0_scratch1 : Memref sig Kind.scVector Space.vmem S128x128 EltTy.f32)
local notation "rpV" => (Memref.whole cc0_scratch2 : Memref sig Kind.scVector Space.vmem S128x128 EltTy.f32)

/-- The 32 tiles' blocks: 128 row numbers each, and the 128 rows of the results that they are for. -/
theorem idiv : 32 ∣ S4096.size 0 := ⟨128, rfl⟩
theorem odiv : 32 ∣ S4096x128.size 0 := ⟨128, rfl⟩
abbrev iblkR (w : Fin 32) : Rect S4096 := Rect.part (s := S4096) (a₀ := 0) idiv w
abbrev oblkR (w : Fin 32) : Rect S4096x128 := Rect.part (s := S4096x128) (a₀ := 0) odiv w
abbrev iSet (w : Fin 32) : Finset S4096.Idx := (iblkR w).set
abbrev oSet (w : Fin 32) : Finset S4096x128.Idx := (oblkR w).set

/-- Tile `w`'s share of a table: every tile reads all of it. -/
abbrev tq (w : Fin 32) : PosShare TreeShare := pieceOf fullShare 32 (by decide) w

/-- The rows of a table that a list of row numbers names: row `r` of the result is row `ix r` of the table (the last
    row where the number is past it). -/
def gval {α : Type} (t : S8192x128.Idx → α) (ix : S4096.Idx → BitVec 32) : S4096x128.Idx → α :=
  fun y => t (ix2 ⟨min (ix (ix1 (y 0))).toNat 8191, by change _ < 8192; omega⟩ (y 1))

/-- The word's place among 32 tiles of core `c` and subcore `i`. -/
abbrev wid (c : Fin 2) (i : Fin 16) : Fin 32 := ⟨2 * i.val + c.val, by omega⟩

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

/-- What the tasks ask of the row numbers: each names a row of the tables. -/
def PreOK : Prop := ∀ (d : Dev nD) (j : S4096.Idx), (ix d j : BitVec 32).toNat < 8192

/-- What tile `w` is handed. -/
abbrev goP (d : Dev nD) (w : Fin 32) : sProp 𝕄 :=
  iprop((iLoc d ↦[iSet w]{fullShare} ix d) ∗ (xLoc d ↦{tq w} tx d) ∗ (pLoc d ↦{tq w} tp d)
    ∗ (oxLoc d ↦[oSet w]{fullShare} o0 d) ∗ (opLoc d ↦[oSet w]{fullShare} o1 d))
/-- What it hands back: the same, its blocks of the results holding the rows named. -/
abbrev tdP (d : Dev nD) (w : Fin 32) : sProp 𝕄 :=
  goP tx tp ix (fun d => gval (tx d) (ix d)) (fun d => gval (tp d) (ix d)) d w

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid (Fin.cast bound_zero (L 0)) (Fin.cast bound_one (L 1))

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
abbrev iK (L : grid0.Coords) : Memref sig .scVector .hbm S128 .i32 := (iV).slice (irowK L) (fun _ => rfl)
abbrev oxK (L : grid0.Coords) : Memref sig .scVector .hbm S128x128 .f32 := (oxV).slice (orowK L) (fun _ => rfl)
abbrev opK (L : grid0.Coords) : Memref sig .scVector .hbm S128x128 .f32 := (opV).slice (orowK L) (fun _ => rfl)
abbrev allR : Rect S8192x128 := Rect.unit (s := S8192x128) ![0, 0] S8192x128.size inb_S8192x128_S8192x128_0_0
abbrev xK : Memref sig .scVector .hbm S8192x128 .f32 := (xV).slice allR (fun _ => rfl)
abbrev pK : Memref sig .scVector .hbm S8192x128 .f32 := (pV).slice allR (fun _ => rfl)

omit [FloatOps F] in
theorem irowK_eq : irowK L = iblkR (wL L) := by
  unfold irowK iblkR Rect.part Rect.block
  congr 1 <;> funext a
  · rw [k0_off1_eq]
    match a with
    | 0 =>
      show 256 * (L 1).val + 128 * (L 0).val = (2 * (L 1).val + (L 0).val) * 128
      omega
  · match a with
    | 0 => simp [Shape.partSize]
omit [FloatOps F] in
theorem orowK_eq : orowK L = oblkR (wL L) := by
  unfold orowK oblkR Rect.part Rect.block
  congr 1 <;> funext a
  · rw [k0_off2_eq]
    match a with
    | 0 =>
      show 256 * (L 1).val + 128 * (L 0).val = (2 * (L 1).val + (L 0).val) * 128
      omega
    | 1 => simp [Shape.partIx, Shape.partSize]
  · match a with
    | 0 => simp [Shape.partSize]
    | 1 => simp [Shape.partSize]

omit [FloatOps F] in
theorem set_iK : (iK L).view.set = iSet (wL L) := by
  show ((View.whole (main_v2_scv : Ref sig .scVector)).slice (irowK L)).set = _
  rw [View.set_slice, irowK_eq]; exact Finset.map_refl
omit [FloatOps F] in
theorem set_oxK : (oxK L).view.set = oSet (wL L) := by
  show ((View.whole (main_v3_0_scv : Ref sig .scVector)).slice (orowK L)).set = _
  rw [View.set_slice, orowK_eq]; exact Finset.map_refl
omit [FloatOps F] in
theorem set_opK : (opK L).view.set = oSet (wL L) := by
  show ((View.whole (main_v3_1_scv : Ref sig .scVector)).slice (orowK L)).set = _
  rw [View.set_slice, orowK_eq]; exact Finset.map_refl

omit [FloatOps F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]
omit [FloatOps F] in
theorem pts_oxK (f : Buf (Elt F) (oxLoc d)) :
    ((oxK L).view.loc (V d (cV L) (jV L)) ↦[(oxK L).view.set]{fullShare} f : sProp 𝕄) = oxLoc d ↦[oSet (wL L)]{fullShare} f := by
  rw [set_oxK]
omit [FloatOps F] in
theorem pts_opK (f : Buf (Elt F) (opLoc d)) :
    ((opK L).view.loc (V d (cV L) (jV L)) ↦[(opK L).view.set]{fullShare} f : sProp 𝕄) = opLoc d ↦[oSet (wL L)]{fullShare} f := by
  rw [set_opK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_pV (q : PosShare TreeShare) (f : Buf (Elt F) (pLoc d)) :
    ((pV).view.loc (V d (cV L) (jV L)) ↦{q} f : sProp 𝕄) = pLoc d ↦{q} f := rfl
omit [FloatOps F] in
theorem pts_sV (q : PosShare TreeShare) (f : Buf (Elt F) ((V d (cV L) (jV L)).loc cc0_scratch0)) :
    ((sV).view.loc (V d (cV L) (jV L)) ↦{q} f : sProp 𝕄) = (V d (cV L) (jV L)).loc cc0_scratch0 ↦{q} f := rfl
omit [FloatOps F] in
theorem pts_rxV (f : Buf (Elt F) ((V d (cV L) (jV L)).loc cc0_scratch1)) :
    ((rxV).view.loc (V d (cV L) (jV L)) ↦{fullShare} f : sProp 𝕄) = (V d (cV L) (jV L)).loc cc0_scratch1 ↦{fullShare} f := rfl
omit [FloatOps F] in
theorem pts_rpV (f : Buf (Elt F) ((V d (cV L) (jV L)).loc cc0_scratch2)) :
    ((rpV).view.loc (V d (cV L) (jV L)) ↦{fullShare} f : sProp 𝕄) = (V d (cV L) (jV L)).loc cc0_scratch2 ↦{fullShare} f := rfl

/-! ### The task's semaphores and scratch among its own -/

abbrev cell (s : DmaSem sig) (d : Dev nD) (c : Fin τ.nSC) (i : Fin τ.nSub) : GSem nD τ sig := (V d c i, .dma s)

/-- The five semaphores of the task. -/
abbrev sems5 : List (DmaSem sig) := [cc0_scratch3.sem, cc0_scratch4.sem, cc0_scoped0.sem, cc0_scoped1.sem, cc0_scoped2.sem]

omit [FloatOps F] in
theorem cell_mem (s : DmaSem sig) (hs : (SemLoc.dma s : SemLoc sig).isScoped .scVector = true) :
    cell s d (cV L) (jV L) ∈ ownCells (V d (cV L) (jV L)) := mem_ownCells.mpr ⟨rfl, hs⟩
omit [FloatOps F] in
theorem cell_ne {s s' : DmaSem sig} (h : s ≠ s') : cell s d (cV L) (jV L) ≠ cell s' d (cV L) (jV L) := fun e => by
  have e2 := congrArg Prod.snd e
  simp only [cell] at e2
  exact h (by injection e2)

abbrev restCells (d : Dev nD) (L : grid0.Coords) : Finset (GSem nD τ sig) :=
  (((((ownCells (V d (cV L) (jV L))).erase (cell cc0_scratch3.sem d (cV L) (jV L))).erase (cell cc0_scratch4.sem d (cV L) (jV L))).erase
    (cell cc0_scoped0.sem d (cV L) (jV L))).erase (cell cc0_scoped1.sem d (cV L) (jV L))).erase (cell cc0_scoped2.sem d (cV L) (jV L))

omit [FloatOps F] in
theorem ownSems0_V :
    (ownSems0 (V d (cV L) (jV L)) : sProp 𝕄)
      = iprop(semVal (cell cc0_scratch3.sem d (cV L) (jV L)) 0 ∗ semVal (cell cc0_scratch4.sem d (cV L) (jV L)) 0
          ∗ semVal (cell cc0_scoped0.sem d (cV L) (jV L)) 0 ∗ semVal (cell cc0_scoped1.sem d (cV L) (jV L)) 0
          ∗ semVal (cell cc0_scoped2.sem d (cV L) (jV L)) 0 ∗ bigSep (restCells d L) fun g => semVal g 0) := by
  unfold SparseCore.Cfg.ownSems0
  rw [SparseCore.bigSep_erase' (cell_mem d L cc0_scratch3.sem (by decide)),
    SparseCore.bigSep_erase' (Finset.mem_erase.mpr ⟨cell_ne d L (by decide), cell_mem d L cc0_scratch4.sem (by decide)⟩),
    SparseCore.bigSep_erase' (Finset.mem_erase.mpr ⟨cell_ne d L (by decide), Finset.mem_erase.mpr ⟨cell_ne d L (by decide),
      cell_mem d L cc0_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped1.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        cell_mem d L cc0_scoped2.sem (by decide)⟩⟩⟩⟩)]

abbrev scr (L : grid0.Coords) (b : Ref sig .scVector) : DevRef τ sig := (Proc.scVector (cV L) (jV L)).devRef b
abbrev restBufs (L : grid0.Coords) : Finset (DevRef τ sig) :=
  (((ownRefs (τ := τ) (.scVector (cV L) (jV L))).erase (scr L cc0_scratch0)).erase (scr L cc0_scratch1)).erase (scr L cc0_scratch2)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep (restBufs L) fun b => iprop(∃ f, ((d, b) : Loc nD τ sig) ↦{fullShare} f)) := by
  unfold SparseCore.Cfg.ownBufs
  have ne {b b' : Ref sig .scVector} (h : b ≠ b') : scr L b ≠ scr L b' := fun e => h (Proc.devRef_injective _ e)
  refine (SparseCore.bigSep_erase' (SparseCore.Cfg.mem_ownRefs_of_owner (p := Proc.scVector (cV L) (jV L)) (b := scr L cc0_scratch0) rfl)).trans ?_
  rw [SparseCore.bigSep_erase' (Finset.mem_erase.mpr ⟨ne (by decide), SparseCore.Cfg.mem_ownRefs_of_owner (p := Proc.scVector (cV L) (jV L)) (b := scr L cc0_scratch1) rfl⟩),
    SparseCore.bigSep_erase' (Finset.mem_erase.mpr ⟨ne (by decide), Finset.mem_erase.mpr ⟨ne (by decide), SparseCore.Cfg.mem_ownRefs_of_owner (p := Proc.scVector (cV L) (jV L)) (b := scr L cc0_scratch2) rfl⟩⟩)]

/-! ### What a gather leaves, as the rows named -/

/-- The list of row numbers the task has fetched: its block of the whole list. -/
abbrev lst (d : Dev nD) (L : grid0.Coords) : S128.Idx → Elt F .i32 := (iK L).view.read (Elt F) (ix d)

theorem read_fetched (fs : Buf (Elt F) ((V d (cV L) (jV L)).loc cc0_scratch0)) (pay : S128.Idx → Elt F .i32) :
    (sV).view.read (Elt F) (View.write (Elt F) (sV).view fs pay Finset.univ) = pay := by
  rw [View.write_whole_univ]; rfl

theorem lst_apply (j : S128.Idx) : lst ix d L j = ix d ((iK L).view.emb j) := (View.read_apply _ _).trans (cast_eq _ _)

/-- Each number read off the fetched list names a row. -/
theorem inb_of_pre (hpre : PreOK ix) (fs : Buf (Elt F) ((V d (cV L) (jV L)).loc cc0_scratch0)) (pay : S128.Idx → Elt F .i32)
    (hpay : pay = lst ix d L) :
    ∀ x, ((sV).view.read (Elt F) (View.write (Elt F) (sV).view fs pay Finset.univ) x : BitVec 32).toNat
      < S8192x128.size gathers_S8192x128_S128x128.axis := by
  subst hpay; intro x
  rw [read_fetched, lst_apply]
  exact hpre d _

omit [FloatOps F] in
/-- The row of a table that the gather reads at element `x` of its buffer, as an index of the table. -/
theorem gathers_idx (r : Fin 128 → Fin 8192) (x : S128x128.Idx) :
    (gathers_S8192x128_S128x128).idx r x = (ix2 (r (x 0)) (x 1) : S8192x128.Idx) := by
  funext b
  match b with
  | 0 => rfl
  | 1 => rfl

omit [FloatOps F] in
theorem rowMajor_symm_128 (k : Fin 128) (h : (128 : Nat) = S128.numel) : S128.rowMajor.symm (k.cast h) = (ix1 k : S128.Idx) := by
  rw [Equiv.symm_apply_eq]
  apply Fin.ext
  rw [Shape.rowMajor_val_one]; rfl

omit [FloatOps F] in
theorem oxK_emb_val (x : S128x128.Idx) :
    (((oxK L).view.emb x) 0).val = 256 * (L 1).val + 128 * (L 0).val + (x 0).val ∧ (((oxK L).view.emb x) 1).val = (x 1).val := by
  have h := fun a => ValueKit.view_emb_slice_whole_unit_val (main_v3_0_scv : Ref sig .scVector) (k0_off2 L) S128x128.size (k0_off2_inb L) x a
  refine ⟨(h 0).trans ?_, (h 1).trans ?_⟩
  · exact congrArg (· + (x 0).val) (congrFun (k0_off2_eq L) 0)
  · exact (congrArg (· + (x 1).val) (congrFun (k0_off2_eq L) 1)).trans (Nat.zero_add _)
omit [FloatOps F] in
theorem opK_emb (x : S128x128.Idx) : (opK L).view.emb x = (oxK L).view.emb x := rfl
omit [FloatOps F] in
theorem iK_emb (k : Fin 128) (x : S128x128.Idx) (hk : x 0 = k) : (iK L).view.emb (ix1 k) = (ix1 (((oxK L).view.emb x) 0) : S4096.Idx) := by
  funext a
  match a with
  | 0 =>
    apply Fin.ext
    refine (ValueKit.view_emb_slice_whole_unit_val (main_v2_scv : Ref sig .scVector) (k0_off1 L) S128.size (k0_off1_inb L) (ix1 k) 0).trans ?_
    refine Eq.trans ?_ (oxK_emb_val L x).1.symm
    rw [hk]
    exact congrArg (· + k.val) (congrFun (k0_off1_eq L) 0)

omit [FloatOps F] in
theorem xK_read (f : Buf (Elt F) (xLoc d)) : (xK).view.read (Elt F) f = f := by
  funext y
  rw [show (xK).view.read (Elt F) f y = f ((xK).view.emb y) from (View.read_apply _ _).trans (cast_eq _ _)]
  congr 1
  funext a
  apply Fin.ext
  refine (ValueKit.view_emb_slice_whole_unit_val (main_v0_scv : Ref sig .scVector) ![0, 0] S8192x128.size inb_S8192x128_S8192x128_0_0 y a).trans ?_
  match a with
  | 0 => exact Nat.zero_add _
  | 1 => exact Nat.zero_add _
omit [FloatOps F] in
theorem pK_read (f : Buf (Elt F) (pLoc d)) : (pK).view.read (Elt F) f = f := by
  funext y
  rw [show (pK).view.read (Elt F) f y = f ((pK).view.emb y) from (View.read_apply _ _).trans (cast_eq _ _)]
  congr 1
  funext a
  apply Fin.ext
  refine (ValueKit.view_emb_slice_whole_unit_val (main_v1_scv : Ref sig .scVector) ![0, 0] S8192x128.size inb_S8192x128_S8192x128_0_0 y a).trans ?_
  match a with
  | 0 => exact Nat.zero_add _
  | 1 => exact Nat.zero_add _

/-- The gathered rows, at an element of the task's block of a result: the row the whole list names there. -/
theorem payload_gval (hpre : PreOK ix) (t : S8192x128.Idx → Elt F .f32) (idx : S128.Idx → Elt F .i32) (hidx : idx = lst ix d L)
    (hn : S128.numel = S128x128.size gathers_S8192x128_S128x128.axis')
    (hin : ∀ x, (idx x : BitVec 32).toNat < S8192x128.size gathers_S8192x128_S128x128.axis) (x : S128x128.Idx) :
    SparseCore.gatherPayload gathers_S8192x128_S128x128 t (SparseCore.rows idx hn hin) x = gval t (ix d) ((oxK L).view.emb x) := by
  subst hidx
  unfold SparseCore.gatherPayload gval
  refine (congrArg t (gathers_idx _ x)).trans ?_
  congr 1
  funext a
  match a with
  | 0 =>
    apply Fin.ext
    refine (congrArg (fun j => (lst ix d L j : BitVec 32).toNat) (rowMajor_symm_128 (x 0) hn.symm)).trans ?_
    refine (congrArg BitVec.toNat ((lst_apply ix d L (ix1 (x 0))).trans (congrArg (ix d) (iK_emb L (x 0) x rfl)))).trans ?_
    exact (Nat.min_eq_left (by have := hpre d (ix1 (((oxK L).view.emb x) 0)); omega)).symm
  | 1 => exact Fin.ext (oxK_emb_val L x).2.symm

theorem ox_final (hpre : PreOK ix) (idx : S128.Idx → Elt F .i32) (hidx : idx = lst ix d L) (hn) (hin)
    (pay : S128x128.Idx → Elt F .f32)
    (hpay : pay = SparseCore.gatherPayload gathers_S8192x128_S128x128 ((xK).view.read (Elt F) (tx d)) (SparseCore.rows idx hn hin))
    (f : Buf (Elt F) (oxLoc d)) :
    ∀ y ∈ (oxK L).view.set, (oxK L).view.writes (Elt F) f [⟨Rect.whole S128x128, pay⟩] y = gval (tx d) (ix d) y := by
  intro y hy
  obtain ⟨x, -, rfl⟩ := Finset.mem_map.mp hy
  rw [View.writes_cons, View.writes_nil]
  have e : (oxK L).view.emb x = ((oxK L).view.slice (Rect.whole S128x128)).emb x :=
    congrArg (oxK L).view.emb (Rect.emb_whole_apply S128x128 x).symm
  refine (congrArg _ e).trans ?_
  refine (View.write_emb_of_mem _ _ (Finset.mem_univ x)).trans ((cast_eq _ _).trans ?_)
  rw [hpay, xK_read]
  exact payload_gval ix d L hpre (tx d) idx hidx hn hin x
theorem op_final (hpre : PreOK ix) (idx : S128.Idx → Elt F .i32) (hidx : idx = lst ix d L) (hn) (hin)
    (pay : S128x128.Idx → Elt F .f32)
    (hpay : pay = SparseCore.gatherPayload gathers_S8192x128_S128x128 ((pK).view.read (Elt F) (tp d)) (SparseCore.rows idx hn hin))
    (f : Buf (Elt F) (opLoc d)) :
    ∀ y ∈ (opK L).view.set, (opK L).view.writes (Elt F) f [⟨Rect.whole S128x128, pay⟩] y = gval (tp d) (ix d) y := by
  intro y hy
  obtain ⟨x, -, rfl⟩ := Finset.mem_map.mp hy
  rw [View.writes_cons, View.writes_nil]
  have e : (opK L).view.emb x = ((opK L).view.slice (Rect.whole S128x128)).emb x :=
    congrArg (opK L).view.emb (Rect.emb_whole_apply S128x128 x).symm
  refine (congrArg _ e).trans ?_
  refine (View.write_emb_of_mem _ _ (Finset.mem_univ x)).trans ((cast_eq _ _).trans ?_)
  rw [hpay, pK_read]
  exact payload_gval ix d L hpre (tp d) idx hidx hn hin x

end Tile

end Cert.Proof.GatherCall

end
-- ==== Proof.GatherBody.lean ====
/-
  The task of one tile of the SparseCore call runs to completion and leaves the rows named in its blocks of the results.
-/
module

public import proofs.«01_k».proof.Proof.GatherTile

@[expose] public section

noncomputable section

namespace Cert.Proof.GatherCall

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S8192x128 EltTy.f32)
local notation "pV" => (Memref.whole main_v1_scv : Memref sig Kind.scVector Space.hbm S8192x128 EltTy.f32)
local notation "iV" => (Memref.whole main_v2_scv : Memref sig Kind.scVector Space.hbm S4096 EltTy.i32)
local notation "oxV" => (Memref.whole main_v3_0_scv : Memref sig Kind.scVector Space.hbm S4096x128 EltTy.f32)
local notation "opV" => (Memref.whole main_v3_1_scv : Memref sig Kind.scVector Space.hbm S4096x128 EltTy.f32)
local notation "sV" => (Memref.whole cc0_scratch0 : Memref sig Kind.scVector Space.vmem S128 EltTy.i32)
local notation "rxV" => (Memref.whole cc0_scratch1 : Memref sig Kind.scVector Space.vmem S128x128 EltTy.f32)
local notation "rpV" => (Memref.whole cc0_scratch2 : Memref sig Kind.scVector Space.vmem S128x128 EltTy.f32)

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

section Tile

variable (d : Dev nD) (L : grid0.Coords)

/-- The row buffer, read back after its gather: what the gather brought. -/
theorem read_fetched_rows (fr : Buf (Elt F) ((V d (cV L) (jV L)).loc cc0_scratch1)) (pay : S128x128.Idx → Elt F .f32) :
    (rxV).view.read (Elt F) (View.write (Elt F) (rxV).view fr pay Finset.univ) = pay := by
  rw [View.write_whole_univ]; rfl
theorem read_fetched_rows' (fr : Buf (Elt F) ((V d (cV L) (jV L)).loc cc0_scratch2)) (pay : S128x128.Idx → Elt F .f32) :
    (rpV).view.read (Elt F) (View.write (Elt F) (rpV).view fr pay Finset.univ) = pay := by
  rw [View.write_whole_univ]; rfl

set_option maxHeartbeats 8000000 in
/-- The task on vector subcore `(L 0, L 1)` of device `d`: the fetch of its row numbers and its wait, the two gathers
    issued one after the other (each with half of the list), their waits, the two copies out and their waits. -/
theorem tile_body (hF : (K (F := F)).Facts) (hpre : PreOK ix) (O : CellTallies nD τ sig (HIx 1)) (W : Waits sig (HIx 1)) (hO : ∀ g, O g none = 0) :
    iprop(levAts (K (F := F)).L (K (F := F)).lev ∗ emp
        ∗ goP tx tp ix o0 o1 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) pV (Memref.isWhole_whole _) iV (Memref.isWhole_whole _)
            oxV (Memref.isWhole_whole _) opV (Memref.isWhole_whole _)
            sV (Memref.isWhole_whole _) rxV (Memref.isWhole_whole _) rpV (Memref.isWhole_whole _)
            cc0_scratch3 cc0_scratch4 cc0_scoped0 cc0_scoped1 cc0_scoped2)
          fun _ => iprop(tdP tx tp ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Hp, Hox, Hop⟩, ⟨⟨%fs, Hs⟩, ⟨%frx, Hrx⟩, ⟨%frp, Hrp⟩, Hbufs⟩, ⟨HsemX, HsemP, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hox' := (Entails.of_eq (pts_oxK (F := F) d L _).symm) $$ Hox
  ihave Hop' := (Entails.of_eq (pts_opK (F := F) d L _).symm) $$ Hop
  ihave Hx' := (Entails.of_eq (pts_xV (F := F) d L _ _).symm) $$ Hx
  ihave Hp' := (Entails.of_eq (pts_pV (F := F) d L _ _).symm) $$ Hp
  ihave Hs' := (Entails.of_eq (pts_sV (F := F) d L _ _).symm) $$ Hs
  ihave Hrx' := (Entails.of_eq (pts_rxV (F := F) d L _).symm) $$ Hrx
  ihave Hrp' := (Entails.of_eq (pts_rpV (F := F) d L _).symm) $$ Hrp
  sl_exec
  -- both gathers read the fetched list: half of it goes to each
  ihave Hxs := (pointsTo_split_subset (q := tq (wL L)) (f := tx d) (S := Finset.univ) (Finset.subset_univ (xK).view.set)).1 $$ Hx'
  icases Hxs with ⟨Hxs, Hxr⟩
  ihave Hps := (pointsTo_split_subset (q := tq (wL L)) (f := tp d) (S := Finset.univ) (Finset.subset_univ (pK).view.set)).1 $$ Hp'
  icases Hps with ⟨Hps, Hpr⟩
  have hrx : (rxV).view.set = Finset.univ := View.set_whole _
  have hrp : (rpV).view.set = Finset.univ := View.set_whole _
  have hss : (sV).view.set = Finset.univ := View.set_whole _
  ihave Hrx2 := (Entails.of_eq (show ((rxV).view.loc (V d (cV L) (jV L)) ↦{fullShare} frx : sProp 𝕄)
      = (rxV).view.loc (V d (cV L) (jV L)) ↦[(rxV).view.set]{fullShare} frx by rw [hrx])) $$ Hrx'
  ihave Hrp2 := (Entails.of_eq (show ((rpV).view.loc (V d (cV L) (jV L)) ↦{fullShare} frp : sProp 𝕄)
      = (rpV).view.loc (V d (cV L) (jV L)) ↦[(rpV).view.set]{fullShare} frp by rw [hrp])) $$ Hrp'
  ihave Hs2 := (Entails.of_eq (show ((sV).view.loc (V d (cV L) (jV L)) ↦{fullShare} View.write (Elt F) (sV).view fs (tile_body.sl.dma0 ix d L) Finset.univ : sProp 𝕄)
      = (sV).view.loc (V d (cV L) (jV L)) ↦[(sV).view.set]{fullShare} View.write (Elt F) (sV).view fs (tile_body.sl.dma0 ix d L) Finset.univ
      by rw [hss])) $$ Hs'
  ihave Hs3 := (pointsTo_share (PosShare.mem_left_op_right fullShare)).1 $$ Hs2
  icases Hs3 with ⟨HsL, HsR⟩
  have hN : ∀ h : S8192x128.Gathers 0 S128x128, ∑ j, ((rxV).slice (S128x128.rowRect h.axis' j) (S128x128.stride_rowRect h.axis' j)).view.dmaCredit
      = (rxV).view.dmaCredit := by decide
  have hN' : ∀ h : S8192x128.Gathers 0 S128x128, ∑ j, ((rpV).slice (S128x128.rowRect h.axis' j) (S128x128.stride_rowRect h.axis' j)).view.dmaCredit
      = (rpV).view.dmaCredit := by decide
  iapply (SparseCore.wp_indirectGatherLocal countersEmb 𝒱₀ (V d (cV L) (jV L)) none (hg := gathers_S8192x128_S128x128) (default : HIx 1)
      (rxV).view.dmaCredit (hN _) (by decide) (inb_of_pre ix d L hpre fs _ rfl)) $$ [Hxs Hrx2 HsL HsemX]
  · isplitl [Hxs]; · iexact Hxs
    isplitl [Hrx2]; · iexact Hrx2
    isplitl [HsL]; · iexact HsL
    iexact HsemX
  iintro HflX
  sl_exec
  iapply (SparseCore.wp_indirectGatherLocal countersEmb 𝒱₀ (V d (cV L) (jV L)) none (hg := gathers_S8192x128_S128x128) (default : HIx 1)
      (rpV).view.dmaCredit (hN' _) (by decide) (inb_of_pre ix d L hpre fs _ rfl)) $$ [Hps Hrp2 HsR HsemP]
  · isplitl [Hps]; · iexact Hps
    isplitl [Hrp2]; · iexact Hrp2
    isplitl [HsR]; · iexact HsR
    iexact HsemP
  iintro HflP
  sl_exec
  iapply (Transfers.wp_waitLocalO countersEmb 𝒱₀ (V d (cV L) (jV L)) none (default : HIx 1) (rfl : (rxV).view.dmaCredit = _)) $$ [HflX HO]
  · isplitl [HflX]; · iexact HflX
    isplitl [HO]; · iexact HO
    iapply (Transfers.MayWaits.elim (SemLoc.dma cc0_scratch3.sem)) $$ Hmw
  iintro ⟨⟨Hrx', Hxs, HsL⟩, HsemX, HO⟩
  sl_exec
  iapply (Transfers.wp_waitLocalO countersEmb 𝒱₀ (V d (cV L) (jV L)) none (default : HIx 1) (rfl : (rpV).view.dmaCredit = _)) $$ [HflP HO]
  · isplitl [HflP]; · iexact HflP
    isplitl [HO]; · iexact HO
    iapply (Transfers.MayWaits.elim (SemLoc.dma cc0_scratch4.sem)) $$ Hmw
  iintro ⟨⟨Hrp', Hps, HsR⟩, HsemP, HO⟩
  ihave Hx' := (pointsTo_split_subset (q := tq (wL L)) (f := tx d) (S := Finset.univ) (Finset.subset_univ (xK).view.set)).2 $$ [Hxs Hxr]; · isplitl [Hxs] <;> iassumption
  ihave Hp' := (pointsTo_split_subset (q := tq (wL L)) (f := tp d) (S := Finset.univ) (Finset.subset_univ (pK).view.set)).2 $$ [Hps Hpr]; · isplitl [Hps] <;> iassumption
  ihave Hs4 := (pointsTo_share (PosShare.mem_left_op_right fullShare)).2 $$ [HsL HsR]; · isplitl [HsL] <;> iassumption
  ihave Hrx3 := (Entails.of_eq (show ((rxV).view.loc (V d (cV L) (jV L)) ↦[(rxV).view.set]{fullShare} _ : sProp 𝕄)
      = (rxV).view.loc (V d (cV L) (jV L)) ↦{fullShare} _ by rw [hrx])) $$ Hrx'
  ihave Hrp3 := (Entails.of_eq (show ((rpV).view.loc (V d (cV L) (jV L)) ↦[(rpV).view.set]{fullShare} _ : sProp 𝕄)
      = (rpV).view.loc (V d (cV L) (jV L)) ↦{fullShare} _ by rw [hrp])) $$ Hrp'
  ihave Hs5 := (Entails.of_eq (show ((sV).view.loc (V d (cV L) (jV L)) ↦[(sV).view.set]{fullShare} _ : sProp 𝕄)
      = (sV).view.loc (V d (cV L) (jV L)) ↦{fullShare} _ by rw [hss])) $$ Hs4
  sl_exec
  sl_step
  isplitl [Hi' Hx' Hp' Hox' Hop']
  · isplitl [Hi']; · iapply (Entails.of_eq (pts_iK (F := F) d L _)); iexact Hi'
    isplitl [Hx']; · iexact Hx'
    isplitl [Hp']; · iexact Hp'
    isplitl [Hox']
    · iapply (Entails.of_eq (pts_oxK (F := F) d L _))
      iapply (Entails.of_eq (pointsTo_congr (ox_final tx ix d L hpre _ (read_fetched d L fs _) _ _ _ (read_fetched_rows d L frx _) _)))
      iexact Hox'
    · iapply (Entails.of_eq (pts_opK (F := F) d L _))
      iapply (Entails.of_eq (pointsTo_congr (op_final tp ix d L hpre _ (read_fetched d L fs _) _ _ _ (read_fetched_rows' d L frp _) _)))
      iexact Hop'
  isplitl [Hs5 Hrx3 Hrp3 Hbufs]
  · isplitl [Hs5]; · iexists _; iexact Hs5
    isplitl [Hrx3]; · iexists _; iexact Hrx3
    isplitl [Hrp3]; · iexists _; iexact Hrp3
    iexact Hbufs
  isplitl [HsemX HsemP HsemA HsemB HsemC Hsems]
  · isplitl [HsemX]; · iexact HsemX
    isplitl [HsemP]; · iexact HsemP
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherCall

end
-- ==== Proof.GatherCall.lean ====
/-
  The SparseCore call as the launch sees it: what each of its 32 tasks is handed and hands back, how the two tables,
  the list of row numbers and the two results split among them and join again, and each task's obligation.
-/
module

public import proofs.«01_k».proof.Proof.GatherBody

@[expose] public section

noncomputable section

namespace Cert.Proof.GatherCall

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S8192x128 EltTy.f32)
local notation "pV" => (Memref.whole main_v1_scv : Memref sig Kind.scVector Space.hbm S8192x128 EltTy.f32)
local notation "iV" => (Memref.whole main_v2_scv : Memref sig Kind.scVector Space.hbm S4096 EltTy.i32)
local notation "oxV" => (Memref.whole main_v3_0_scv : Memref sig Kind.scVector Space.hbm S4096x128 EltTy.f32)
local notation "opV" => (Memref.whole main_v3_1_scv : Memref sig Kind.scVector Space.hbm S4096x128 EltTy.f32)
local notation "sV" => (Memref.whole cc0_scratch0 : Memref sig Kind.scVector Space.vmem S128 EltTy.i32)
local notation "rxV" => (Memref.whole cc0_scratch1 : Memref sig Kind.scVector Space.vmem S128x128 EltTy.f32)
local notation "rpV" => (Memref.whole cc0_scratch2 : Memref sig Kind.scVector Space.vmem S128x128 EltTy.f32)

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

/-! ## What the handshakes carry -/

theorem nCore_zero : (K (F := F)).nCore 0 = 2 := rfl
theorem nSub_zero : (K (F := F)).nSub 0 = 16 := rfl

/-- The task's tile, of its core and subcore. -/
abbrev wT (c : Fin ((K (F := F)).nCore 0)) (i : Fin ((K (F := F)).nSub 0)) : Fin 32 := wid (Fin.cast nCore_zero c) (Fin.cast nSub_zero i)

/-- Each core is handed what its sixteen tasks take, and hands back what they leave. -/
def P : (K (F := F)).Pay (nD := nD) (Val := Elt F) (Name := ℕ) (U := UU) where
  st := fun q d c => match q with
    | 0 => bigSep Finset.univ fun i : Fin ((K (F := F)).nSub 0) => goP tx tp ix o0 o1 d (wT c i)
  dn := fun q d c => match q with
    | 0 => bigSep Finset.univ fun i : Fin ((K (F := F)).nSub 0) => tdP tx tp ix d (wT c i)
  go := fun q d c i => match q with
    | 0 => goP tx tp ix o0 o1 d (wT c i)
  td := fun q d c i => match q with
    | 0 => tdP tx tp ix d (wT c i)
  x := fun _ _ => iprop(emp)

instance P_storable : (P (F := F) tx tp ix o0 o1).IsStorable where
  st q d c := match q with
    | 0 => (inferInstance : BI.Storable (upEmb : UEmb _ 𝕄)
      (bigSep Finset.univ fun i : Fin ((K (F := F)).nSub 0) => goP tx tp ix o0 o1 d (wT c i)))
  dn q d c := match q with
    | 0 => (inferInstance : BI.Storable (upEmb : UEmb _ 𝕄)
      (bigSep Finset.univ fun i : Fin ((K (F := F)).nSub 0) => tdP tx tp ix d (wT c i)))
  go q d c i := match q with
    | 0 => (inferInstance : BI.Storable (upEmb : UEmb _ 𝕄) (goP tx tp ix o0 o1 d (wT c i)))
  td q d c i := match q with
    | 0 => (inferInstance : BI.Storable (upEmb : UEmb _ 𝕄) (tdP tx tp ix d (wT c i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) pV (Memref.isWhole_whole _) iV (Memref.isWhole_whole _)
          oxV (Memref.isWhole_whole _) opV (Memref.isWhole_whole _)
          sV (Memref.isWhole_whole _) rxV (Memref.isWhole_whole _) rpV (Memref.isWhole_whole _)
          cc0_scratch3 cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK ix) : (K (F := F)).TileObl (D (F := F)) 𝒱 (P tx tp ix o0 o1) v₀ 0 := by
  intro d c i O W hO _ _
  simp only [show (P tx tp ix o0 o1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tx tp ix o0 o1 d (coordsV ⟨_, hci.1⟩ ⟨_, hci.2⟩) hF hpre O W hO).trans (wp_mono frame _ _ fun _ => obl_post)

/-- A core's part of the call is its tasks' parts. -/
theorem vecSplit : (K (F := F)).VecSplit' (P tx tp ix o0 o1) 0 := by
  intro d c
  show (bigSep Finset.univ fun i : Fin ((K (F := F)).nSub 0) => goP tx tp ix o0 o1 d (wT c i)) ⊢ |={Set.univ}=> iprop(
      (bigSep Finset.univ fun i : Fin ((K (F := F)).nSub 0) => goP tx tp ix o0 o1 d (wT c i))
      ∗ ((bigSep Finset.univ fun i : Fin ((K (F := F)).nSub 0) => tdP tx tp ix d (wT c i))
          -∗ bigSep Finset.univ fun i : Fin ((K (F := F)).nSub 0) => tdP tx tp ix d (wT c i)))
  iintro H; imodintro
  isplitl [H]; · iexact H
  iintro H; iexact H

/-! ## The operands, split among the 32 tasks -/

omit [FloatOps F] in
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun i _ j _ h => Rect.part_disjoint idiv h,
    show (Finset.univ : Finset (Fin 32)).biUnion iSet = Finset.univ from Rect.biUnion_part idiv]; try rfl
omit [FloatOps F] in
theorem oxPts_blocks (d : Dev nD) (f : Buf (Elt F) (oxLoc d)) :
    (oxLoc d ↦{fullShare} f : sProp 𝕄) = bigSep Finset.univ fun w : Fin 32 => oxLoc d ↦[oSet w]{fullShare} f := by
  rw [← pointsTo_biUnion Finset.univ (ℓ := oxLoc d) oSet fun i _ j _ h => Rect.part_disjoint odiv h,
    show (Finset.univ : Finset (Fin 32)).biUnion oSet = Finset.univ from Rect.biUnion_part odiv]; try rfl
omit [FloatOps F] in
theorem opPts_blocks (d : Dev nD) (f : Buf (Elt F) (opLoc d)) :
    (opLoc d ↦{fullShare} f : sProp 𝕄) = bigSep Finset.univ fun w : Fin 32 => opLoc d ↦[oSet w]{fullShare} f := by
  rw [← pointsTo_biUnion Finset.univ (ℓ := opLoc d) oSet fun i _ j _ h => Rect.part_disjoint odiv h,
    show (Finset.univ : Finset (Fin 32)).biUnion oSet = Finset.univ from Rect.biUnion_part odiv]; try rfl

/-- The tiles, core by core. -/
def tiles : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- The five operands whole, the results at `o0` and `o1`, are the tasks' parts of them. -/
theorem parts_eq (d : Dev nD) :
    (bigSep Finset.univ fun c : Fin ((K (F := F)).nCore 0) => bigSep Finset.univ fun i : Fin ((K (F := F)).nSub 0) => goP tx tp ix o0 o1 d (wT c i))
      = (iprop((iLoc d ↦{fullShare} ix d) ∗ (xLoc d ↦{fullShare} tx d) ∗ (pLoc d ↦{fullShare} tp d)
          ∗ (oxLoc d ↦{fullShare} o0 d) ∗ (opLoc d ↦{fullShare} o1 d)) : sProp 𝕄) := by
  show (bigSep Finset.univ fun c : Fin 2 => bigSep Finset.univ fun i : Fin 16 => goP tx tp ix o0 o1 d (wid c i)) = _
  rw [← bigSep_univ_prod (fun p : Fin 2 × Fin 16 => goP tx tp ix o0 o1 d (wid p.1 p.2)),
    show (bigSep Finset.univ fun p : Fin 2 × Fin 16 => goP tx tp ix o0 o1 d (wid p.1 p.2))
      = bigSep Finset.univ fun w : Fin 32 => goP tx tp ix o0 o1 d w from
        (bigSep_univ_equiv tiles (fun w : Fin 32 => goP tx tp ix o0 o1 d w)).symm,
    bigSep_sep', bigSep_sep', bigSep_sep', bigSep_sep', ← iPts_blocks, ← oxPts_blocks, ← opPts_blocks,
    ← pointsTo_piecesOf Finset.univ (tx d) (by decide) fullShare, ← pointsTo_piecesOf Finset.univ (tp d) (by decide) fullShare]

theorem st0_eq (d : Dev nD) : (bigSep Finset.univ fun c : Fin ((K (F := F)).nCore 0) => (P tx tp ix o0 o1).st 0 d c)
    = (iprop((iLoc d ↦{fullShare} ix d) ∗ (xLoc d ↦{fullShare} tx d) ∗ (pLoc d ↦{fullShare} tp d)
          ∗ (oxLoc d ↦{fullShare} o0 d) ∗ (opLoc d ↦{fullShare} o1 d)) : sProp 𝕄) := parts_eq tx tp ix o0 o1 d
theorem dn0_eq (d : Dev nD) : (bigSep Finset.univ fun c : Fin ((K (F := F)).nCore 0) => (P tx tp ix o0 o1).dn 0 d c)
    = (iprop((iLoc d ↦{fullShare} ix d) ∗ (xLoc d ↦{fullShare} tx d) ∗ (pLoc d ↦{fullShare} tp d)
          ∗ (oxLoc d ↦{fullShare} gval (tx d) (ix d)) ∗ (opLoc d ↦{fullShare} gval (tp d) (ix d))) : sProp 𝕄) :=
  parts_eq tx tp ix (fun d => gval (tx d) (ix d)) (fun d => gval (tp d) (ix d)) d

end Cert.Proof.GatherCall

end
-- ==== Proof.GatherRun.lean ====
/-
  The run of the SparseCore call with its host code: the host reshapes, the call, and the reshapes of its results.
-/
module

public import proofs.«01_k».proof.Proof.GatherCall

@[expose] public section

noncomputable section

namespace Cert.Proof.GatherCall

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S8192x128 EltTy.f32)
local notation "pV" => (Memref.whole main_v1_scv : Memref sig Kind.scVector Space.hbm S8192x128 EltTy.f32)
local notation "iV" => (Memref.whole main_v2_scv : Memref sig Kind.scVector Space.hbm S4096 EltTy.i32)
local notation "oxV" => (Memref.whole main_v3_0_scv : Memref sig Kind.scVector Space.hbm S4096x128 EltTy.f32)
local notation "opV" => (Memref.whole main_v3_1_scv : Memref sig Kind.scVector Space.hbm S4096x128 EltTy.f32)
local notation "sV" => (Memref.whole cc0_scratch0 : Memref sig Kind.scVector Space.vmem S128 EltTy.i32)
local notation "rxV" => (Memref.whole cc0_scratch1 : Memref sig Kind.scVector Space.vmem S128x128 EltTy.f32)
local notation "rpV" => (Memref.whole cc0_scratch2 : Memref sig Kind.scVector Space.vmem S128x128 EltTy.f32)

open Idealize.ShloMosaic.StableHlo (held held_sub_split held_congr)

variable [FloatOps F]
variable (m : (ℓ : Loc nD τ sig) → Buf (Elt F) ℓ) (ρ : Dev nD → PrngReg)

/-! ## The contents of the arrays -/

abbrev bx : DevRef τ sig := Proc.devRef .tc (main_v0 : Ref sig .tc)
abbrev bp : DevRef τ sig := Proc.devRef .tc (main_v1 : Ref sig .tc)
abbrev bi : DevRef τ sig := Proc.devRef .tc (main_v2 : Ref sig .tc)
abbrev box : DevRef τ sig := Proc.devRef .tc (main_v3_0 : Ref sig .tc)
abbrev bop : DevRef τ sig := Proc.devRef .tc (main_v3_1 : Ref sig .tc)

/-- The host operations before the call, and after it. -/
abbrev opsA : List (HloOp τ sig (Elt F)) :=
  [StableHlo.reshape main_arg0 main_v0 (rfl : (.f32 : EltTy) = .f32) shapeCasts_S4x2048x128_S8192x128,
   StableHlo.reshape main_arg1 main_v1 (rfl : (.f32 : EltTy) = .f32) shapeCasts_S4x2048x128_S8192x128,
   StableHlo.reshape main_arg2 main_v2 (rfl : (.i32 : EltTy) = .i32) shapeCasts_S4x1x1024_S4096]
abbrev opsB : List (HloOp τ sig (Elt F)) :=
  [StableHlo.reshape main_v3_0 main_v4 (rfl : (.f32 : EltTy) = .f32) shapeCasts_S4096x128_S4x1024x128,
   StableHlo.reshape main_v3_1 main_v5 (rfl : (.f32 : EltTy) = .f32) shapeCasts_S4096x128_S4x1024x128]

/-- At the call, -/
def VA (d : Dev nD) : Valuation τ sig (Elt F) := StableHlo.after opsA (fun b => m (d, b))
abbrev ctx (d : Dev nD) : Buf (Elt F) (xLoc d) := VA m d bx
abbrev ctp (d : Dev nD) : Buf (Elt F) (pLoc d) := VA m d bp
abbrev cix (d : Dev nD) : Buf (Elt F) (iLoc d) := VA m d bi
abbrev co0 (d : Dev nD) : Buf (Elt F) (oxLoc d) := VA m d box
abbrev co1 (d : Dev nD) : Buf (Elt F) (opLoc d) := VA m d bop
/-- after it, -/
def VB (d : Dev nD) : Valuation τ sig (Elt F) :=
  Function.update (Function.update (VA m d) box (gval (ctx m d) (cix m d))) bop (gval (ctp m d) (cix m d))
/-- and at the end. -/
def VC (d : Dev nD) : Valuation τ sig (Elt F) := StableHlo.after opsB (VB m d)

/-- The call's five arrays. -/
abbrev S5 : Finset (DevRef τ sig) := {bi, bx, bp, box, bop}

theorem S5_sub : S5 ⊆ Pipeline.ucRefs τ sig := by
  intro b hb
  simp only [Finset.mem_insert, Finset.mem_singleton] at hb
  rcases hb with rfl | rfl | rfl | rfl | rfl <;> exact Finset.mem_filter.mpr ⟨StableHlo.devRef_mem_tcRefs _, by decide⟩

omit [FloatOps F] in
theorem held_S5 (d : Dev nD) (W : Valuation τ sig (Elt F)) :
    (held (T d) S5 W : sProp 𝕄) = iprop((iLoc d ↦{fullShare} W bi) ∗ (xLoc d ↦{fullShare} W bx) ∗ (pLoc d ↦{fullShare} W bp)
      ∗ (oxLoc d ↦{fullShare} W box) ∗ (opLoc d ↦{fullShare} W bop)) := by
  unfold held S5
  rw [SparseCore.bigSep_insert' (by decide), SparseCore.bigSep_insert' (by decide), SparseCore.bigSep_insert' (by decide),
    SparseCore.bigSep_insert' (by decide), bigSep_singleton]

theorem VB_i (d : Dev nD) : VB m d bi = cix m d := by
  unfold VB; rw [Function.update_of_ne (by decide), Function.update_of_ne (by decide)]
theorem VB_x (d : Dev nD) : VB m d bx = ctx m d := by
  unfold VB; rw [Function.update_of_ne (by decide), Function.update_of_ne (by decide)]
theorem VB_p (d : Dev nD) : VB m d bp = ctp m d := by
  unfold VB; rw [Function.update_of_ne (by decide), Function.update_of_ne (by decide)]
theorem VB_ox (d : Dev nD) : VB m d box = gval (ctx m d) (cix m d) := by
  unfold VB; rw [Function.update_of_ne (by decide), Function.update_self]
theorem VB_op (d : Dev nD) : VB m d bop = gval (ctp m d) (cix m d) := by
  unfold VB; rw [Function.update_self]
theorem VB_of_not_mem (d : Dev nD) {b : DevRef τ sig} (hb : b ∉ S5) : VB m d b = VA m d b := by
  unfold VB
  rw [Function.update_of_ne (fun h => hb (by rw [h]; decide)), Function.update_of_ne (fun h => hb (by rw [h]; decide))]

/-- Before the call the arrays are its operands and the rest; -/
theorem held_before (d : Dev nD) : (held (T d) (Pipeline.ucRefs τ sig) (VA m d) : sProp 𝕄)
    = iprop(((iLoc d ↦{fullShare} cix m d) ∗ (xLoc d ↦{fullShare} ctx m d) ∗ (pLoc d ↦{fullShare} ctp m d)
          ∗ (oxLoc d ↦{fullShare} co0 m d) ∗ (opLoc d ↦{fullShare} co1 m d)) ∗ held (T d) (Pipeline.ucRefs τ sig \ S5) (VA m d)) := by
  rw [held_sub_split (T d) S5_sub, held_S5]
/-- and after it, the two results at the rows gathered. -/
theorem held_after (d : Dev nD) : (held (T d) (Pipeline.ucRefs τ sig) (VB m d) : sProp 𝕄)
    = iprop(((iLoc d ↦{fullShare} cix m d) ∗ (xLoc d ↦{fullShare} ctx m d) ∗ (pLoc d ↦{fullShare} ctp m d)
          ∗ (oxLoc d ↦{fullShare} gval (ctx m d) (cix m d)) ∗ (opLoc d ↦{fullShare} gval (ctp m d) (cix m d)))
        ∗ held (T d) (Pipeline.ucRefs τ sig \ S5) (VA m d)) := by
  rw [held_sub_split (T d) S5_sub, held_S5, VB_i, VB_x, VB_p, VB_ox, VB_op,
    held_congr (T d) fun b hb => VB_of_not_mem m d (Finset.mem_sdiff.mp hb).2]

/-! ## @main -/

abbrev PP : (K (F := F)).Pay (nD := nD) (Val := Elt F) (Name := ℕ) (U := UU) := P (ctx m) (ctp m) (cix m) (co0 m) (co1 m)

/-- What @main leaves the claim: the arrays, at their final contents. -/
abbrev FIN (d : Dev nD) : sProp 𝕄 := held (T d) (Pipeline.ucRefs τ sig) (VC m d)

theorem main_eq (d : Dev nD) : main (F := F) d = (do
    StableHlo.seq opsA
    sc.run d 0
    StableHlo.seq opsB
    pure ⟨⟩) := by
  simp only [main, opsA, opsB, StableHlo.seq, bind_assoc, pure_bind]

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (fun b => m (d, b))
    from Pipeline.unscopedBufs_held d (fun b => m (d, b)), main_eq]
  iintro ⟨#Hctx, Hst, ⟨Hb, Hheld, Hts, -⟩, -⟩
  iapply (StableHlo.wp_seq 𝒱 none Set.univ d (Pipeline.ucRefs τ sig) _ opsA (by
      intro op hop; simp only [List.mem_cons, List.not_mem_nil, or_false] at hop
      rcases hop with rfl | rfl | rfl <;> exact Pipeline.sub_ucRefs _ (by simp)) (by
      intro op hop; simp only [List.mem_cons, List.not_mem_nil, or_false] at hop
      rcases hop with rfl | rfl | rfl <;> rfl) (fun b => m (d, b))) $$ [Hb Hheld]
  · isplitl [Hb] <;> iassumption
  iintro ⟨Hb, Hheld⟩
  ihave Hh := (show (held (d.tc : Thread nD τ) (Pipeline.ucRefs τ sig) (StableHlo.after opsA fun b => m (d, b)) : sProp 𝕄) ⊢ _ from
    Entails.of_eq (held_before m d)) $$ Hheld
  icases Hh with ⟨Hops, Hrest⟩
  rw [wp_bind]
  iapply ((K (F := F)).wp_run (D (F := F)) 𝒱 (EH := EH) (P := PP m) κ d 0) $$ [Hst Hops Hb Hrest Hts]
  isplitr; · iexact Hctx
  isplitl [Hst]; · iexact Hst
  isplitl [Hops]
  · rw [st0_eq]; iexact Hops
  iintro ⟨Hst, Hdn⟩
  ihave Hdn' := (Entails.of_eq (dn0_eq (ctx m) (ctp m) (cix m) (co0 m) (co1 m) d)) $$ Hdn
  iapply (StableHlo.wp_seq 𝒱 none Set.univ d (Pipeline.ucRefs τ sig) _ opsB (by
      intro op hop; simp only [List.mem_cons, List.not_mem_nil, or_false] at hop
      rcases hop with rfl | rfl <;> exact Pipeline.sub_ucRefs _ (by simp)) (by
      intro op hop; simp only [List.mem_cons, List.not_mem_nil, or_false] at hop
      rcases hop with rfl | rfl <;> rfl) (VB m d)) $$ [Hb Hdn' Hrest]
  · isplitl [Hb]; · iexact Hb
    rw [held_after]
    isplitl [Hdn']; · iexact Hdn'
    iexact Hrest
  iintro ⟨Hb, Hheld⟩
  rw [wp_pure]; imodintro
  isplitl [Hst]; · iexact Hst
  isplitl [Hheld]; · iexact Hheld
  isplitl [Hb] <;> iassumption

/-! ## The final memory -/

def fq (d : Dev nD) (s' : Phys nD τ sig (Elt F)) : Prop := ∀ b ∈ Pipeline.ucRefs τ sig, s'.mem.mem (d, b) = VC m d b

omit [FloatOps F] in
/-- Arrays held at a valuation are at it in memory. -/
theorem held_agree (d : Dev nD) (s' : Phys nD τ sig (Elt F)) (V : Valuation τ sig (Elt F)) (S : Finset (DevRef τ sig)) :
    iprop(held (T d) S V ∗ SI s') ⊢ (⌜∀ b ∈ S, s'.mem.mem (d, b) = V b⌝ : sProp 𝕄) := by
  induction S using Finset.induction_on with
  | empty => iintro -; ipureintro; exact fun b hb => absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := V a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m d ∗ SI s') ⊢ (⌜fq m d s'⌝ : sProp 𝕄) :=
  held_agree d s' (VC m d) _

/-! ## The run -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- Every array ends at its final contents, every semaphore at zero. -/
def QC : PUnit × MemSt nD τ sig (Elt F) → Prop := fun r =>
  (∀ c : Dev nD, ∀ b ∈ Pipeline.ucRefs τ sig, r.2.mem (c, b) = VC m c b) ∧ r.2.sem = fun _ => 0

theorem run_main [∀ e, Nonempty (Elt F e)] (hpre : PreOK (cix m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ctx m) (ctp m) (cix m) (co0 m) (co1 m) facts hpre)
    (fun q _ => match q with | 0 => SparseCore.Cfg.VecSplit.of_plain (vecSplit (ctx m) (ctp m) (cix m) (co0 m) (co1 m)))
    m ρ main (fun _ => iprop(emp)) (FIN m) (u₀ (F := F)) (sep_elim_left.trans (hu₀ m)) (hmain m ρ) (fq m) (hfin m) (QC m) (fun _ h hz => ⟨h, hz⟩)

end Cert.Proof.GatherCall

end
-- ==== Proof.GatherClaims.lean ====
/-
  The claims on the SparseCore call alone: it runs and leaves its arguments, and over the extended reals its two results
  are the reference's, whose two gathers take the same rows.
-/
module

public import proofs.«01_k».proof.Proof.GatherRun
public import proofs.«01_k».proof.Proof.Gen.Gather
public import proofs.«01_k».proof.Proof.Gen.Pre_ids_in_range
public import proofs.«01_k».proof.Proof.Gen.GatherReferenceIdeal.Run
public import Idealize.ShloMosaic.Lib.ReduceAll
public import Idealize.ShloMosaic.Lib.WordCmp
public import Idealize.ShloMosaic.Lib.ValueIdx

@[expose] public section

noncomputable section

namespace Cert.Proof.GatherCall

open Cert.GatherIdeal Cert.GatherIdeal.Gen
open Idealize.ShloMosaic Idealize.ShloMosaic.TcCoe Idealize.ShloMosaic.StableHlo Idealize.ShloMosaic.ValueIdx
open Idealize.SL Idealize.SL.Sem
open Pipeline (ucRefs)

variable {F : FTy → Type} [FloatOps F]

/-! ## A gather of rows -/

section Rows
variable {α : Type} {N C B w : Nat}

/-- A gather of whole rows of `[N, C]`, by `[B, 1]` row numbers. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem gather_rows_apply (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx) :
    Host.gather (rowDims N C B wf) x idx y
      = x (ix2 ⟨min (idx (ix2 (y 0) ⟨0, Nat.one_pos⟩)).toInt.toNat (N - 1), by omega⟩ (y 1)) := by
  unfold Host.gather
  congr 1
  funext a
  refine Fin.ext ?_
  show (rowDims N C B wf).start y idx a + (rowDims N C B wf).batchCoord y a + (rowDims N C B wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx y ⟨List.idxOf (0 : Fin 2) (rowDims N C B wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  · have h1 : (rowDims N C B wf).start y idx 1 = 0 := by
      unfold GatherDims.start
      rw [dif_neg (by simp)]
    rw [h1]
    simp only [Nat.zero_add, Nat.add_zero]
    unfold GatherDims.offCoord
    rw [dif_pos (by rw [GatherDims.mem_sKept]; simp)]
    rfl

end Rows

/-! ## The arrays at the call, and the results -/

section Values
variable (m : (ℓ : Loc nD τ sig) → Buf (Elt F) ℓ)

abbrev a0 (d : Dev nD) := m ((d.tc : Thread nD τ).loc main_arg0)
abbrev a1 (d : Dev nD) := m ((d.tc : Thread nD τ).loc main_arg1)
abbrev a2 (d : Dev nD) := m ((d.tc : Thread nD τ).loc main_arg2)

theorem ctx_eq (d : Dev nD) : ctx m d = shapeCast _ (a0 m d) shapeCasts_S4x2048x128_S8192x128 := by
  unfold ctx VA; after_results <;> rfl
theorem ctp_eq (d : Dev nD) : ctp m d = shapeCast _ (a1 m d) shapeCasts_S4x2048x128_S8192x128 := by
  unfold ctp VA; after_results <;> rfl
theorem cix_eq (d : Dev nD) : cix m d = shapeCast _ (a2 m d) shapeCasts_S4x1x1024_S4096 := by
  unfold cix VA; after_results <;> rfl
theorem VC_v4 (d : Dev nD) : VC m d (Proc.devRef .tc main_v4) = shapeCast _ (gval (ctx m d) (cix m d)) shapeCasts_S4096x128_S4x1024x128 := by
  unfold VC; after_results
  · rw [VB_ox]; rfl
theorem VC_v5 (d : Dev nD) : VC m d (Proc.devRef .tc main_v5) = shapeCast _ (gval (ctp m d) (cix m d)) shapeCasts_S4096x128_S4x1024x128 := by
  unfold VC; after_results
  · rw [VB_op]; rfl
theorem VC_a0 (d : Dev nD) : VC m d (Proc.devRef .tc main_arg0) = a0 m d := by
  unfold VC; after_results; rw [VB_of_not_mem m d (by decide)]; unfold VA; after_results
theorem VC_a1 (d : Dev nD) : VC m d (Proc.devRef .tc main_arg1) = a1 m d := by
  unfold VC; after_results; rw [VB_of_not_mem m d (by decide)]; unfold VA; after_results
theorem VC_a2 (d : Dev nD) : VC m d (Proc.devRef .tc main_arg2) = a2 m d := by
  unfold VC; after_results; rw [VB_of_not_mem m d (by decide)]; unfold VA; after_results

/-- Row numbers in range of the precondition's reading are in range at the call. -/
theorem pre_ok (h : ∀ d, ∀ j, (a2 m d j : BitVec 32).toNat < 8192) : PreOK (cix m) := by
  intro d j
  rw [cix_eq]
  exact h d _

end Values

/-- The precondition is that every row number lies in `[0, 8192)`. -/
theorem ids_of_pre (x y : FVec F Cert.Pre_ids_in_range.S4x2048x128 .f32) (i : IVec Cert.Pre_ids_in_range.S4x1x1024 32)
    (h : Cert.Pre_ids_in_range.fn (F := F) x y i = fun _ => 1#1) (j : Cert.Pre_ids_in_range.S4x1x1024.Idx) : (i j).toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 8192#32) = 1#1 → v.toNat < 8192 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  exact key _ (Host.reduce_andi_all _ _ _ _ _ e j)

/-- A gather of rows of a table `[8192, 128]`, at row numbers in range, takes the rows named. -/
theorem gather_eq_gval {α : Type} (x : S8192x128.Idx → α) (i : S4096.Idx → BitVec 32) (hi : ∀ j, (i j).toNat < 8192) :
    Host.gather Cert.GatherReferenceIdeal.gather_S8192x128_S4096x1_S4096x128_1_0_n_n_0_1_1128 x
      (broadcastInDim Cert.GatherReferenceIdeal.S4096x1 ![0] Cert.GatherReferenceIdeal.Gen.facts.bcast_S4096_S4096x1_0 i) = gval x i := by
  funext y
  refine (gather_rows_apply (by decide) _ x _ y).trans ?_
  have hb : broadcastInDim Cert.GatherReferenceIdeal.S4096x1 ![0] Cert.GatherReferenceIdeal.Gen.facts.bcast_S4096_S4096x1_0 i
      (ix2 (y 0) ⟨0, Nat.one_pos⟩) = i (ix1 (y 0)) := by
    refine broadcastInDim_apply _ _ i _ (ix1 (y 0)) fun a => ?_
    obtain rfl : a = 0 := Subsingleton.elim _ _; rfl
  unfold gval
  congr 1
  have hn := hi (ix1 (y 0))
  have ht : (i (ix1 (y 0))).toInt.toNat = (i (ix1 (y 0))).toNat := by
    rw [BitVec.toInt_eq_toNat_cond, if_pos (by omega), Int.toNat_natCast]
  refine congrArg (fun a => ix2 a (y 1)) (Fin.ext ?_)
  show min _ _ = min _ _
  rw [hb, ht]

/-! ## The claims -/

theorem idsIdeal (m : (ℓ : Loc nD τ sig) → Buf (Elt Ideal) ℓ) (h : Cert.Pre_GatherIdeal m) : ∀ d j, (a2 m d j : BitVec 32).toNat < 8192 :=
  fun d j => ids_of_pre _ _ _ (h d) j
theorem idsBits (m : (ℓ : Loc nD τ sig) → Buf (Elt Bits) ℓ) (h : Cert.Pre_Gather m) : ∀ d j, (a2 m d j : BitVec 32).toNat < 8192 :=
  fun d j => ids_of_pre _ _ _ (h d) j

theorem mem_uc {b : Ref sig .tc} (h : b.isScoped = false) : (Proc.devRef .tc b : DevRef τ sig) ∈ ucRefs τ sig :=
  Finset.mem_filter.mpr ⟨devRef_mem_tcRefs b, by rw [Proc.isScoped_devRef, h]; exact Bool.false_ne_true⟩

/-- The run's results and arguments. -/
theorem run_values [∀ e, Nonempty (Elt F e)] (m : (ℓ : Loc nD τ sig) → Buf (Elt F) ℓ) (ρ : Dev nD → PrngReg)
    (h : ∀ d j, (a2 m d j : BitVec 32).toNat < 8192) :
    θ_run (Cert.GatherIdeal.defs (F := F)) (Cert.GatherIdeal.threads (F := F)) ⟨m, fun _ => 0, ρ⟩ fun r => (∀ c : Dev nD,
      r.2.mem ((c.tc : Thread nD τ).loc main_v4) = shapeCast _ (gval (ctx m c) (cix m c)) shapeCasts_S4096x128_S4x1024x128
      ∧ r.2.mem ((c.tc : Thread nD τ).loc main_v5) = shapeCast _ (gval (ctp m c) (cix m c)) shapeCasts_S4096x128_S4x1024x128
      ∧ r.2.mem ((c.tc : Thread nD τ).loc main_arg0) = a0 m c ∧ r.2.mem ((c.tc : Thread nD τ).loc main_arg1) = a1 m c
      ∧ r.2.mem ((c.tc : Thread nD τ).loc main_arg2) = a2 m c) ∧ r.2.sem = fun _ => 0 :=
  (θ_run Cert.GatherIdeal.defs _ _).mono (fun _ h => ⟨fun c =>
    ⟨(h.1 c _ (mem_uc (b := main_v4) rfl)).trans (VC_v4 m c), (h.1 c _ (mem_uc (b := main_v5) rfl)).trans (VC_v5 m c),
     (h.1 c _ (mem_uc (b := main_arg0) rfl)).trans (VC_a0 m c), (h.1 c _ (mem_uc (b := main_arg1) rfl)).trans (VC_a1 m c),
     (h.1 c _ (mem_uc (b := main_arg2) rfl)).trans (VC_a2 m c)⟩, h.2⟩) (run_main m ρ (pre_ok m h))

theorem frame_gatherIdeal : Cert.quiescent_GatherIdeal := fun m ρ h =>
  (θ_run Cert.GatherIdeal.defs _ _).mono (fun _ h => ⟨fun c => (h.1 c).2.2, h.2⟩) (run_values m ρ (idsIdeal m h))
theorem frame_gather : Cert.quiescent_Gather := fun m ρ h =>
  (θ_run Cert.GatherIdeal.defs _ _).mono (fun _ h => ⟨fun c => (h.1 c).2.2, h.2⟩) (run_values (F := Bits) m ρ (idsBits m h))

theorem algebraic_gather : Cert.algebraic_GatherIdeal_GatherReferenceIdeal := by
  intro m ρ m' ρ' hp he
  have hi := idsIdeal m hp
  refine ⟨fun c => shapeCast _ (gval (ctx m c) (cix m c)) shapeCasts_S4096x128_S4x1024x128,
    fun c => shapeCast _ (gval (ctp m c) (cix m c)) shapeCasts_S4096x128_S4x1024x128,
    (θ_run Cert.GatherIdeal.defs _ _).mono (fun _ h => h.1) (run_values m ρ hi), ?_⟩
  refine (θ_run Cert.GatherReferenceIdeal.defs _ _).mono (fun r h c => ?_) (Cert.GatherReferenceIdeal.Value.run m' ρ')
  obtain ⟨h5, h6, h0, h1, h2⟩ := h c
  obtain ⟨e0, e1, e2⟩ := he c
  have hk : ∀ j, (cix m c j).toNat < 8192 := pre_ok m hi c
  refine ⟨h5.trans ?_, h6.trans ?_, h0, h1, h2⟩
  · have E := gather_eq_gval (ctx m c) (cix m c) hk
    rw [ctx_eq, cix_eq] at E
    rw [e0, e2]; show _ = shapeCast _ (gval (ctx m c) (cix m c)) _
    rw [ctx_eq, cix_eq]
    exact congrArg (fun t => shapeCast _ t shapeCasts_S4096x128_S4x1024x128) E
  · have E := gather_eq_gval (ctp m c) (cix m c) hk
    rw [ctp_eq, cix_eq] at E
    rw [e1, e2]; show _ = shapeCast _ (gval (ctp m c) (cix m c)) _
    rw [ctp_eq, cix_eq]
    exact congrArg (fun t => shapeCast _ t shapeCasts_S4096x128_S4x1024x128) E

end Cert.Proof.GatherCall

end
-- ==== Proof.WholeSetup.lean ====
/-
  The whole kernel as the launch theorem sees it: its label types, body table, and resource algebra (the handshakes'
  rounds, the TensorCore pipeline's rounds, the transfers' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipeline's part of the resource algebra, beside the handshakes' and the transfers' counters. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds, embedded. -/
def EP : Emb UP (MT nD τ sig (HIx 1) (Elt F) ℕ UU ℕ) :=
  (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.Whole

end
-- ==== Proof.WholeTile.lean ====
/-
  One tile's task of the SparseCore call: it copies its 128 row numbers, streams those rows of the two tables into
  its two row buffers at once, and copies the buffers out to its blocks of the two results.

  The triple `tile_body` says what the task leaves: in its block of each result, the rows of that result's table that
  its row numbers name (`gval`). The contents of the tables (`tx`, `tp`), of the list of row numbers (`ix`) and of
  the results before the call (`o0`, `o1`) are parameters.
-/
module

public import proofs.«01_k».proof.Proof.WholeSetup

@[expose] public section

noncomputable section

namespace Cert.Proof.Whole

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

abbrev xLoc (d : Dev nD) : Loc nD τ sig := (SparseCore.T d).loc main_v14
abbrev pLoc (d : Dev nD) : Loc nD τ sig := (SparseCore.T d).loc main_v15
abbrev iLoc (d : Dev nD) : Loc nD τ sig := (SparseCore.T d).loc main_v16
abbrev oxLoc (d : Dev nD) : Loc nD τ sig := (SparseCore.T d).loc main_v17_0
abbrev opLoc (d : Dev nD) : Loc nD τ sig := (SparseCore.T d).loc main_v17_1

local notation "xV" => (Memref.whole main_v14_scv : Memref sig Kind.scVector Space.hbm S8192x128 EltTy.f32)
local notation "pV" => (Memref.whole main_v15_scv : Memref sig Kind.scVector Space.hbm S8192x128 EltTy.f32)
local notation "iV" => (Memref.whole main_v16_scv : Memref sig Kind.scVector Space.hbm S4096 EltTy.i32)
local notation "oxV" => (Memref.whole main_v17_0_scv : Memref sig Kind.scVector Space.hbm S4096x128 EltTy.f32)
local notation "opV" => (Memref.whole main_v17_1_scv : Memref sig Kind.scVector Space.hbm S4096x128 EltTy.f32)
local notation "sV" => (Memref.whole cc1_scratch0 : Memref sig Kind.scVector Space.vmem S128 EltTy.i32)
local notation "rxV" => (Memref.whole cc1_scratch1 : Memref sig Kind.scVector Space.vmem S128x128 EltTy.f32)
local notation "rpV" => (Memref.whole cc1_scratch2 : Memref sig Kind.scVector Space.vmem S128x128 EltTy.f32)

/-- The 32 tiles' blocks: 128 row numbers each, and the 128 rows of the results that they are for. -/
theorem idiv : 32 ∣ S4096.size 0 := ⟨128, rfl⟩
theorem odiv : 32 ∣ S4096x128.size 0 := ⟨128, rfl⟩
abbrev iblkR (w : Fin 32) : Rect S4096 := Rect.part (s := S4096) (a₀ := 0) idiv w
abbrev oblkR (w : Fin 32) : Rect S4096x128 := Rect.part (s := S4096x128) (a₀ := 0) odiv w
abbrev iSet (w : Fin 32) : Finset S4096.Idx := (iblkR w).set
abbrev oSet (w : Fin 32) : Finset S4096x128.Idx := (oblkR w).set

/-- Tile `w`'s share of a table: every tile reads all of it. -/
abbrev tq (w : Fin 32) : PosShare TreeShare := pieceOf fullShare 32 (by decide) w

/-- The rows of a table that a list of row numbers names: row `r` of the result is row `ix r` of the table (the last
    row where the number is past it). -/
def gval {α : Type} (t : S8192x128.Idx → α) (ix : S4096.Idx → BitVec 32) : S4096x128.Idx → α :=
  fun y => t (ix2 ⟨min (ix (ix1 (y 0))).toNat 8191, by change _ < 8192; omega⟩ (y 1))

/-- The word's place among 32 tiles of core `c` and subcore `i`. -/
abbrev wid (c : Fin 2) (i : Fin 16) : Fin 32 := ⟨2 * i.val + c.val, by omega⟩

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

/-- What the tasks ask of the row numbers: each names a row of the tables. -/
def PreOK : Prop := ∀ (d : Dev nD) (j : S4096.Idx), (ix d j : BitVec 32).toNat < 8192

/-- What tile `w` is handed. -/
abbrev goP (d : Dev nD) (w : Fin 32) : sProp 𝕄 :=
  iprop((iLoc d ↦[iSet w]{fullShare} ix d) ∗ (xLoc d ↦{tq w} tx d) ∗ (pLoc d ↦{tq w} tp d)
    ∗ (oxLoc d ↦[oSet w]{fullShare} o0 d) ∗ (opLoc d ↦[oSet w]{fullShare} o1 d))
/-- What it hands back: the same, its blocks of the results holding the rows named. -/
abbrev tdP (d : Dev nD) (w : Fin 32) : sProp 𝕄 :=
  goP tx tp ix (fun d => gval (tx d) (ix d)) (fun d => gval (tp d) (ix d)) d w

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev wL (L : grid1.Coords) : Fin 32 := wid (Fin.cast bound_zero (L 0)) (Fin.cast bound_one (L 1))

abbrev irowK (L : grid1.Coords) : Rect S4096 := Rect.unit (s := S4096) (k1_off1 L) S128.size (k1_off1_inb L)
abbrev orowK (L : grid1.Coords) : Rect S4096x128 := Rect.unit (s := S4096x128) (k1_off2 L) S128x128.size (k1_off2_inb L)
abbrev iK (L : grid1.Coords) : Memref sig .scVector .hbm S128 .i32 := (iV).slice (irowK L) (fun _ => rfl)
abbrev oxK (L : grid1.Coords) : Memref sig .scVector .hbm S128x128 .f32 := (oxV).slice (orowK L) (fun _ => rfl)
abbrev opK (L : grid1.Coords) : Memref sig .scVector .hbm S128x128 .f32 := (opV).slice (orowK L) (fun _ => rfl)
abbrev allR : Rect S8192x128 := Rect.unit (s := S8192x128) ![0, 0] S8192x128.size inb_S8192x128_S8192x128_0_0
abbrev xK : Memref sig .scVector .hbm S8192x128 .f32 := (xV).slice allR (fun _ => rfl)
abbrev pK : Memref sig .scVector .hbm S8192x128 .f32 := (pV).slice allR (fun _ => rfl)

omit [FloatOps F] in
theorem irowK_eq : irowK L = iblkR (wL L) := by
  unfold irowK iblkR Rect.part Rect.block
  congr 1 <;> funext a
  · rw [k1_off1_eq]
    match a with
    | 0 =>
      show 256 * (L 1).val + 128 * (L 0).val = (2 * (L 1).val + (L 0).val) * 128
      omega
  · match a with
    | 0 => simp [Shape.partSize]
omit [FloatOps F] in
theorem orowK_eq : orowK L = oblkR (wL L) := by
  unfold orowK oblkR Rect.part Rect.block
  congr 1 <;> funext a
  · rw [k1_off2_eq]
    match a with
    | 0 =>
      show 256 * (L 1).val + 128 * (L 0).val = (2 * (L 1).val + (L 0).val) * 128
      omega
    | 1 => simp [Shape.partIx, Shape.partSize]
  · match a with
    | 0 => simp [Shape.partSize]
    | 1 => simp [Shape.partSize]

omit [FloatOps F] in
theorem set_iK : (iK L).view.set = iSet (wL L) := by
  show ((View.whole (main_v16_scv : Ref sig .scVector)).slice (irowK L)).set = _
  rw [View.set_slice, irowK_eq]; exact Finset.map_refl
omit [FloatOps F] in
theorem set_oxK : (oxK L).view.set = oSet (wL L) := by
  show ((View.whole (main_v17_0_scv : Ref sig .scVector)).slice (orowK L)).set = _
  rw [View.set_slice, orowK_eq]; exact Finset.map_refl
omit [FloatOps F] in
theorem set_opK : (opK L).view.set = oSet (wL L) := by
  show ((View.whole (main_v17_1_scv : Ref sig .scVector)).slice (orowK L)).set = _
  rw [View.set_slice, orowK_eq]; exact Finset.map_refl

omit [FloatOps F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]
omit [FloatOps F] in
theorem pts_oxK (f : Buf (Elt F) (oxLoc d)) :
    ((oxK L).view.loc (V d (cV L) (jV L)) ↦[(oxK L).view.set]{fullShare} f : sProp 𝕄) = oxLoc d ↦[oSet (wL L)]{fullShare} f := by
  rw [set_oxK]
omit [FloatOps F] in
theorem pts_opK (f : Buf (Elt F) (opLoc d)) :
    ((opK L).view.loc (V d (cV L) (jV L)) ↦[(opK L).view.set]{fullShare} f : sProp 𝕄) = opLoc d ↦[oSet (wL L)]{fullShare} f := by
  rw [set_opK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_pV (q : PosShare TreeShare) (f : Buf (Elt F) (pLoc d)) :
    ((pV).view.loc (V d (cV L) (jV L)) ↦{q} f : sProp 𝕄) = pLoc d ↦{q} f := rfl
omit [FloatOps F] in
theorem pts_sV (q : PosShare TreeShare) (f : Buf (Elt F) ((V d (cV L) (jV L)).loc cc1_scratch0)) :
    ((sV).view.loc (V d (cV L) (jV L)) ↦{q} f : sProp 𝕄) = (V d (cV L) (jV L)).loc cc1_scratch0 ↦{q} f := rfl
omit [FloatOps F] in
theorem pts_rxV (f : Buf (Elt F) ((V d (cV L) (jV L)).loc cc1_scratch1)) :
    ((rxV).view.loc (V d (cV L) (jV L)) ↦{fullShare} f : sProp 𝕄) = (V d (cV L) (jV L)).loc cc1_scratch1 ↦{fullShare} f := rfl
omit [FloatOps F] in
theorem pts_rpV (f : Buf (Elt F) ((V d (cV L) (jV L)).loc cc1_scratch2)) :
    ((rpV).view.loc (V d (cV L) (jV L)) ↦{fullShare} f : sProp 𝕄) = (V d (cV L) (jV L)).loc cc1_scratch2 ↦{fullShare} f := rfl

/-! ### The task's semaphores and scratch among its own -/

abbrev cell (s : DmaSem sig) (d : Dev nD) (c : Fin τ.nSC) (i : Fin τ.nSub) : GSem nD τ sig := (V d c i, .dma s)

/-- The five semaphores of the task. -/
abbrev sems5 : List (DmaSem sig) := [cc1_scratch3.sem, cc1_scratch4.sem, cc1_scoped0.sem, cc1_scoped1.sem, cc1_scoped2.sem]

omit [FloatOps F] in
theorem cell_mem (s : DmaSem sig) (hs : (SemLoc.dma s : SemLoc sig).isScoped .scVector = true) :
    cell s d (cV L) (jV L) ∈ ownCells (V d (cV L) (jV L)) := mem_ownCells.mpr ⟨rfl, hs⟩
omit [FloatOps F] in
theorem cell_ne {s s' : DmaSem sig} (h : s ≠ s') : cell s d (cV L) (jV L) ≠ cell s' d (cV L) (jV L) := fun e => by
  have e2 := congrArg Prod.snd e
  simp only [cell] at e2
  exact h (by injection e2)

abbrev restCells (d : Dev nD) (L : grid1.Coords) : Finset (GSem nD τ sig) :=
  (((((ownCells (V d (cV L) (jV L))).erase (cell cc1_scratch3.sem d (cV L) (jV L))).erase (cell cc1_scratch4.sem d (cV L) (jV L))).erase
    (cell cc1_scoped0.sem d (cV L) (jV L))).erase (cell cc1_scoped1.sem d (cV L) (jV L))).erase (cell cc1_scoped2.sem d (cV L) (jV L))

omit [FloatOps F] in
theorem ownSems0_V :
    (ownSems0 (V d (cV L) (jV L)) : sProp 𝕄)
      = iprop(semVal (cell cc1_scratch3.sem d (cV L) (jV L)) 0 ∗ semVal (cell cc1_scratch4.sem d (cV L) (jV L)) 0
          ∗ semVal (cell cc1_scoped0.sem d (cV L) (jV L)) 0 ∗ semVal (cell cc1_scoped1.sem d (cV L) (jV L)) 0
          ∗ semVal (cell cc1_scoped2.sem d (cV L) (jV L)) 0 ∗ bigSep (restCells d L) fun g => semVal g 0) := by
  unfold SparseCore.Cfg.ownSems0
  rw [SparseCore.bigSep_erase' (cell_mem d L cc1_scratch3.sem (by decide)),
    SparseCore.bigSep_erase' (Finset.mem_erase.mpr ⟨cell_ne d L (by decide), cell_mem d L cc1_scratch4.sem (by decide)⟩),
    SparseCore.bigSep_erase' (Finset.mem_erase.mpr ⟨cell_ne d L (by decide), Finset.mem_erase.mpr ⟨cell_ne d L (by decide),
      cell_mem d L cc1_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc1_scoped1.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        cell_mem d L cc1_scoped2.sem (by decide)⟩⟩⟩⟩)]

abbrev scr (L : grid1.Coords) (b : Ref sig .scVector) : DevRef τ sig := (Proc.scVector (cV L) (jV L)).devRef b
abbrev restBufs (L : grid1.Coords) : Finset (DevRef τ sig) :=
  (((ownRefs (τ := τ) (.scVector (cV L) (jV L))).erase (scr L cc1_scratch0)).erase (scr L cc1_scratch1)).erase (scr L cc1_scratch2)

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep (restBufs L) fun b => iprop(∃ f, ((d, b) : Loc nD τ sig) ↦{fullShare} f)) := by
  unfold SparseCore.Cfg.ownBufs
  have ne {b b' : Ref sig .scVector} (h : b ≠ b') : scr L b ≠ scr L b' := fun e => h (Proc.devRef_injective _ e)
  refine (SparseCore.bigSep_erase' (SparseCore.Cfg.mem_ownRefs_of_owner (p := Proc.scVector (cV L) (jV L)) (b := scr L cc1_scratch0) rfl)).trans ?_
  rw [SparseCore.bigSep_erase' (Finset.mem_erase.mpr ⟨ne (by decide), SparseCore.Cfg.mem_ownRefs_of_owner (p := Proc.scVector (cV L) (jV L)) (b := scr L cc1_scratch1) rfl⟩),
    SparseCore.bigSep_erase' (Finset.mem_erase.mpr ⟨ne (by decide), Finset.mem_erase.mpr ⟨ne (by decide), SparseCore.Cfg.mem_ownRefs_of_owner (p := Proc.scVector (cV L) (jV L)) (b := scr L cc1_scratch2) rfl⟩⟩)]

/-! ### What a gather leaves, as the rows named -/

/-- The list of row numbers the task has fetched: its block of the whole list. -/
abbrev lst (d : Dev nD) (L : grid1.Coords) : S128.Idx → Elt F .i32 := (iK L).view.read (Elt F) (ix d)

theorem read_fetched (fs : Buf (Elt F) ((V d (cV L) (jV L)).loc cc1_scratch0)) (pay : S128.Idx → Elt F .i32) :
    (sV).view.read (Elt F) (View.write (Elt F) (sV).view fs pay Finset.univ) = pay := by
  rw [View.write_whole_univ]; rfl

theorem lst_apply (j : S128.Idx) : lst ix d L j = ix d ((iK L).view.emb j) := (View.read_apply _ _).trans (cast_eq _ _)

/-- Each number read off the fetched list names a row. -/
theorem inb_of_pre (hpre : PreOK ix) (fs : Buf (Elt F) ((V d (cV L) (jV L)).loc cc1_scratch0)) (pay : S128.Idx → Elt F .i32)
    (hpay : pay = lst ix d L) :
    ∀ x, ((sV).view.read (Elt F) (View.write (Elt F) (sV).view fs pay Finset.univ) x : BitVec 32).toNat
      < S8192x128.size gathers_S8192x128_S128x128.axis := by
  subst hpay; intro x
  rw [read_fetched, lst_apply]
  exact hpre d _

omit [FloatOps F] in
/-- The row of a table that the gather reads at element `x` of its buffer, as an index of the table. -/
theorem gathers_idx (r : Fin 128 → Fin 8192) (x : S128x128.Idx) :
    (gathers_S8192x128_S128x128).idx r x = (ix2 (r (x 0)) (x 1) : S8192x128.Idx) := by
  funext b
  match b with
  | 0 => rfl
  | 1 => rfl

omit [FloatOps F] in
theorem rowMajor_symm_128 (k : Fin 128) (h : (128 : Nat) = S128.numel) : S128.rowMajor.symm (k.cast h) = (ix1 k : S128.Idx) := by
  rw [Equiv.symm_apply_eq]
  apply Fin.ext
  rw [Shape.rowMajor_val_one]; rfl

omit [FloatOps F] in
theorem oxK_emb_val (x : S128x128.Idx) :
    (((oxK L).view.emb x) 0).val = 256 * (L 1).val + 128 * (L 0).val + (x 0).val ∧ (((oxK L).view.emb x) 1).val = (x 1).val := by
  have h := fun a => ValueKit.view_emb_slice_whole_unit_val (main_v17_0_scv : Ref sig .scVector) (k1_off2 L) S128x128.size (k1_off2_inb L) x a
  refine ⟨(h 0).trans ?_, (h 1).trans ?_⟩
  · exact congrArg (· + (x 0).val) (congrFun (k1_off2_eq L) 0)
  · exact (congrArg (· + (x 1).val) (congrFun (k1_off2_eq L) 1)).trans (Nat.zero_add _)
omit [FloatOps F] in
theorem opK_emb (x : S128x128.Idx) : (opK L).view.emb x = (oxK L).view.emb x := rfl
omit [FloatOps F] in
theorem iK_emb (k : Fin 128) (x : S128x128.Idx) (hk : x 0 = k) : (iK L).view.emb (ix1 k) = (ix1 (((oxK L).view.emb x) 0) : S4096.Idx) := by
  funext a
  match a with
  | 0 =>
    apply Fin.ext
    refine (ValueKit.view_emb_slice_whole_unit_val (main_v16_scv : Ref sig .scVector) (k1_off1 L) S128.size (k1_off1_inb L) (ix1 k) 0).trans ?_
    refine Eq.trans ?_ (oxK_emb_val L x).1.symm
    rw [hk]
    exact congrArg (· + k.val) (congrFun (k1_off1_eq L) 0)

omit [FloatOps F] in
theorem xK_read (f : Buf (Elt F) (xLoc d)) : (xK).view.read (Elt F) f = f := by
  funext y
  rw [show (xK).view.read (Elt F) f y = f ((xK).view.emb y) from (View.read_apply _ _).trans (cast_eq _ _)]
  congr 1
  funext a
  apply Fin.ext
  refine (ValueKit.view_emb_slice_whole_unit_val (main_v14_scv : Ref sig .scVector) ![0, 0] S8192x128.size inb_S8192x128_S8192x128_0_0 y a).trans ?_
  match a with
  | 0 => exact Nat.zero_add _
  | 1 => exact Nat.zero_add _
omit [FloatOps F] in
theorem pK_read (f : Buf (Elt F) (pLoc d)) : (pK).view.read (Elt F) f = f := by
  funext y
  rw [show (pK).view.read (Elt F) f y = f ((pK).view.emb y) from (View.read_apply _ _).trans (cast_eq _ _)]
  congr 1
  funext a
  apply Fin.ext
  refine (ValueKit.view_emb_slice_whole_unit_val (main_v15_scv : Ref sig .scVector) ![0, 0] S8192x128.size inb_S8192x128_S8192x128_0_0 y a).trans ?_
  match a with
  | 0 => exact Nat.zero_add _
  | 1 => exact Nat.zero_add _

/-- The gathered rows, at an element of the task's block of a result: the row the whole list names there. -/
theorem payload_gval (hpre : PreOK ix) (t : S8192x128.Idx → Elt F .f32) (idx : S128.Idx → Elt F .i32) (hidx : idx = lst ix d L)
    (hn : S128.numel = S128x128.size gathers_S8192x128_S128x128.axis')
    (hin : ∀ x, (idx x : BitVec 32).toNat < S8192x128.size gathers_S8192x128_S128x128.axis) (x : S128x128.Idx) :
    SparseCore.gatherPayload gathers_S8192x128_S128x128 t (SparseCore.rows idx hn hin) x = gval t (ix d) ((oxK L).view.emb x) := by
  subst hidx
  unfold SparseCore.gatherPayload gval
  refine (congrArg t (gathers_idx _ x)).trans ?_
  congr 1
  funext a
  match a with
  | 0 =>
    apply Fin.ext
    refine (congrArg (fun j => (lst ix d L j : BitVec 32).toNat) (rowMajor_symm_128 (x 0) hn.symm)).trans ?_
    refine (congrArg BitVec.toNat ((lst_apply ix d L (ix1 (x 0))).trans (congrArg (ix d) (iK_emb L (x 0) x rfl)))).trans ?_
    exact (Nat.min_eq_left (by have := hpre d (ix1 (((oxK L).view.emb x) 0)); omega)).symm
  | 1 => exact Fin.ext (oxK_emb_val L x).2.symm

theorem ox_final (hpre : PreOK ix) (idx : S128.Idx → Elt F .i32) (hidx : idx = lst ix d L) (hn) (hin)
    (pay : S128x128.Idx → Elt F .f32)
    (hpay : pay = SparseCore.gatherPayload gathers_S8192x128_S128x128 ((xK).view.read (Elt F) (tx d)) (SparseCore.rows idx hn hin))
    (f : Buf (Elt F) (oxLoc d)) :
    ∀ y ∈ (oxK L).view.set, (oxK L).view.writes (Elt F) f [⟨Rect.whole S128x128, pay⟩] y = gval (tx d) (ix d) y := by
  intro y hy
  obtain ⟨x, -, rfl⟩ := Finset.mem_map.mp hy
  rw [View.writes_cons, View.writes_nil]
  have e : (oxK L).view.emb x = ((oxK L).view.slice (Rect.whole S128x128)).emb x :=
    congrArg (oxK L).view.emb (Rect.emb_whole_apply S128x128 x).symm
  refine (congrArg _ e).trans ?_
  refine (View.write_emb_of_mem _ _ (Finset.mem_univ x)).trans ((cast_eq _ _).trans ?_)
  rw [hpay, xK_read]
  exact payload_gval ix d L hpre (tx d) idx hidx hn hin x
theorem op_final (hpre : PreOK ix) (idx : S128.Idx → Elt F .i32) (hidx : idx = lst ix d L) (hn) (hin)
    (pay : S128x128.Idx → Elt F .f32)
    (hpay : pay = SparseCore.gatherPayload gathers_S8192x128_S128x128 ((pK).view.read (Elt F) (tp d)) (SparseCore.rows idx hn hin))
    (f : Buf (Elt F) (opLoc d)) :
    ∀ y ∈ (opK L).view.set, (opK L).view.writes (Elt F) f [⟨Rect.whole S128x128, pay⟩] y = gval (tp d) (ix d) y := by
  intro y hy
  obtain ⟨x, -, rfl⟩ := Finset.mem_map.mp hy
  rw [View.writes_cons, View.writes_nil]
  have e : (opK L).view.emb x = ((opK L).view.slice (Rect.whole S128x128)).emb x :=
    congrArg (opK L).view.emb (Rect.emb_whole_apply S128x128 x).symm
  refine (congrArg _ e).trans ?_
  refine (View.write_emb_of_mem _ _ (Finset.mem_univ x)).trans ((cast_eq _ _).trans ?_)
  rw [hpay, pK_read]
  exact payload_gval ix d L hpre (tp d) idx hidx hn hin x

end Tile

end Cert.Proof.Whole

end
-- ==== Proof.WholeBody.lean ====
/-
  The task of one tile of the SparseCore call runs to completion and leaves the rows named in its blocks of the results.
-/
module

public import proofs.«01_k».proof.Proof.WholeTile

@[expose] public section

noncomputable section

namespace Cert.Proof.Whole

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v14_scv : Memref sig Kind.scVector Space.hbm S8192x128 EltTy.f32)
local notation "pV" => (Memref.whole main_v15_scv : Memref sig Kind.scVector Space.hbm S8192x128 EltTy.f32)
local notation "iV" => (Memref.whole main_v16_scv : Memref sig Kind.scVector Space.hbm S4096 EltTy.i32)
local notation "oxV" => (Memref.whole main_v17_0_scv : Memref sig Kind.scVector Space.hbm S4096x128 EltTy.f32)
local notation "opV" => (Memref.whole main_v17_1_scv : Memref sig Kind.scVector Space.hbm S4096x128 EltTy.f32)
local notation "sV" => (Memref.whole cc1_scratch0 : Memref sig Kind.scVector Space.vmem S128 EltTy.i32)
local notation "rxV" => (Memref.whole cc1_scratch1 : Memref sig Kind.scVector Space.vmem S128x128 EltTy.f32)
local notation "rpV" => (Memref.whole cc1_scratch2 : Memref sig Kind.scVector Space.vmem S128x128 EltTy.f32)

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

section Tile

variable (d : Dev nD) (L : grid1.Coords)

/-- The row buffer, read back after its gather: what the gather brought. -/
theorem read_fetched_rows (fr : Buf (Elt F) ((V d (cV L) (jV L)).loc cc1_scratch1)) (pay : S128x128.Idx → Elt F .f32) :
    (rxV).view.read (Elt F) (View.write (Elt F) (rxV).view fr pay Finset.univ) = pay := by
  rw [View.write_whole_univ]; rfl
theorem read_fetched_rows' (fr : Buf (Elt F) ((V d (cV L) (jV L)).loc cc1_scratch2)) (pay : S128x128.Idx → Elt F .f32) :
    (rpV).view.read (Elt F) (View.write (Elt F) (rpV).view fr pay Finset.univ) = pay := by
  rw [View.write_whole_univ]; rfl

set_option maxHeartbeats 8000000 in
/-- The task on vector subcore `(L 0, L 1)` of device `d`: the fetch of its row numbers and its wait, the two gathers
    issued one after the other (each with half of the list), their waits, the two copies out and their waits. -/
theorem tile_body (hF : (K (F := F)).Facts) (hpre : PreOK ix) (O : CellTallies nD τ sig (HIx 1)) (W : Waits sig (HIx 1)) (hO : ∀ g, O g none = 0) :
    iprop(levAts (K (F := F)).L (K (F := F)).lev ∗ emp
        ∗ goP tx tp ix o0 o1 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L xV (Memref.isWhole_whole _) pV (Memref.isWhole_whole _) iV (Memref.isWhole_whole _)
            oxV (Memref.isWhole_whole _) opV (Memref.isWhole_whole _)
            sV (Memref.isWhole_whole _) rxV (Memref.isWhole_whole _) rpV (Memref.isWhole_whole _)
            cc1_scratch3 cc1_scratch4 cc1_scoped0 cc1_scoped1 cc1_scoped2)
          fun _ => iprop(tdP tx tp ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Hp, Hox, Hop⟩, ⟨⟨%fs, Hs⟩, ⟨%frx, Hrx⟩, ⟨%frp, Hrp⟩, Hbufs⟩, ⟨HsemX, HsemP, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hox' := (Entails.of_eq (pts_oxK (F := F) d L _).symm) $$ Hox
  ihave Hop' := (Entails.of_eq (pts_opK (F := F) d L _).symm) $$ Hop
  ihave Hx' := (Entails.of_eq (pts_xV (F := F) d L _ _).symm) $$ Hx
  ihave Hp' := (Entails.of_eq (pts_pV (F := F) d L _ _).symm) $$ Hp
  ihave Hs' := (Entails.of_eq (pts_sV (F := F) d L _ _).symm) $$ Hs
  ihave Hrx' := (Entails.of_eq (pts_rxV (F := F) d L _).symm) $$ Hrx
  ihave Hrp' := (Entails.of_eq (pts_rpV (F := F) d L _).symm) $$ Hrp
  sl_exec
  -- both gathers read the fetched list: half of it goes to each
  ihave Hxs := (pointsTo_split_subset (q := tq (wL L)) (f := tx d) (S := Finset.univ) (Finset.subset_univ (xK).view.set)).1 $$ Hx'
  icases Hxs with ⟨Hxs, Hxr⟩
  ihave Hps := (pointsTo_split_subset (q := tq (wL L)) (f := tp d) (S := Finset.univ) (Finset.subset_univ (pK).view.set)).1 $$ Hp'
  icases Hps with ⟨Hps, Hpr⟩
  have hrx : (rxV).view.set = Finset.univ := View.set_whole _
  have hrp : (rpV).view.set = Finset.univ := View.set_whole _
  have hss : (sV).view.set = Finset.univ := View.set_whole _
  ihave Hrx2 := (Entails.of_eq (show ((rxV).view.loc (V d (cV L) (jV L)) ↦{fullShare} frx : sProp 𝕄)
      = (rxV).view.loc (V d (cV L) (jV L)) ↦[(rxV).view.set]{fullShare} frx by rw [hrx])) $$ Hrx'
  ihave Hrp2 := (Entails.of_eq (show ((rpV).view.loc (V d (cV L) (jV L)) ↦{fullShare} frp : sProp 𝕄)
      = (rpV).view.loc (V d (cV L) (jV L)) ↦[(rpV).view.set]{fullShare} frp by rw [hrp])) $$ Hrp'
  ihave Hs2 := (Entails.of_eq (show ((sV).view.loc (V d (cV L) (jV L)) ↦{fullShare} View.write (Elt F) (sV).view fs (tile_body.sl.dma0 ix d L) Finset.univ : sProp 𝕄)
      = (sV).view.loc (V d (cV L) (jV L)) ↦[(sV).view.set]{fullShare} View.write (Elt F) (sV).view fs (tile_body.sl.dma0 ix d L) Finset.univ
      by rw [hss])) $$ Hs'
  ihave Hs3 := (pointsTo_share (PosShare.mem_left_op_right fullShare)).1 $$ Hs2
  icases Hs3 with ⟨HsL, HsR⟩
  have hN : ∀ h : S8192x128.Gathers 0 S128x128, ∑ j, ((rxV).slice (S128x128.rowRect h.axis' j) (S128x128.stride_rowRect h.axis' j)).view.dmaCredit
      = (rxV).view.dmaCredit := by decide
  have hN' : ∀ h : S8192x128.Gathers 0 S128x128, ∑ j, ((rpV).slice (S128x128.rowRect h.axis' j) (S128x128.stride_rowRect h.axis' j)).view.dmaCredit
      = (rpV).view.dmaCredit := by decide
  iapply (SparseCore.wp_indirectGatherLocal countersEmb 𝒱₀ (V d (cV L) (jV L)) none (hg := gathers_S8192x128_S128x128) (default : HIx 1)
      (rxV).view.dmaCredit (hN _) (by decide) (inb_of_pre ix d L hpre fs _ rfl)) $$ [Hxs Hrx2 HsL HsemX]
  · isplitl [Hxs]; · iexact Hxs
    isplitl [Hrx2]; · iexact Hrx2
    isplitl [HsL]; · iexact HsL
    iexact HsemX
  iintro HflX
  sl_exec
  iapply (SparseCore.wp_indirectGatherLocal countersEmb 𝒱₀ (V d (cV L) (jV L)) none (hg := gathers_S8192x128_S128x128) (default : HIx 1)
      (rpV).view.dmaCredit (hN' _) (by decide) (inb_of_pre ix d L hpre fs _ rfl)) $$ [Hps Hrp2 HsR HsemP]
  · isplitl [Hps]; · iexact Hps
    isplitl [Hrp2]; · iexact Hrp2
    isplitl [HsR]; · iexact HsR
    iexact HsemP
  iintro HflP
  sl_exec
  iapply (Transfers.wp_waitLocalO countersEmb 𝒱₀ (V d (cV L) (jV L)) none (default : HIx 1) (rfl : (rxV).view.dmaCredit = _)) $$ [HflX HO]
  · isplitl [HflX]; · iexact HflX
    isplitl [HO]; · iexact HO
    iapply (Transfers.MayWaits.elim (SemLoc.dma cc1_scratch3.sem)) $$ Hmw
  iintro ⟨⟨Hrx', Hxs, HsL⟩, HsemX, HO⟩
  sl_exec
  iapply (Transfers.wp_waitLocalO countersEmb 𝒱₀ (V d (cV L) (jV L)) none (default : HIx 1) (rfl : (rpV).view.dmaCredit = _)) $$ [HflP HO]
  · isplitl [HflP]; · iexact HflP
    isplitl [HO]; · iexact HO
    iapply (Transfers.MayWaits.elim (SemLoc.dma cc1_scratch4.sem)) $$ Hmw
  iintro ⟨⟨Hrp', Hps, HsR⟩, HsemP, HO⟩
  ihave Hx' := (pointsTo_split_subset (q := tq (wL L)) (f := tx d) (S := Finset.univ) (Finset.subset_univ (xK).view.set)).2 $$ [Hxs Hxr]; · isplitl [Hxs] <;> iassumption
  ihave Hp' := (pointsTo_split_subset (q := tq (wL L)) (f := tp d) (S := Finset.univ) (Finset.subset_univ (pK).view.set)).2 $$ [Hps Hpr]; · isplitl [Hps] <;> iassumption
  ihave Hs4 := (pointsTo_share (PosShare.mem_left_op_right fullShare)).2 $$ [HsL HsR]; · isplitl [HsL] <;> iassumption
  ihave Hrx3 := (Entails.of_eq (show ((rxV).view.loc (V d (cV L) (jV L)) ↦[(rxV).view.set]{fullShare} _ : sProp 𝕄)
      = (rxV).view.loc (V d (cV L) (jV L)) ↦{fullShare} _ by rw [hrx])) $$ Hrx'
  ihave Hrp3 := (Entails.of_eq (show ((rpV).view.loc (V d (cV L) (jV L)) ↦[(rpV).view.set]{fullShare} _ : sProp 𝕄)
      = (rpV).view.loc (V d (cV L) (jV L)) ↦{fullShare} _ by rw [hrp])) $$ Hrp'
  ihave Hs5 := (Entails.of_eq (show ((sV).view.loc (V d (cV L) (jV L)) ↦[(sV).view.set]{fullShare} _ : sProp 𝕄)
      = (sV).view.loc (V d (cV L) (jV L)) ↦{fullShare} _ by rw [hss])) $$ Hs4
  sl_exec
  sl_step
  isplitl [Hi' Hx' Hp' Hox' Hop']
  · isplitl [Hi']; · iapply (Entails.of_eq (pts_iK (F := F) d L _)); iexact Hi'
    isplitl [Hx']; · iexact Hx'
    isplitl [Hp']; · iexact Hp'
    isplitl [Hox']
    · iapply (Entails.of_eq (pts_oxK (F := F) d L _))
      iapply (Entails.of_eq (pointsTo_congr (ox_final tx ix d L hpre _ (read_fetched d L fs _) _ _ _ (read_fetched_rows d L frx _) _)))
      iexact Hox'
    · iapply (Entails.of_eq (pts_opK (F := F) d L _))
      iapply (Entails.of_eq (pointsTo_congr (op_final tp ix d L hpre _ (read_fetched d L fs _) _ _ _ (read_fetched_rows' d L frp _) _)))
      iexact Hop'
  isplitl [Hs5 Hrx3 Hrp3 Hbufs]
  · isplitl [Hs5]; · iexists _; iexact Hs5
    isplitl [Hrx3]; · iexists _; iexact Hrx3
    isplitl [Hrp3]; · iexists _; iexact Hrp3
    iexact Hbufs
  isplitl [HsemX HsemP HsemA HsemB HsemC Hsems]
  · isplitl [HsemX]; · iexact HsemX
    isplitl [HsemP]; · iexact HsemP
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Whole

end
-- ==== Proof.WholeCall.lean ====
/-
  The SparseCore call as the launch sees it: what each of its 32 tasks is handed and hands back, how the two tables,
  the list of row numbers and the two results split among them and join again, and each task's obligation.
-/
module

public import proofs.«01_k».proof.Proof.WholeBody

@[expose] public section

noncomputable section

namespace Cert.Proof.Whole

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v14_scv : Memref sig Kind.scVector Space.hbm S8192x128 EltTy.f32)
local notation "pV" => (Memref.whole main_v15_scv : Memref sig Kind.scVector Space.hbm S8192x128 EltTy.f32)
local notation "iV" => (Memref.whole main_v16_scv : Memref sig Kind.scVector Space.hbm S4096 EltTy.i32)
local notation "oxV" => (Memref.whole main_v17_0_scv : Memref sig Kind.scVector Space.hbm S4096x128 EltTy.f32)
local notation "opV" => (Memref.whole main_v17_1_scv : Memref sig Kind.scVector Space.hbm S4096x128 EltTy.f32)
local notation "sV" => (Memref.whole cc1_scratch0 : Memref sig Kind.scVector Space.vmem S128 EltTy.i32)
local notation "rxV" => (Memref.whole cc1_scratch1 : Memref sig Kind.scVector Space.vmem S128x128 EltTy.f32)
local notation "rpV" => (Memref.whole cc1_scratch2 : Memref sig Kind.scVector Space.vmem S128x128 EltTy.f32)

variable [FloatOps F]
variable (tx : (d : Dev nD) → Buf (Elt F) (xLoc d)) (tp : (d : Dev nD) → Buf (Elt F) (pLoc d))
  (ix : (d : Dev nD) → Buf (Elt F) (iLoc d))
  (o0 : (d : Dev nD) → Buf (Elt F) (oxLoc d)) (o1 : (d : Dev nD) → Buf (Elt F) (opLoc d))

/-! ## What the handshakes carry -/

theorem nCore_zero : (K (F := F)).nCore 0 = 2 := rfl
theorem nSub_zero : (K (F := F)).nSub 0 = 16 := rfl

/-- The task's tile, of its core and subcore. -/
abbrev wT (c : Fin ((K (F := F)).nCore 0)) (i : Fin ((K (F := F)).nSub 0)) : Fin 32 := wid (Fin.cast nCore_zero c) (Fin.cast nSub_zero i)

/-- Each core is handed what its sixteen tasks take, and hands back what they leave. -/
def P : (K (F := F)).Pay (nD := nD) (Val := Elt F) (Name := ℕ) (U := UU) where
  st := fun q d c => match q with
    | 0 => bigSep Finset.univ fun i : Fin ((K (F := F)).nSub 0) => goP tx tp ix o0 o1 d (wT c i)
  dn := fun q d c => match q with
    | 0 => bigSep Finset.univ fun i : Fin ((K (F := F)).nSub 0) => tdP tx tp ix d (wT c i)
  go := fun q d c i => match q with
    | 0 => goP tx tp ix o0 o1 d (wT c i)
  td := fun q d c i => match q with
    | 0 => tdP tx tp ix d (wT c i)
  x := fun _ _ => iprop(emp)

instance P_storable : (P (F := F) tx tp ix o0 o1).IsStorable where
  st q d c := match q with
    | 0 => (inferInstance : BI.Storable (upEmb : UEmb _ 𝕄)
      (bigSep Finset.univ fun i : Fin ((K (F := F)).nSub 0) => goP tx tp ix o0 o1 d (wT c i)))
  dn q d c := match q with
    | 0 => (inferInstance : BI.Storable (upEmb : UEmb _ 𝕄)
      (bigSep Finset.univ fun i : Fin ((K (F := F)).nSub 0) => tdP tx tp ix d (wT c i)))
  go q d c i := match q with
    | 0 => (inferInstance : BI.Storable (upEmb : UEmb _ 𝕄) (goP tx tp ix o0 o1 d (wT c i)))
  td q d c i := match q with
    | 0 => (inferInstance : BI.Storable (upEmb : UEmb _ 𝕄) (tdP tx tp ix d (wT c i)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          xV (Memref.isWhole_whole _) pV (Memref.isWhole_whole _) iV (Memref.isWhole_whole _)
          oxV (Memref.isWhole_whole _) opV (Memref.isWhole_whole _)
          sV (Memref.isWhole_whole _) rxV (Memref.isWhole_whole _) rpV (Memref.isWhole_whole _)
          cc1_scratch3 cc1_scratch4 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK ix) : (K (F := F)).TileObl (D (F := F)) 𝒱 (P tx tp ix o0 o1) v₀ 0 := by
  intro d c i O W hO _ _
  simp only [show (P tx tp ix o0 o1).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tx tp ix o0 o1 d (coordsV ⟨_, hci.1⟩ ⟨_, hci.2⟩) hF hpre O W hO).trans (wp_mono frame _ _ fun _ => obl_post)

/-- A core's part of the call is its tasks' parts. -/
theorem vecSplit : (K (F := F)).VecSplit' (P tx tp ix o0 o1) 0 := by
  intro d c
  show (bigSep Finset.univ fun i : Fin ((K (F := F)).nSub 0) => goP tx tp ix o0 o1 d (wT c i)) ⊢ |={Set.univ}=> iprop(
      (bigSep Finset.univ fun i : Fin ((K (F := F)).nSub 0) => goP tx tp ix o0 o1 d (wT c i))
      ∗ ((bigSep Finset.univ fun i : Fin ((K (F := F)).nSub 0) => tdP tx tp ix d (wT c i))
          -∗ bigSep Finset.univ fun i : Fin ((K (F := F)).nSub 0) => tdP tx tp ix d (wT c i)))
  iintro H; imodintro
  isplitl [H]; · iexact H
  iintro H; iexact H

/-! ## The operands, split among the 32 tasks -/

omit [FloatOps F] in
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun i _ j _ h => Rect.part_disjoint idiv h,
    show (Finset.univ : Finset (Fin 32)).biUnion iSet = Finset.univ from Rect.biUnion_part idiv]; try rfl
omit [FloatOps F] in
theorem oxPts_blocks (d : Dev nD) (f : Buf (Elt F) (oxLoc d)) :
    (oxLoc d ↦{fullShare} f : sProp 𝕄) = bigSep Finset.univ fun w : Fin 32 => oxLoc d ↦[oSet w]{fullShare} f := by
  rw [← pointsTo_biUnion Finset.univ (ℓ := oxLoc d) oSet fun i _ j _ h => Rect.part_disjoint odiv h,
    show (Finset.univ : Finset (Fin 32)).biUnion oSet = Finset.univ from Rect.biUnion_part odiv]; try rfl
omit [FloatOps F] in
theorem opPts_blocks (d : Dev nD) (f : Buf (Elt F) (opLoc d)) :
    (opLoc d ↦{fullShare} f : sProp 𝕄) = bigSep Finset.univ fun w : Fin 32 => opLoc d ↦[oSet w]{fullShare} f := by
  rw [← pointsTo_biUnion Finset.univ (ℓ := opLoc d) oSet fun i _ j _ h => Rect.part_disjoint odiv h,
    show (Finset.univ : Finset (Fin 32)).biUnion oSet = Finset.univ from Rect.biUnion_part odiv]; try rfl

/-- The tiles, core by core. -/
def tiles : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- The five operands whole, the results at `o0` and `o1`, are the tasks' parts of them. -/
theorem parts_eq (d : Dev nD) :
    (bigSep Finset.univ fun c : Fin ((K (F := F)).nCore 0) => bigSep Finset.univ fun i : Fin ((K (F := F)).nSub 0) => goP tx tp ix o0 o1 d (wT c i))
      = (iprop((iLoc d ↦{fullShare} ix d) ∗ (xLoc d ↦{fullShare} tx d) ∗ (pLoc d ↦{fullShare} tp d)
          ∗ (oxLoc d ↦{fullShare} o0 d) ∗ (opLoc d ↦{fullShare} o1 d)) : sProp 𝕄) := by
  show (bigSep Finset.univ fun c : Fin 2 => bigSep Finset.univ fun i : Fin 16 => goP tx tp ix o0 o1 d (wid c i)) = _
  rw [← bigSep_univ_prod (fun p : Fin 2 × Fin 16 => goP tx tp ix o0 o1 d (wid p.1 p.2)),
    show (bigSep Finset.univ fun p : Fin 2 × Fin 16 => goP tx tp ix o0 o1 d (wid p.1 p.2))
      = bigSep Finset.univ fun w : Fin 32 => goP tx tp ix o0 o1 d w from
        (bigSep_univ_equiv tiles (fun w : Fin 32 => goP tx tp ix o0 o1 d w)).symm,
    bigSep_sep', bigSep_sep', bigSep_sep', bigSep_sep', ← iPts_blocks, ← oxPts_blocks, ← opPts_blocks,
    ← pointsTo_piecesOf Finset.univ (tx d) (by decide) fullShare, ← pointsTo_piecesOf Finset.univ (tp d) (by decide) fullShare]

theorem st0_eq (d : Dev nD) : (bigSep Finset.univ fun c : Fin ((K (F := F)).nCore 0) => (P tx tp ix o0 o1).st 0 d c)
    = (iprop((iLoc d ↦{fullShare} ix d) ∗ (xLoc d ↦{fullShare} tx d) ∗ (pLoc d ↦{fullShare} tp d)
          ∗ (oxLoc d ↦{fullShare} o0 d) ∗ (opLoc d ↦{fullShare} o1 d)) : sProp 𝕄) := parts_eq tx tp ix o0 o1 d
theorem dn0_eq (d : Dev nD) : (bigSep Finset.univ fun c : Fin ((K (F := F)).nCore 0) => (P tx tp ix o0 o1).dn 0 d c)
    = (iprop((iLoc d ↦{fullShare} ix d) ∗ (xLoc d ↦{fullShare} tx d) ∗ (pLoc d ↦{fullShare} tp d)
          ∗ (oxLoc d ↦{fullShare} gval (tx d) (ix d)) ∗ (opLoc d ↦{fullShare} gval (tp d) (ix d))) : sProp 𝕄) :=
  parts_eq tx tp ix (fun d => gval (tx d) (ix d)) (fun d => gval (tp d) (ix d)) d

end Cert.Proof.Whole

end
-- ==== Proof.EncRegion.lean ====
/-
  The TensorCore call of the whole kernel: what its body leaves in the staging buffers of its two results (`out0_24`, the
  layer's output; `out0_25`, the selected row numbers), from the blocks of its 24 operands, and the obligation of its
  pipeline. The contents of the arrays when the call is entered (`VE`) are a parameter.
-/
module

public import proofs.«01_k».proof.Proof.WholeSetup
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (VE : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (VE c (Pipeline.arrRef spec0 w))

/-- Input window 0's buffer holds its block at every point, for proof data whose array is `VE`'s and whose body leaves it. -/
theorem before0_0_of {c : Dev nD} (dat : Dat τ (Elt F) (HIx 1) ℕ UU ℕ cfg0 c) (hA : dat.A 0 = VE c (Pipeline.arrRef spec0 0))
    (hafter : ∀ t, dat.after 0 t = iblk VE c 0 t) (t : Fin cfg0.N) (d) : dat.before 0 t d = iblk VE c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for proof data whose array is `VE`'s and whose body leaves it. -/
theorem before0_1_of {c : Dev nD} (dat : Dat τ (Elt F) (HIx 1) ℕ UU ℕ cfg0 c) (hA : dat.A 1 = VE c (Pipeline.arrRef spec0 1))
    (hafter : ∀ t, dat.after 1 t = iblk VE c 1 t) (t : Fin cfg0.N) (d) : dat.before 1 t d = iblk VE c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for proof data whose array is `VE`'s and whose body leaves it. -/
theorem before0_2_of {c : Dev nD} (dat : Dat τ (Elt F) (HIx 1) ℕ UU ℕ cfg0 c) (hA : dat.A 2 = VE c (Pipeline.arrRef spec0 2))
    (hafter : ∀ t, dat.after 2 t = iblk VE c 2 t) (t : Fin cfg0.N) (d) : dat.before 2 t d = iblk VE c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, for proof data whose array is `VE`'s and whose body leaves it. -/
theorem before0_3_of {c : Dev nD} (dat : Dat τ (Elt F) (HIx 1) ℕ UU ℕ cfg0 c) (hA : dat.A 3 = VE c (Pipeline.arrRef spec0 3))
    (hafter : ∀ t, dat.after 3 t = iblk VE c 3 t) (t : Fin cfg0.N) (d) : dat.before 3 t d = iblk VE c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, for proof data whose array is `VE`'s and whose body leaves it. -/
theorem before0_4_of {c : Dev nD} (dat : Dat τ (Elt F) (HIx 1) ℕ UU ℕ cfg0 c) (hA : dat.A 4 = VE c (Pipeline.arrRef spec0 4))
    (hafter : ∀ t, dat.after 4 t = iblk VE c 4 t) (t : Fin cfg0.N) (d) : dat.before 4 t d = iblk VE c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, for proof data whose array is `VE`'s and whose body leaves it. -/
theorem before0_5_of {c : Dev nD} (dat : Dat τ (Elt F) (HIx 1) ℕ UU ℕ cfg0 c) (hA : dat.A 5 = VE c (Pipeline.arrRef spec0 5))
    (hafter : ∀ t, dat.after 5 t = iblk VE c 5 t) (t : Fin cfg0.N) (d) : dat.before 5 t d = iblk VE c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, for proof data whose array is `VE`'s and whose body leaves it. -/
theorem before0_6_of {c : Dev nD} (dat : Dat τ (Elt F) (HIx 1) ℕ UU ℕ cfg0 c) (hA : dat.A 6 = VE c (Pipeline.arrRef spec0 6))
    (hafter : ∀ t, dat.after 6 t = iblk VE c 6 t) (t : Fin cfg0.N) (d) : dat.before 6 t d = iblk VE c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, for proof data whose array is `VE`'s and whose body leaves it. -/
theorem before0_7_of {c : Dev nD} (dat : Dat τ (Elt F) (HIx 1) ℕ UU ℕ cfg0 c) (hA : dat.A 7 = VE c (Pipeline.arrRef spec0 7))
    (hafter : ∀ t, dat.after 7 t = iblk VE c 7 t) (t : Fin cfg0.N) (d) : dat.before 7 t d = iblk VE c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, for proof data whose array is `VE`'s and whose body leaves it. -/
theorem before0_8_of {c : Dev nD} (dat : Dat τ (Elt F) (HIx 1) ℕ UU ℕ cfg0 c) (hA : dat.A 8 = VE c (Pipeline.arrRef spec0 8))
    (hafter : ∀ t, dat.after 8 t = iblk VE c 8 t) (t : Fin cfg0.N) (d) : dat.before 8 t d = iblk VE c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, for proof data whose array is `VE`'s and whose body leaves it. -/
theorem before0_9_of {c : Dev nD} (dat : Dat τ (Elt F) (HIx 1) ℕ UU ℕ cfg0 c) (hA : dat.A 9 = VE c (Pipeline.arrRef spec0 9))
    (hafter : ∀ t, dat.after 9 t = iblk VE c 9 t) (t : Fin cfg0.N) (d) : dat.before 9 t d = iblk VE c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, for proof data whose array is `VE`'s and whose body leaves it. -/
theorem before0_10_of {c : Dev nD} (dat : Dat τ (Elt F) (HIx 1) ℕ UU ℕ cfg0 c) (hA : dat.A 10 = VE c (Pipeline.arrRef spec0 10))
    (hafter : ∀ t, dat.after 10 t = iblk VE c 10 t) (t : Fin cfg0.N) (d) : dat.before 10 t d = iblk VE c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, for proof data whose array is `VE`'s and whose body leaves it. -/
theorem before0_11_of {c : Dev nD} (dat : Dat τ (Elt F) (HIx 1) ℕ UU ℕ cfg0 c) (hA : dat.A 11 = VE c (Pipeline.arrRef spec0 11))
    (hafter : ∀ t, dat.after 11 t = iblk VE c 11 t) (t : Fin cfg0.N) (d) : dat.before 11 t d = iblk VE c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, for proof data whose array is `VE`'s and whose body leaves it. -/
theorem before0_12_of {c : Dev nD} (dat : Dat τ (Elt F) (HIx 1) ℕ UU ℕ cfg0 c) (hA : dat.A 12 = VE c (Pipeline.arrRef spec0 12))
    (hafter : ∀ t, dat.after 12 t = iblk VE c 12 t) (t : Fin cfg0.N) (d) : dat.before 12 t d = iblk VE c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, for proof data whose array is `VE`'s and whose body leaves it. -/
theorem before0_13_of {c : Dev nD} (dat : Dat τ (Elt F) (HIx 1) ℕ UU ℕ cfg0 c) (hA : dat.A 13 = VE c (Pipeline.arrRef spec0 13))
    (hafter : ∀ t, dat.after 13 t = iblk VE c 13 t) (t : Fin cfg0.N) (d) : dat.before 13 t d = iblk VE c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point, for proof data whose array is `VE`'s and whose body leaves it. -/
theorem before0_14_of {c : Dev nD} (dat : Dat τ (Elt F) (HIx 1) ℕ UU ℕ cfg0 c) (hA : dat.A 14 = VE c (Pipeline.arrRef spec0 14))
    (hafter : ∀ t, dat.after 14 t = iblk VE c 14 t) (t : Fin cfg0.N) (d) : dat.before 14 t d = iblk VE c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point, for proof data whose array is `VE`'s and whose body leaves it. -/
theorem before0_15_of {c : Dev nD} (dat : Dat τ (Elt F) (HIx 1) ℕ UU ℕ cfg0 c) (hA : dat.A 15 = VE c (Pipeline.arrRef spec0 15))
    (hafter : ∀ t, dat.after 15 t = iblk VE c 15 t) (t : Fin cfg0.N) (d) : dat.before 15 t d = iblk VE c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's buffer holds its block at every point, for proof data whose array is `VE`'s and whose body leaves it. -/
theorem before0_16_of {c : Dev nD} (dat : Dat τ (Elt F) (HIx 1) ℕ UU ℕ cfg0 c) (hA : dat.A 16 = VE c (Pipeline.arrRef spec0 16))
    (hafter : ∀ t, dat.after 16 t = iblk VE c 16 t) (t : Fin cfg0.N) (d) : dat.before 16 t d = iblk VE c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's buffer holds its block at every point, for proof data whose array is `VE`'s and whose body leaves it. -/
theorem before0_17_of {c : Dev nD} (dat : Dat τ (Elt F) (HIx 1) ℕ UU ℕ cfg0 c) (hA : dat.A 17 = VE c (Pipeline.arrRef spec0 17))
    (hafter : ∀ t, dat.after 17 t = iblk VE c 17 t) (t : Fin cfg0.N) (d) : dat.before 17 t d = iblk VE c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's buffer holds its block at every point, for proof data whose array is `VE`'s and whose body leaves it. -/
theorem before0_18_of {c : Dev nD} (dat : Dat τ (Elt F) (HIx 1) ℕ UU ℕ cfg0 c) (hA : dat.A 18 = VE c (Pipeline.arrRef spec0 18))
    (hafter : ∀ t, dat.after 18 t = iblk VE c 18 t) (t : Fin cfg0.N) (d) : dat.before 18 t d = iblk VE c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's buffer holds its block at every point, for proof data whose array is `VE`'s and whose body leaves it. -/
theorem before0_19_of {c : Dev nD} (dat : Dat τ (Elt F) (HIx 1) ℕ UU ℕ cfg0 c) (hA : dat.A 19 = VE c (Pipeline.arrRef spec0 19))
    (hafter : ∀ t, dat.after 19 t = iblk VE c 19 t) (t : Fin cfg0.N) (d) : dat.before 19 t d = iblk VE c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's buffer holds its block at every point, for proof data whose array is `VE`'s and whose body leaves it. -/
theorem before0_20_of {c : Dev nD} (dat : Dat τ (Elt F) (HIx 1) ℕ UU ℕ cfg0 c) (hA : dat.A 20 = VE c (Pipeline.arrRef spec0 20))
    (hafter : ∀ t, dat.after 20 t = iblk VE c 20 t) (t : Fin cfg0.N) (d) : dat.before 20 t d = iblk VE c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's buffer holds its block at every point, for proof data whose array is `VE`'s and whose body leaves it. -/
theorem before0_21_of {c : Dev nD} (dat : Dat τ (Elt F) (HIx 1) ℕ UU ℕ cfg0 c) (hA : dat.A 21 = VE c (Pipeline.arrRef spec0 21))
    (hafter : ∀ t, dat.after 21 t = iblk VE c 21 t) (t : Fin cfg0.N) (d) : dat.before 21 t d = iblk VE c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's buffer holds its block at every point, for proof data whose array is `VE`'s and whose body leaves it. -/
theorem before0_22_of {c : Dev nD} (dat : Dat τ (Elt F) (HIx 1) ℕ UU ℕ cfg0 c) (hA : dat.A 22 = VE c (Pipeline.arrRef spec0 22))
    (hafter : ∀ t, dat.after 22 t = iblk VE c 22 t) (t : Fin cfg0.N) (d) : dat.before 22 t d = iblk VE c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's buffer holds its block at every point, for proof data whose array is `VE`'s and whose body leaves it. -/
theorem before0_23_of {c : Dev nD} (dat : Dat τ (Elt F) (HIx 1) ℕ UU ℕ cfg0 c) (hA : dat.A 23 = VE c (Pipeline.arrRef spec0 23))
    (hafter : ∀ t, dat.after 23 t = iblk VE c 23 t) (t : Fin cfg0.N) (d) : dat.before 23 t d = iblk VE c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x2048x128 := Rect.unit (s := S1x2048x128) ![0, 0, 0] S1x2048x128.size inb_S1x2048x128_S1x2048x128_0_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x512 := Rect.unit (s := S128x512) ![0, 0] S128x512.size inb_S128x512_S128x512_0_0
abbrev r0_4 : Rect S1x512 := Rect.unit (s := S1x512) ![0, 0] S1x512.size inb_S1x512_S1x512_0_0
abbrev r0_5 : Rect S512x128 := Rect.unit (s := S512x128) ![0, 0] S512x128.size inb_S512x128_S512x128_0_0
abbrev r0_6 : Rect S128x32 := Rect.unit (s := S128x32) ![0, 0] S128x32.size inb_S128x32_S128x32_0_0
abbrev r0_7 : Rect S1x32 := Rect.unit (s := S1x32) ![0, 0] S1x32.size inb_S1x32_S1x32_0_0
abbrev r0_8 : Rect S32x1 := Rect.unit (s := S32x1) ![0, 0] S32x1.size inb_S32x1_S32x1_0_0
abbrev r0_9 : Rect S1x1 := Rect.unit (s := S1x1) ![0, 0] S1x1.size inb_S1x1_S1x1_0_0
abbrev r0_10 : Rect S1x1x1024 := Rect.unit (s := S1x1x1024) ![0, 0, 0] S1x1x1024.size inb_S1x1x1024_S1x1x1024_0_0_0

/-! ## What the body leaves in each output window's buffer -/

/-! ### Values of the body that the stores' payloads, spelt out, would write more than once

    Each is a vector the body binds (often a part call's result), stated over the input windows' blocks and
    numbered on from the skeleton's payload functions (`k0_pay51` …, after `k0_pay50`), so that
    `out0_W` and the values after it name it instead of spelling it out (`unfold_out out0_W` opens a canon
    with them, `unfold_payloads` opens them with the payloads); the comment after each is the printed function's
    name for the value (a count appended where that name is bound again). -/

def k0_pay51 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay3 (View.ld x0 r0_0) (View.ld x1 r0_0) -- `v4`
def k0_pay52 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay4 (View.ld x0 r0_0) (View.ld x1 r0_0) (View.ld x2 r0_1) (View.ld x3 r0_2) -- `v12`
def k0_pay53 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay5 (View.ld x0 r0_0) (View.ld x1 r0_0) (View.ld x4 r0_1) (View.ld x5 r0_2) -- `v20`
def k0_pay54 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay6 (View.ld x0 r0_0) (View.ld x1 r0_0) (View.ld x6 r0_1) (View.ld x7 r0_2) -- `v26`
def k0_pay55 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x64 .f32 :=
  k0_pay7 (View.ld x0 r0_0) (View.ld x1 r0_0) (View.ld x2 r0_1) (View.ld x3 r0_2) -- `v27`
def k0_pay56 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x64 .f32 :=
  k0_pay8 (View.ld x0 r0_0) (View.ld x1 r0_0) (View.ld x4 r0_1) (View.ld x5 r0_2) -- `v28`
def k0_pay57 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x64 .f32 :=
  k0_pay9 (View.ld x0 r0_0) (View.ld x1 r0_0) (View.ld x6 r0_1) (View.ld x7 r0_2) -- `v29`
def k0_pay58 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x1024 .f32 :=
  k0_pay10 (View.ld x0 r0_0) (View.ld x1 r0_0) (View.ld x2 r0_1) (View.ld x3 r0_2) (View.ld x4 r0_1) (View.ld x5 r0_2) -- `v33`
def k0_pay59 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048 .f32 :=
  k0_pay11 (View.ld x0 r0_0) (View.ld x1 r0_0) (View.ld x2 r0_1) (View.ld x3 r0_2) (View.ld x4 r0_1) (View.ld x5 r0_2) -- `v34`
def k0_pay60 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay34 (k0_pay23 (k0_pay57 i x0 x1 x2 x3 x4 x5 x6 x7 x8 x9 x10 x11 x12 x13 x14 x15 x16 x17 x18 x19 x20 x21 x22 x23) (k0_pay18 (k0_pay55 i x0 x1 x2 x3 x4 x5 x6 x7 x8 x9 x10 x11 x12 x13 x14 x15 x16 x17 x18 x19 x20 x21 x22 x23) (k0_pay56 i x0 x1 x2 x3 x4 x5 x6 x7 x8 x9 x10 x11 x12 x13 x14 x15 x16 x17 x18 x19 x20 x21 x22 x23) (k0_pay59 i x0 x1 x2 x3 x4 x5 x6 x7 x8 x9 x10 x11 x12 x13 x14 x15 x16 x17 x18 x19 x20 x21 x22 x23)) (k0_pay19 (k0_pay55 i x0 x1 x2 x3 x4 x5 x6 x7 x8 x9 x10 x11 x12 x13 x14 x15 x16 x17 x18 x19 x20 x21 x22 x23) (k0_pay56 i x0 x1 x2 x3 x4 x5 x6 x7 x8 x9 x10 x11 x12 x13 x14 x15 x16 x17 x18 x19 x20 x21 x22 x23) (k0_pay58 i x0 x1 x2 x3 x4 x5 x6 x7 x8 x9 x10 x11 x12 x13 x14 x15 x16 x17 x18 x19 x20 x21 x22 x23) (k0_pay59 i x0 x1 x2 x3 x4 x5 x6 x7 x8 x9 x10 x11 x12 x13 x14 x15 x16 x17 x18 x19 x20 x21 x22 x23)) (k0_pay20 (k0_pay55 i x0 x1 x2 x3 x4 x5 x6 x7 x8 x9 x10 x11 x12 x13 x14 x15 x16 x17 x18 x19 x20 x21 x22 x23) (k0_pay56 i x0 x1 x2 x3 x4 x5 x6 x7 x8 x9 x10 x11 x12 x13 x14 x15 x16 x17 x18 x19 x20 x21 x22 x23) (k0_pay57 i x0 x1 x2 x3 x4 x5 x6 x7 x8 x9 x10 x11 x12 x13 x14 x15 x16 x17 x18 x19 x20 x21 x22 x23) (k0_pay58 i x0 x1 x2 x3 x4 x5 x6 x7 x8 x9 x10 x11 x12 x13 x14 x15 x16 x17 x18 x19 x20 x21 x22 x23) (k0_pay59 i x0 x1 x2 x3 x4 x5 x6 x7 x8 x9 x10 x11 x12 x13 x14 x15 x16 x17 x18 x19 x20 x21 x22 x23)) (k0_pay21 (k0_pay55 i x0 x1 x2 x3 x4 x5 x6 x7 x8 x9 x10 x11 x12 x13 x14 x15 x16 x17 x18 x19 x20 x21 x22 x23) (k0_pay56 i x0 x1 x2 x3 x4 x5 x6 x7 x8 x9 x10 x11 x12 x13 x14 x15 x16 x17 x18 x19 x20 x21 x22 x23) (k0_pay59 i x0 x1 x2 x3 x4 x5 x6 x7 x8 x9 x10 x11 x12 x13 x14 x15 x16 x17 x18 x19 x20 x21 x22 x23)) (k0_pay22 (k0_pay57 i x0 x1 x2 x3 x4 x5 x6 x7 x8 x9 x10 x11 x12 x13 x14 x15 x16 x17 x18 x19 x20 x21 x22 x23))) (k0_pay24 (k0_pay52 i x0 x1 x2 x3 x4 x5 x6 x7 x8 x9 x10 x11 x12 x13 x14 x15 x16 x17 x18 x19 x20 x21 x22 x23)) (k0_pay25 (k0_pay53 i x0 x1 x2 x3 x4 x5 x6 x7 x8 x9 x10 x11 x12 x13 x14 x15 x16 x17 x18 x19 x20 x21 x22 x23)) (k0_pay26 (k0_pay54 i x0 x1 x2 x3 x4 x5 x6 x7 x8 x9 x10 x11 x12 x13 x14 x15 x16 x17 x18 x19 x20 x21 x22 x23)) (k0_pay28 (k0_pay52 i x0 x1 x2 x3 x4 x5 x6 x7 x8 x9 x10 x11 x12 x13 x14 x15 x16 x17 x18 x19 x20 x21 x22 x23) (k0_pay53 i x0 x1 x2 x3 x4 x5 x6 x7 x8 x9 x10 x11 x12 x13 x14 x15 x16 x17 x18 x19 x20 x21 x22 x23)) (k0_pay30 (k0_pay52 i x0 x1 x2 x3 x4 x5 x6 x7 x8 x9 x10 x11 x12 x13 x14 x15 x16 x17 x18 x19 x20 x21 x22 x23) (k0_pay53 i x0 x1 x2 x3 x4 x5 x6 x7 x8 x9 x10 x11 x12 x13 x14 x15 x16 x17 x18 x19 x20 x21 x22 x23)) (k0_pay32 (k0_pay52 i x0 x1 x2 x3 x4 x5 x6 x7 x8 x9 x10 x11 x12 x13 x14 x15 x16 x17 x18 x19 x20 x21 x22 x23) (k0_pay53 i x0 x1 x2 x3 x4 x5 x6 x7 x8 x9 x10 x11 x12 x13 x14 x15 x16 x17 x18 x19 x20 x21 x22 x23) (k0_pay54 i x0 x1 x2 x3 x4 x5 x6 x7 x8 x9 x10 x11 x12 x13 x14 x15 x16 x17 x18 x19 x20 x21 x22 x23)) (k0_pay33 (k0_pay52 i x0 x1 x2 x3 x4 x5 x6 x7 x8 x9 x10 x11 x12 x13 x14 x15 x16 x17 x18 x19 x20 x21 x22 x23) (k0_pay53 i x0 x1 x2 x3 x4 x5 x6 x7 x8 x9 x10 x11 x12 x13 x14 x15 x16 x17 x18 x19 x20 x21 x22 x23) (k0_pay54 i x0 x1 x2 x3 x4 x5 x6 x7 x8 x9 x10 x11 x12 x13 x14 x15 x16 x17 x18 x19 x20 x21 x22 x23)) -- `v179`
def k0_pay61 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay39 (k0_pay35 (k0_pay60 i x0 x1 x2 x3 x4 x5 x6 x7 x8 x9 x10 x11 x12 x13 x14 x15 x16 x17 x18 x19 x20 x21 x22 x23) (View.ld x8 r0_1) (View.ld x9 r0_2)) (k0_pay36 (k0_pay60 i x0 x1 x2 x3 x4 x5 x6 x7 x8 x9 x10 x11 x12 x13 x14 x15 x16 x17 x18 x19 x20 x21 x22 x23) (View.ld x8 r0_1) (View.ld x9 r0_2)) (k0_pay37 (k0_pay60 i x0 x1 x2 x3 x4 x5 x6 x7 x8 x9 x10 x11 x12 x13 x14 x15 x16 x17 x18 x19 x20 x21 x22 x23) (View.ld x8 r0_1) (View.ld x9 r0_2)) (k0_pay38 (k0_pay60 i x0 x1 x2 x3 x4 x5 x6 x7 x8 x9 x10 x11 x12 x13 x14 x15 x16 x17 x18 x19 x20 x21 x22 x23) (View.ld x8 r0_1) (View.ld x9 r0_2)) (View.ld x10 r0_2) (View.ld x11 r0_2) -- `v287`
def k0_pay62 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x128 .f32 :=
  k0_pay40 (k0_pay51 i x0 x1 x2 x3 x4 x5 x6 x7 x8 x9 x10 x11 x12 x13 x14 x15 x16 x17 x18 x19 x20 x21 x22 x23) (k0_pay61 i x0 x1 x2 x3 x4 x5 x6 x7 x8 x9 x10 x11 x12 x13 x14 x15 x16 x17 x18 x19 x20 x21 x22 x23) (View.ld x14 r0_3) (View.ld x15 r0_4) (View.ld x16 r0_5) (View.ld x17 r0_2) -- `v310`
def k0_pay63 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x8 .f32 :=
  k0_pay41 (k0_pay51 i x0 x1 x2 x3 x4 x5 x6 x7 x8 x9 x10 x11 x12 x13 x14 x15 x16 x17 x18 x19 x20 x21 x22 x23) (k0_pay61 i x0 x1 x2 x3 x4 x5 x6 x7 x8 x9 x10 x11 x12 x13 x14 x15 x16 x17 x18 x19 x20 x21 x22 x23) (View.ld x14 r0_3) (View.ld x15 r0_4) (View.ld x16 r0_5) (View.ld x17 r0_2) -- `v333`
def k0_pay64 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x1 .f32 :=
  k0_pay42 (k0_pay62 i x0 x1 x2 x3 x4 x5 x6 x7 x8 x9 x10 x11 x12 x13 x14 x15 x16 x17 x18 x19 x20 x21 x22 x23) (k0_pay63 i x0 x1 x2 x3 x4 x5 x6 x7 x8 x9 x10 x11 x12 x13 x14 x15 x16 x17 x18 x19 x20 x21 x22 x23) -- `v352`
def k0_pay65 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x2 .f32 :=
  k0_pay43 (k0_pay62 i x0 x1 x2 x3 x4 x5 x6 x7 x8 x9 x10 x11 x12 x13 x14 x15 x16 x17 x18 x19 x20 x21 x22 x23) (k0_pay63 i x0 x1 x2 x3 x4 x5 x6 x7 x8 x9 x10 x11 x12 x13 x14 x15 x16 x17 x18 x19 x20 x21 x22 x23) -- `v392`
def k0_pay66 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S2048x32 .f32 :=
  k0_pay45 (k0_pay51 i x0 x1 x2 x3 x4 x5 x6 x7 x8 x9 x10 x11 x12 x13 x14 x15 x16 x17 x18 x19 x20 x21 x22 x23) (k0_pay61 i x0 x1 x2 x3 x4 x5 x6 x7 x8 x9 x10 x11 x12 x13 x14 x15 x16 x17 x18 x19 x20 x21 x22 x23) (k0_pay62 i x0 x1 x2 x3 x4 x5 x6 x7 x8 x9 x10 x11 x12 x13 x14 x15 x16 x17 x18 x19 x20 x21 x22 x23) (k0_pay64 i x0 x1 x2 x3 x4 x5 x6 x7 x8 x9 x10 x11 x12 x13 x14 x15 x16 x17 x18 x19 x20 x21 x22 x23) (k0_pay65 i x0 x1 x2 x3 x4 x5 x6 x7 x8 x9 x10 x11 x12 x13 x14 x15 x16 x17 x18 x19 x20 x21 x22 x23) (View.ld x12 r0_2) (View.ld x13 r0_2) (View.ld x18 r0_1) (View.ld x19 r0_2) (View.ld x20 r0_6) -- `v432`
def k0_pay67 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S1x2048 .f32 :=
  k0_pay46 (k0_pay66 i x0 x1 x2 x3 x4 x5 x6 x7 x8 x9 x10 x11 x12 x13 x14 x15 x16 x17 x18 x19 x20 x21 x22 x23) (View.ld x21 r0_7) (View.ld x22 r0_8) (View.ld x23 r0_9) -- `v457`
def k0_pay68 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : FVec F S1x128 .f32 :=
  k0_pay47 (k0_pay66 i x0 x1 x2 x3 x4 x5 x6 x7 x8 x9 x10 x11 x12 x13 x14 x15 x16 x17 x18 x19 x20 x21 x22 x23) (View.ld x21 r0_7) (View.ld x22 r0_8) (View.ld x23 r0_9) -- `v482`

/-- Window 24's staging buffer after the body, from the input windows' blocks: its 1 store as pieces, LAST
    FIRST . -/
def out0_24 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : Vec F S1x2048x128 .f32 :=
  View.canon [⟨r0_0, k0_pay2 (k0_pay44 (k0_pay51 i x0 x1 x2 x3 x4 x5 x6 x7 x8 x9 x10 x11 x12 x13 x14 x15 x16 x17 x18 x19 x20 x21 x22 x23) (k0_pay61 i x0 x1 x2 x3 x4 x5 x6 x7 x8 x9 x10 x11 x12 x13 x14 x15 x16 x17 x18 x19 x20 x21 x22 x23) (k0_pay62 i x0 x1 x2 x3 x4 x5 x6 x7 x8 x9 x10 x11 x12 x13 x14 x15 x16 x17 x18 x19 x20 x21 x22 x23) (k0_pay64 i x0 x1 x2 x3 x4 x5 x6 x7 x8 x9 x10 x11 x12 x13 x14 x15 x16 x17 x18 x19 x20 x21 x22 x23) (k0_pay65 i x0 x1 x2 x3 x4 x5 x6 x7 x8 x9 x10 x11 x12 x13 x14 x15 x16 x17 x18 x19 x20 x21 x22 x23) (View.ld x12 r0_2) (View.ld x13 r0_2))⟩]

/-- Its stores tile the buffer (checked by evaluation), so they cover it. -/
theorem cover0_24 (p0 : Vec F S1x2048x128 .f32) (y : S1x2048x128.Idx) :
    ∃ pc ∈ ([⟨r0_0, p0⟩] : List (View.Piece (Elt F) S1x2048x128 .f32)), y ∈ pc.1.set :=
  View.cover_of_tiled [⟨r0_0, p0⟩] S1x2048x128.size (by rfl) y

/-- Window 25's staging buffer after the body, from the input windows' blocks: its 1 store as pieces, LAST
    FIRST . -/
def out0_25 (i : grid0.Coords) (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) : Vec F S1x1x1024 .i32 :=
  View.canon [⟨r0_10, k0_pay1 (BitVec.ofNat 32 (i 0).val) (k0_pay48 (k0_pay67 i x0 x1 x2 x3 x4 x5 x6 x7 x8 x9 x10 x11 x12 x13 x14 x15 x16 x17 x18 x19 x20 x21 x22 x23) (k0_pay68 i x0 x1 x2 x3 x4 x5 x6 x7 x8 x9 x10 x11 x12 x13 x14 x15 x16 x17 x18 x19 x20 x21 x22 x23)) (iota .tc S2048x1 32 [0] iota_S2048x1_d0_w32) (iota .tc S1x2048 32 [1] iota_S1x2048_d1_w32) (k0_pay49 (k0_pay67 i x0 x1 x2 x3 x4 x5 x6 x7 x8 x9 x10 x11 x12 x13 x14 x15 x16 x17 x18 x19 x20 x21 x22 x23) (k0_pay68 i x0 x1 x2 x3 x4 x5 x6 x7 x8 x9 x10 x11 x12 x13 x14 x15 x16 x17 x18 x19 x20 x21 x22 x23)) (k0_pay50 (k0_pay67 i x0 x1 x2 x3 x4 x5 x6 x7 x8 x9 x10 x11 x12 x13 x14 x15 x16 x17 x18 x19 x20 x21 x22 x23) (k0_pay68 i x0 x1 x2 x3 x4 x5 x6 x7 x8 x9 x10 x11 x12 x13 x14 x15 x16 x17 x18 x19 x20 x21 x22 x23))⟩]

/-- Its stores tile the buffer (checked by evaluation), so they cover it. -/
theorem cover0_25 (p0 : Vec F S1x1x1024 .i32) (y : S1x1x1024.Idx) :
    ∃ pc ∈ ([⟨r0_10, p0⟩] : List (View.Piece (Elt F) S1x1x1024 .i32)), y ∈ pc.1.set :=
  View.cover_of_tiled [⟨r0_10, p0⟩] S1x1x1024.size (by rfl) y

/-! ## The body's triple -/

set_option maxHeartbeats 24639850 in
/-- The body on whole staging buffers, the inputs' at contents `xW`, leaves the inputs' as they were and each output's at
    `out0_W` of them. -/
theorem sound_kernel (c : Dev nD) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x512 .f32) (harg15 : arg15.IsWhole) (arg16 : Memref sig .tc .vmem S1x512 .f32) (harg16 : arg16.IsWhole) (arg17 : Memref sig .tc .vmem S512x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x32 .f32) (harg21 : arg21.IsWhole) (arg22 : Memref sig .tc .vmem S1x32 .f32) (harg22 : arg22.IsWhole) (arg23 : Memref sig .tc .vmem S32x1 .f32) (harg23 : arg23.IsWhole) (arg24 : Memref sig .tc .vmem S1x1 .f32) (harg24 : arg24.IsWhole) (arg25 : Memref sig .tc .vmem S1x2048x128 .f32) (harg25 : arg25.IsWhole) (arg26 : Memref sig .tc .vmem S1x1x1024 .i32) (harg26 : arg26.IsWhole)
    (x0 : Vec F S1x2048x128 .f32) (x1 : Vec F S1x2048x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x512 .f32) (x15 : Vec F S1x512 .f32) (x16 : Vec F S512x128 .f32) (x17 : Vec F S1x128 .f32) (x18 : Vec F S128x128 .f32) (x19 : Vec F S1x128 .f32) (x20 : Vec F S128x32 .f32) (x21 : Vec F S1x32 .f32) (x22 : Vec F S32x1 .f32) (x23 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 i x0 x1 x2 x3 x4 x5 x6 x7 x8 x9 x10 x11 x12 x13 x14 x15 x16 x17 x18 x19 x20 x21 x22 x23) ∗ owns (c : Thread nD τ) arg26 fullShare (out0_25 i x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0__enc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__enc_body_eq_skeleton]; unfold cc0__enc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- The proof data of the TensorCore call's pipeline on core `c`: the arrays as the call finds them (`VE`); after the body
    at a point each input's buffer at its block and each output's at `out0_W` of the blocks; the invariant is the scoped
    buffers that no window stages; the core owes the SparseCore call's start signals throughout. -/
def dat (c : Dev nD) : Dat τ (Elt F) (HIx 1) ℕ UU ℕ cfg0 c where
  A w := VE c (Pipeline.arrRef spec0 w)
  after w t := match w with
    | ⟨0, _⟩ => iblk VE c 0 t
    | ⟨1, _⟩ => iblk VE c 1 t
    | ⟨2, _⟩ => iblk VE c 2 t
    | ⟨3, _⟩ => iblk VE c 3 t
    | ⟨4, _⟩ => iblk VE c 4 t
    | ⟨5, _⟩ => iblk VE c 5 t
    | ⟨6, _⟩ => iblk VE c 6 t
    | ⟨7, _⟩ => iblk VE c 7 t
    | ⟨8, _⟩ => iblk VE c 8 t
    | ⟨9, _⟩ => iblk VE c 9 t
    | ⟨10, _⟩ => iblk VE c 10 t
    | ⟨11, _⟩ => iblk VE c 11 t
    | ⟨12, _⟩ => iblk VE c 12 t
    | ⟨13, _⟩ => iblk VE c 13 t
    | ⟨14, _⟩ => iblk VE c 14 t
    | ⟨15, _⟩ => iblk VE c 15 t
    | ⟨16, _⟩ => iblk VE c 16 t
    | ⟨17, _⟩ => iblk VE c 17 t
    | ⟨18, _⟩ => iblk VE c 18 t
    | ⟨19, _⟩ => iblk VE c 19 t
    | ⟨20, _⟩ => iblk VE c 20 t
    | ⟨21, _⟩ => iblk VE c 21 t
    | ⟨22, _⟩ => iblk VE c 22 t
    | ⟨23, _⟩ => iblk VE c 23 t
    | ⟨24, _⟩ => out0_24 (grid0.coords t) (iblk VE c 0 t) (iblk VE c 1 t) (iblk VE c 2 t) (iblk VE c 3 t) (iblk VE c 4 t) (iblk VE c 5 t) (iblk VE c 6 t) (iblk VE c 7 t) (iblk VE c 8 t) (iblk VE c 9 t) (iblk VE c 10 t) (iblk VE c 11 t) (iblk VE c 12 t) (iblk VE c 13 t) (iblk VE c 14 t) (iblk VE c 15 t) (iblk VE c 16 t) (iblk VE c 17 t) (iblk VE c 18 t) (iblk VE c 19 t) (iblk VE c 20 t) (iblk VE c 21 t) (iblk VE c 22 t) (iblk VE c 23 t)
    | ⟨25, _⟩ => out0_25 (grid0.coords t) (iblk VE c 0 t) (iblk VE c 1 t) (iblk VE c 2 t) (iblk VE c 3 t) (iblk VE c 4 t) (iblk VE c 5 t) (iblk VE c 6 t) (iblk VE c 7 t) (iblk VE c 8 t) (iblk VE c 9 t) (iblk VE c 10 t) (iblk VE c 11 t) (iblk VE c 12 t) (iblk VE c 13 t) (iblk VE c 14 t) (iblk VE c 15 t) (iblk VE c 16 t) (iblk VE c 17 t) (iblk VE c 18 t) (iblk VE c 19 t) (iblk VE c 20 t) (iblk VE c 21 t) (iblk VE c 22 t) (iblk VE c 23 t)
    | ⟨_ + 26, h⟩ => absurd h (Nat.not_lt.2 (Nat.le_add_left _ _))
  Φ _ := Pipeline.scopedRest (Ix := HIx 1) (Name := ℕ) (U := UU) (Lvl := ℕ) (Val := Elt F) spec0 c
  q _ := fullShare
  owed _ := (K (F := F)).Otc c 0
  recorded _ := {p | p.2 = none}

/-- The proof data's arrays are as the call finds them. -/
theorem A_eq (c : Dev nD) (w : Fin cfg0.W) : (dat VE c).A w = VE c (Pipeline.arrRef spec0 w) := by
  dsimp only [dat]

/-- What the body leaves, window by window. -/
theorem after0_0 (c : Dev nD) (t : Fin cfg0.N) : (dat VE c).after 0 t = iblk VE c 0 t := by dsimp only [dat]
theorem after0_1 (c : Dev nD) (t : Fin cfg0.N) : (dat VE c).after 1 t = iblk VE c 1 t := by dsimp only [dat]
theorem after0_2 (c : Dev nD) (t : Fin cfg0.N) : (dat VE c).after 2 t = iblk VE c 2 t := by dsimp only [dat]
theorem after0_3 (c : Dev nD) (t : Fin cfg0.N) : (dat VE c).after 3 t = iblk VE c 3 t := by dsimp only [dat]
theorem after0_4 (c : Dev nD) (t : Fin cfg0.N) : (dat VE c).after 4 t = iblk VE c 4 t := by dsimp only [dat]
theorem after0_5 (c : Dev nD) (t : Fin cfg0.N) : (dat VE c).after 5 t = iblk VE c 5 t := by dsimp only [dat]
theorem after0_6 (c : Dev nD) (t : Fin cfg0.N) : (dat VE c).after 6 t = iblk VE c 6 t := by dsimp only [dat]
theorem after0_7 (c : Dev nD) (t : Fin cfg0.N) : (dat VE c).after 7 t = iblk VE c 7 t := by dsimp only [dat]
theorem after0_8 (c : Dev nD) (t : Fin cfg0.N) : (dat VE c).after 8 t = iblk VE c 8 t := by dsimp only [dat]
theorem after0_9 (c : Dev nD) (t : Fin cfg0.N) : (dat VE c).after 9 t = iblk VE c 9 t := by dsimp only [dat]
theorem after0_10 (c : Dev nD) (t : Fin cfg0.N) : (dat VE c).after 10 t = iblk VE c 10 t := by dsimp only [dat]
theorem after0_11 (c : Dev nD) (t : Fin cfg0.N) : (dat VE c).after 11 t = iblk VE c 11 t := by dsimp only [dat]
theorem after0_12 (c : Dev nD) (t : Fin cfg0.N) : (dat VE c).after 12 t = iblk VE c 12 t := by dsimp only [dat]
theorem after0_13 (c : Dev nD) (t : Fin cfg0.N) : (dat VE c).after 13 t = iblk VE c 13 t := by dsimp only [dat]
theorem after0_14 (c : Dev nD) (t : Fin cfg0.N) : (dat VE c).after 14 t = iblk VE c 14 t := by dsimp only [dat]
theorem after0_15 (c : Dev nD) (t : Fin cfg0.N) : (dat VE c).after 15 t = iblk VE c 15 t := by dsimp only [dat]
theorem after0_16 (c : Dev nD) (t : Fin cfg0.N) : (dat VE c).after 16 t = iblk VE c 16 t := by dsimp only [dat]
theorem after0_17 (c : Dev nD) (t : Fin cfg0.N) : (dat VE c).after 17 t = iblk VE c 17 t := by dsimp only [dat]
theorem after0_18 (c : Dev nD) (t : Fin cfg0.N) : (dat VE c).after 18 t = iblk VE c 18 t := by dsimp only [dat]
theorem after0_19 (c : Dev nD) (t : Fin cfg0.N) : (dat VE c).after 19 t = iblk VE c 19 t := by dsimp only [dat]
theorem after0_20 (c : Dev nD) (t : Fin cfg0.N) : (dat VE c).after 20 t = iblk VE c 20 t := by dsimp only [dat]
theorem after0_21 (c : Dev nD) (t : Fin cfg0.N) : (dat VE c).after 21 t = iblk VE c 21 t := by dsimp only [dat]
theorem after0_22 (c : Dev nD) (t : Fin cfg0.N) : (dat VE c).after 22 t = iblk VE c 22 t := by dsimp only [dat]
theorem after0_23 (c : Dev nD) (t : Fin cfg0.N) : (dat VE c).after 23 t = iblk VE c 23 t := by dsimp only [dat]
theorem after0_24 (c : Dev nD) (t : Fin cfg0.N) : (dat VE c).after 24 t = out0_24 (grid0.coords t) (iblk VE c 0 t) (iblk VE c 1 t) (iblk VE c 2 t) (iblk VE c 3 t) (iblk VE c 4 t) (iblk VE c 5 t) (iblk VE c 6 t) (iblk VE c 7 t) (iblk VE c 8 t) (iblk VE c 9 t) (iblk VE c 10 t) (iblk VE c 11 t) (iblk VE c 12 t) (iblk VE c 13 t) (iblk VE c 14 t) (iblk VE c 15 t) (iblk VE c 16 t) (iblk VE c 17 t) (iblk VE c 18 t) (iblk VE c 19 t) (iblk VE c 20 t) (iblk VE c 21 t) (iblk VE c 22 t) (iblk VE c 23 t) := by dsimp only [dat]
theorem after0_25 (c : Dev nD) (t : Fin cfg0.N) : (dat VE c).after 25 t = out0_25 (grid0.coords t) (iblk VE c 0 t) (iblk VE c 1 t) (iblk VE c 2 t) (iblk VE c 3 t) (iblk VE c 4 t) (iblk VE c 5 t) (iblk VE c 6 t) (iblk VE c 7 t) (iblk VE c 8 t) (iblk VE c 9 t) (iblk VE c 10 t) (iblk VE c 11 t) (iblk VE c 12 t) (iblk VE c 13 t) (iblk VE c 14 t) (iblk VE c 15 t) (iblk VE c 16 t) (iblk VE c 17 t) (iblk VE c 18 t) (iblk VE c 19 t) (iblk VE c 20 t) (iblk VE c 21 t) (iblk VE c 22 t) (iblk VE c 23 t) := by dsimp only [dat]

/-- Each input's current staging buffer holds its block at every point, fetched there or not (`beforeK_W_of`). -/
theorem before0_0 (c : Dev nD) (t : Fin cfg0.N) (d) : (dat VE c).before 0 t d = iblk VE c 0 t :=
  before0_0_of VE (dat VE c) (A_eq VE c 0) (after0_0 VE c) t d
theorem before0_1 (c : Dev nD) (t : Fin cfg0.N) (d) : (dat VE c).before 1 t d = iblk VE c 1 t :=
  before0_1_of VE (dat VE c) (A_eq VE c 1) (after0_1 VE c) t d
theorem before0_2 (c : Dev nD) (t : Fin cfg0.N) (d) : (dat VE c).before 2 t d = iblk VE c 2 t :=
  before0_2_of VE (dat VE c) (A_eq VE c 2) (after0_2 VE c) t d
theorem before0_3 (c : Dev nD) (t : Fin cfg0.N) (d) : (dat VE c).before 3 t d = iblk VE c 3 t :=
  before0_3_of VE (dat VE c) (A_eq VE c 3) (after0_3 VE c) t d
theorem before0_4 (c : Dev nD) (t : Fin cfg0.N) (d) : (dat VE c).before 4 t d = iblk VE c 4 t :=
  before0_4_of VE (dat VE c) (A_eq VE c 4) (after0_4 VE c) t d
theorem before0_5 (c : Dev nD) (t : Fin cfg0.N) (d) : (dat VE c).before 5 t d = iblk VE c 5 t :=
  before0_5_of VE (dat VE c) (A_eq VE c 5) (after0_5 VE c) t d
theorem before0_6 (c : Dev nD) (t : Fin cfg0.N) (d) : (dat VE c).before 6 t d = iblk VE c 6 t :=
  before0_6_of VE (dat VE c) (A_eq VE c 6) (after0_6 VE c) t d
theorem before0_7 (c : Dev nD) (t : Fin cfg0.N) (d) : (dat VE c).before 7 t d = iblk VE c 7 t :=
  before0_7_of VE (dat VE c) (A_eq VE c 7) (after0_7 VE c) t d
theorem before0_8 (c : Dev nD) (t : Fin cfg0.N) (d) : (dat VE c).before 8 t d = iblk VE c 8 t :=
  before0_8_of VE (dat VE c) (A_eq VE c 8) (after0_8 VE c) t d
theorem before0_9 (c : Dev nD) (t : Fin cfg0.N) (d) : (dat VE c).before 9 t d = iblk VE c 9 t :=
  before0_9_of VE (dat VE c) (A_eq VE c 9) (after0_9 VE c) t d
theorem before0_10 (c : Dev nD) (t : Fin cfg0.N) (d) : (dat VE c).before 10 t d = iblk VE c 10 t :=
  before0_10_of VE (dat VE c) (A_eq VE c 10) (after0_10 VE c) t d
theorem before0_11 (c : Dev nD) (t : Fin cfg0.N) (d) : (dat VE c).before 11 t d = iblk VE c 11 t :=
  before0_11_of VE (dat VE c) (A_eq VE c 11) (after0_11 VE c) t d
theorem before0_12 (c : Dev nD) (t : Fin cfg0.N) (d) : (dat VE c).before 12 t d = iblk VE c 12 t :=
  before0_12_of VE (dat VE c) (A_eq VE c 12) (after0_12 VE c) t d
theorem before0_13 (c : Dev nD) (t : Fin cfg0.N) (d) : (dat VE c).before 13 t d = iblk VE c 13 t :=
  before0_13_of VE (dat VE c) (A_eq VE c 13) (after0_13 VE c) t d
theorem before0_14 (c : Dev nD) (t : Fin cfg0.N) (d) : (dat VE c).before 14 t d = iblk VE c 14 t :=
  before0_14_of VE (dat VE c) (A_eq VE c 14) (after0_14 VE c) t d
theorem before0_15 (c : Dev nD) (t : Fin cfg0.N) (d) : (dat VE c).before 15 t d = iblk VE c 15 t :=
  before0_15_of VE (dat VE c) (A_eq VE c 15) (after0_15 VE c) t d
theorem before0_16 (c : Dev nD) (t : Fin cfg0.N) (d) : (dat VE c).before 16 t d = iblk VE c 16 t :=
  before0_16_of VE (dat VE c) (A_eq VE c 16) (after0_16 VE c) t d
theorem before0_17 (c : Dev nD) (t : Fin cfg0.N) (d) : (dat VE c).before 17 t d = iblk VE c 17 t :=
  before0_17_of VE (dat VE c) (A_eq VE c 17) (after0_17 VE c) t d
theorem before0_18 (c : Dev nD) (t : Fin cfg0.N) (d) : (dat VE c).before 18 t d = iblk VE c 18 t :=
  before0_18_of VE (dat VE c) (A_eq VE c 18) (after0_18 VE c) t d
theorem before0_19 (c : Dev nD) (t : Fin cfg0.N) (d) : (dat VE c).before 19 t d = iblk VE c 19 t :=
  before0_19_of VE (dat VE c) (A_eq VE c 19) (after0_19 VE c) t d
theorem before0_20 (c : Dev nD) (t : Fin cfg0.N) (d) : (dat VE c).before 20 t d = iblk VE c 20 t :=
  before0_20_of VE (dat VE c) (A_eq VE c 20) (after0_20 VE c) t d
theorem before0_21 (c : Dev nD) (t : Fin cfg0.N) (d) : (dat VE c).before 21 t d = iblk VE c 21 t :=
  before0_21_of VE (dat VE c) (A_eq VE c 21) (after0_21 VE c) t d
theorem before0_22 (c : Dev nD) (t : Fin cfg0.N) (d) : (dat VE c).before 22 t d = iblk VE c 22 t :=
  before0_22_of VE (dat VE c) (A_eq VE c 22) (after0_22 VE c) t d
theorem before0_23 (c : Dev nD) (t : Fin cfg0.N) (d) : (dat VE c).before 23 t d = iblk VE c 23 t :=
  before0_23_of VE (dat VE c) (A_eq VE c 23) (after0_23 VE c) t d

/-! ## The body obligation, at a generic point -/

/-- What the body is called with at point `t`, -/
def bodyPre (c : Dev nD) (t : Fin cfg0.N) : sProp 𝕄 :=
  iprop((dat VE c).Φ t.castSucc ∗ (dat VE c).owesAt none t.castSucc
    ∗ (∃ d, owns (c : Thread nD τ) (st0_0 t) fullShare ((dat VE c).before 0 t d))
    ∗ (∃ d, owns (c : Thread nD τ) (st0_1 t) fullShare ((dat VE c).before 1 t d))
    ∗ (∃ d, owns (c : Thread nD τ) (st0_2 t) fullShare ((dat VE c).before 2 t d))
    ∗ (∃ d, owns (c : Thread nD τ) (st0_3 t) fullShare ((dat VE c).before 3 t d))
    ∗ (∃ d, owns (c : Thread nD τ) (st0_4 t) fullShare ((dat VE c).before 4 t d))
    ∗ (∃ d, owns (c : Thread nD τ) (st0_5 t) fullShare ((dat VE c).before 5 t d))
    ∗ (∃ d, owns (c : Thread nD τ) (st0_6 t) fullShare ((dat VE c).before 6 t d))
    ∗ (∃ d, owns (c : Thread nD τ) (st0_7 t) fullShare ((dat VE c).before 7 t d))
    ∗ (∃ d, owns (c : Thread nD τ) (st0_8 t) fullShare ((dat VE c).before 8 t d))
    ∗ (∃ d, owns (c : Thread nD τ) (st0_9 t) fullShare ((dat VE c).before 9 t d))
    ∗ (∃ d, owns (c : Thread nD τ) (st0_10 t) fullShare ((dat VE c).before 10 t d))
    ∗ (∃ d, owns (c : Thread nD τ) (st0_11 t) fullShare ((dat VE c).before 11 t d))
    ∗ (∃ d, owns (c : Thread nD τ) (st0_12 t) fullShare ((dat VE c).before 12 t d))
    ∗ (∃ d, owns (c : Thread nD τ) (st0_13 t) fullShare ((dat VE c).before 13 t d))
    ∗ (∃ d, owns (c : Thread nD τ) (st0_14 t) fullShare ((dat VE c).before 14 t d))
    ∗ (∃ d, owns (c : Thread nD τ) (st0_15 t) fullShare ((dat VE c).before 15 t d))
    ∗ (∃ d, owns (c : Thread nD τ) (st0_16 t) fullShare ((dat VE c).before 16 t d))
    ∗ (∃ d, owns (c : Thread nD τ) (st0_17 t) fullShare ((dat VE c).before 17 t d))
    ∗ (∃ d, owns (c : Thread nD τ) (st0_18 t) fullShare ((dat VE c).before 18 t d))
    ∗ (∃ d, owns (c : Thread nD τ) (st0_19 t) fullShare ((dat VE c).before 19 t d))
    ∗ (∃ d, owns (c : Thread nD τ) (st0_20 t) fullShare ((dat VE c).before 20 t d))
    ∗ (∃ d, owns (c : Thread nD τ) (st0_21 t) fullShare ((dat VE c).before 21 t d))
    ∗ (∃ d, owns (c : Thread nD τ) (st0_22 t) fullShare ((dat VE c).before 22 t d))
    ∗ (∃ d, owns (c : Thread nD τ) (st0_23 t) fullShare ((dat VE c).before 23 t d))
    ∗ (∃ d, owns (c : Thread nD τ) (st0_24 t) fullShare ((dat VE c).before 24 t d))
    ∗ (∃ d, owns (c : Thread nD τ) (st0_25 t) fullShare ((dat VE c).before 25 t d)))

/-- and what it returns. -/
def bodyPost (c : Dev nD) (t : Fin cfg0.N) : sProp 𝕄 :=
  iprop((dat VE c).Φ t.succ ∗ (dat VE c).owesAt none t.succ
    ∗ owns (c : Thread nD τ) (st0_0 t) fullShare ((dat VE c).after 0 t)
    ∗ owns (c : Thread nD τ) (st0_1 t) fullShare ((dat VE c).after 1 t)
    ∗ owns (c : Thread nD τ) (st0_2 t) fullShare ((dat VE c).after 2 t)
    ∗ owns (c : Thread nD τ) (st0_3 t) fullShare ((dat VE c).after 3 t)
    ∗ owns (c : Thread nD τ) (st0_4 t) fullShare ((dat VE c).after 4 t)
    ∗ owns (c : Thread nD τ) (st0_5 t) fullShare ((dat VE c).after 5 t)
    ∗ owns (c : Thread nD τ) (st0_6 t) fullShare ((dat VE c).after 6 t)
    ∗ owns (c : Thread nD τ) (st0_7 t) fullShare ((dat VE c).after 7 t)
    ∗ owns (c : Thread nD τ) (st0_8 t) fullShare ((dat VE c).after 8 t)
    ∗ owns (c : Thread nD τ) (st0_9 t) fullShare ((dat VE c).after 9 t)
    ∗ owns (c : Thread nD τ) (st0_10 t) fullShare ((dat VE c).after 10 t)
    ∗ owns (c : Thread nD τ) (st0_11 t) fullShare ((dat VE c).after 11 t)
    ∗ owns (c : Thread nD τ) (st0_12 t) fullShare ((dat VE c).after 12 t)
    ∗ owns (c : Thread nD τ) (st0_13 t) fullShare ((dat VE c).after 13 t)
    ∗ owns (c : Thread nD τ) (st0_14 t) fullShare ((dat VE c).after 14 t)
    ∗ owns (c : Thread nD τ) (st0_15 t) fullShare ((dat VE c).after 15 t)
    ∗ owns (c : Thread nD τ) (st0_16 t) fullShare ((dat VE c).after 16 t)
    ∗ owns (c : Thread nD τ) (st0_17 t) fullShare ((dat VE c).after 17 t)
    ∗ owns (c : Thread nD τ) (st0_18 t) fullShare ((dat VE c).after 18 t)
    ∗ owns (c : Thread nD τ) (st0_19 t) fullShare ((dat VE c).after 19 t)
    ∗ owns (c : Thread nD τ) (st0_20 t) fullShare ((dat VE c).after 20 t)
    ∗ owns (c : Thread nD τ) (st0_21 t) fullShare ((dat VE c).after 21 t)
    ∗ owns (c : Thread nD τ) (st0_22 t) fullShare ((dat VE c).after 22 t)
    ∗ owns (c : Thread nD τ) (st0_23 t) fullShare ((dat VE c).after 23 t)
    ∗ owns (c : Thread nD τ) (st0_24 t) fullShare ((dat VE c).after 24 t)
    ∗ owns (c : Thread nD τ) (st0_25 t) fullShare ((dat VE c).after 25 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre VE c t ⊢ wp frame (wpE (defs₀ (F := F)) Variants.none c none) Set.univ (bodyAt0 t) (fun _ => bodyPost VE c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dat VE c).Φ t.succ = (dat VE c).Φ t.castSucc from rfl,
    show (dat VE c).owesAt none t.succ = (dat VE c).owesAt none t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk VE c 0 t) (iblk VE c 1 t) (iblk VE c 2 t) (iblk VE c 3 t) (iblk VE c 4 t) (iblk VE c 5 t) (iblk VE c 6 t) (iblk VE c 7 t) (iblk VE c 8 t) (iblk VE c 9 t) (iblk VE c 10 t) (iblk VE c 11 t) (iblk VE c 12 t) (iblk VE c 13 t) (iblk VE c 14 t) (iblk VE c 15 t) (iblk VE c 16 t) (iblk VE c 17 t) (iblk VE c 18 t) (iblk VE c 19 t) (iblk VE c 20 t) (iblk VE c 21 t) (iblk VE c 22 t) (iblk VE c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated. -/
theorem body_obligation (c : Dev nD) : BodyObligation (dat (F := F) VE c) (defs₀ (F := F)) Variants.none none Set.univ := fun t => by
  rw [bigSep_W0, bigSep_W0, defs₀_row]
  exact triple_restated (sound_body VE c t) rfl .rfl fun _ => .rfl

end Cert.Proof.Whole

end
-- ==== Proof.EncSeg.lean ====
/-
  The TensorCore call as a region of @main: entered from the arrays at any contents, it leaves the layer's output and the
  selected row numbers in its two results and every other array as it was. While it runs, the core owes the start signals
  of the SparseCore call that follows.
-/
module

public import proofs.«01_k».proof.Proof.EncRegion
public import Idealize.ShloMosaic.Lib.Pipeline.RegionArrays

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (VE VP : (c : Dev nD) → (b : Ref sig .tc) → Buf (Elt F) ((c : Thread nD τ).loc b))

/-- The pipeline prefetches no table. -/
abbrev adm : (p : Fin 1) → (pcfgs (F := F) p).Adm := fun p => (cfgs p).toPCfg_adm

/-- The proof data of the program's pipelines: it has one. -/
def pdats : (p : Fin 1) → (c : Dev nD) → Dat τ (Elt F) (HIx 1) ℕ UU ℕ (Pipeline.pin (pcfgs (F := F)) adm p) c
  | 0 => fun c => dat VE c

/-- The TensorCore owes nothing at the waits' own index. -/
theorem Otc_none (d : Dev nD) (g : GSem nD τ sig) : (K (F := F)).Otc d 0 g none = 0 := by
  by_contra h
  have := (K (F := F)).lev_of_Otc_pos (Nat.pos_of_ne_zero h)
  simp [SparseCore.Cfg.lev] at this

/-- The operands' arrays are not the results'. -/
theorem arr_ne : ∀ w : Fin 26, w.val < 24 → Pipeline.arrRef spec0 w ≠ main_v13_0 ∧ Pipeline.arrRef spec0 w ≠ main_v13_1 := by decide

set_option maxHeartbeats 4000000 in
set_option backward.isDefEq.respectTransparency.types false in
/-- The region. -/
def reg (hout24 : ∀ c, VP c main_v13_0 = (dat VE c).arrAt 24 cfg0.N) (hout25 : ∀ c, VP c main_v13_1 = (dat VE c).arrAt 25 cfg0.N)
    (hne : ∀ c (b : Ref sig .tc), b ≠ main_v13_0 → b ≠ main_v13_1 → VP c b = VE c b) :
    Pipeline.RegionSeg (pcfgs (F := F)) adm (pdats VE) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation VE c).loose
  hwaits c := Pipeline.cellsWaits_intro _ _ none 0 c fun w s t => (K (F := F)).mayWait_none _ fun g => Otc_none c g
  pre c := iprop(unscopedBufs c (VE c) ∗ ∃ W, ⌜∀ p ∈ W, p.2 = none⌝ ∗ owes (c : Thread nD τ) ((K (F := F)).Otc c 0) W)
  post c := iprop(unscopedBufs c (VP c) ∗ ∃ W, ⌜∀ p ∈ W, p.2 = none⌝ ∗ owes (c : Thread nD τ) ((K (F := F)).Otc c 0) W)
  X _ := BI.emp
  Y _ := BI.emp
  Z c := Pipeline.unscopedRest (Ix := HIx 1) (Name := ℕ) (U := UU) (Lvl := ℕ) spec0 c (VE c)
  hentry c := by
    rw [Pipeline.ownSems0_none]
    have hsplit := Pipeline.arrays_of_unscopedBufs (p := 0) (pcfgs (F := F)) adm (pdats VE) launch0.win launch0.arr_whole c
      ((pdats VE 0 c).share_full fun _ => rfl) (VE c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats VE 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats VE 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats VE) ((pdats VE 0 c).share_full fun _ => rfl) (VE c) (VP c) ((pdats VE 0 c).arrAt · cfg0.N)
      (fun w => by
        fin_cases w
        on_goal 25 => exact (hout24 c).symm
        on_goal 25 => exact (hout25 c).symm
        all_goals exact ((pdats VE 0 c).arrAt_in _ rfl _).trans (hne c _ (arr_ne _ (by simp)).1 (arr_ne _ (by simp)).2).symm)
      (fun b hb => hne c b (fun h => hb (h ▸ Finset.mem_image.mpr ⟨24, Finset.mem_univ _, rfl⟩))
        (fun h => hb (h ▸ Finset.mem_image.mpr ⟨25, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, h⟩ := h; exact congrArg Prod.snd h
    iexact HO

end Cert.Proof.Whole

end
-- ==== Proof.WholeRun.lean ====
/-
  The run of the whole kernel: the host reshapes, the TensorCore call, the reshapes between the calls, the SparseCore
  call, and the reshapes of its results.
-/
module

public import proofs.«01_k».proof.Proof.WholeCall
public import proofs.«01_k».proof.Proof.EncSeg

@[expose] public section

set_option maxRecDepth 16384

noncomputable section

namespace Cert.Proof.Whole

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr)

variable [FloatOps F]
variable (m : (ℓ : Loc nD τ sig) → Buf (Elt F) ℓ) (ρ : Dev nD → PrngReg)

/-! ## The contents of the arrays -/

abbrev bx : DevRef τ sig := Proc.devRef .tc (main_v14 : Ref sig .tc)
abbrev bp : DevRef τ sig := Proc.devRef .tc (main_v15 : Ref sig .tc)
abbrev bi : DevRef τ sig := Proc.devRef .tc (main_v16 : Ref sig .tc)
abbrev box : DevRef τ sig := Proc.devRef .tc (main_v17_0 : Ref sig .tc)
abbrev bop : DevRef τ sig := Proc.devRef .tc (main_v17_1 : Ref sig .tc)
abbrev be0 : DevRef τ sig := Proc.devRef .tc (main_v13_0 : Ref sig .tc)
abbrev be1 : DevRef τ sig := Proc.devRef .tc (main_v13_1 : Ref sig .tc)

/-- The host operations before the TensorCore call, -/
abbrev opsE : List (HloOp τ sig (Elt F)) :=
  [StableHlo.reshape main_arg3 main_v0 (rfl : (.f32 : EltTy) = .f32) shapeCasts_S128_S1x128,
   StableHlo.reshape main_arg5 main_v1 (rfl : (.f32 : EltTy) = .f32) shapeCasts_S128_S1x128,
   StableHlo.reshape main_arg7 main_v2 (rfl : (.f32 : EltTy) = .f32) shapeCasts_S128_S1x128,
   StableHlo.reshape main_arg9 main_v3 (rfl : (.f32 : EltTy) = .f32) shapeCasts_S128_S1x128,
   StableHlo.reshape main_arg10 main_v4 (rfl : (.f32 : EltTy) = .f32) shapeCasts_S128_S1x128,
   StableHlo.reshape main_arg11 main_v5 (rfl : (.f32 : EltTy) = .f32) shapeCasts_S128_S1x128,
   StableHlo.reshape main_arg12 main_v6 (rfl : (.f32 : EltTy) = .f32) shapeCasts_S128_S1x128,
   StableHlo.reshape main_arg13 main_v7 (rfl : (.f32 : EltTy) = .f32) shapeCasts_S128_S1x128,
   StableHlo.reshape main_arg15 main_v8 (rfl : (.f32 : EltTy) = .f32) shapeCasts_S512_S1x512,
   StableHlo.reshape main_arg17 main_v9 (rfl : (.f32 : EltTy) = .f32) shapeCasts_S128_S1x128,
   StableHlo.reshape main_arg19 main_v10 (rfl : (.f32 : EltTy) = .f32) shapeCasts_S128_S1x128,
   StableHlo.reshape main_arg21 main_v11 (rfl : (.f32 : EltTy) = .f32) shapeCasts_S32_S1x32,
   StableHlo.reshape main_arg23 main_v12 (rfl : (.f32 : EltTy) = .f32) shapeCasts_S1_S1x1]
/-- between the calls, -/
abbrev opsA : List (HloOp τ sig (Elt F)) :=
  [StableHlo.reshape main_v13_0 main_v14 (rfl : (.f32 : EltTy) = .f32) shapeCasts_S4x2048x128_S8192x128,
   StableHlo.reshape main_arg1 main_v15 (rfl : (.f32 : EltTy) = .f32) shapeCasts_S4x2048x128_S8192x128,
   StableHlo.reshape main_v13_1 main_v16 (rfl : (.i32 : EltTy) = .i32) shapeCasts_S4x1x1024_S4096]
/-- and after the SparseCore call. -/
abbrev opsB : List (HloOp τ sig (Elt F)) :=
  [StableHlo.reshape main_v17_0 main_v18 (rfl : (.f32 : EltTy) = .f32) shapeCasts_S4096x128_S4x1024x128,
   StableHlo.reshape main_v17_1 main_v19 (rfl : (.f32 : EltTy) = .f32) shapeCasts_S4096x128_S4x1024x128]

/-- At the TensorCore call, -/
def VI (d : Dev nD) : Valuation τ sig (Elt F) := StableHlo.after opsE (fun b => m (d, b))
/-- the same by the core's own names, -/
abbrev VIr (c : Dev nD) (b : Ref sig .tc) : Buf (Elt F) ((c.tc : Thread nD τ).loc b) := VI m c (Proc.devRef .tc b)
/-- after it, -/
def VO (d : Dev nD) : Valuation τ sig (Elt F) :=
  Function.update (Function.update (VI m d) be0 ((dat (VIr m) d).arrAt 24 cfg0.N)) be1 ((dat (VIr m) d).arrAt 25 cfg0.N)
abbrev VOr (c : Dev nD) (b : Ref sig .tc) : Buf (Elt F) ((c.tc : Thread nD τ).loc b) := VO m c (Proc.devRef .tc b)
/-- at the SparseCore call, -/
def VA (d : Dev nD) : Valuation τ sig (Elt F) := StableHlo.after opsA (VO m d)
abbrev ctx (d : Dev nD) : Buf (Elt F) (xLoc d) := VA m d bx
abbrev ctp (d : Dev nD) : Buf (Elt F) (pLoc d) := VA m d bp
abbrev cix (d : Dev nD) : Buf (Elt F) (iLoc d) := VA m d bi
abbrev co0 (d : Dev nD) : Buf (Elt F) (oxLoc d) := VA m d box
abbrev co1 (d : Dev nD) : Buf (Elt F) (opLoc d) := VA m d bop
/-- after it, -/
def VB (d : Dev nD) : Valuation τ sig (Elt F) :=
  Function.update (Function.update (VA m d) box (gval (ctx m d) (cix m d))) bop (gval (ctp m d) (cix m d))
/-- and at the end. -/
def VC (d : Dev nD) : Valuation τ sig (Elt F) := StableHlo.after opsB (VB m d)

/-- The call's five arrays. -/
abbrev S5 : Finset (DevRef τ sig) := {bi, bx, bp, box, bop}

theorem S5_sub : S5 ⊆ Pipeline.ucRefs τ sig := by
  intro b hb
  simp only [Finset.mem_insert, Finset.mem_singleton] at hb
  rcases hb with rfl | rfl | rfl | rfl | rfl <;> exact Finset.mem_filter.mpr ⟨StableHlo.devRef_mem_tcRefs _, by decide⟩

omit [FloatOps F] in
theorem held_S5 (d : Dev nD) (W : Valuation τ sig (Elt F)) :
    (held (T d) S5 W : sProp 𝕄) = iprop((iLoc d ↦{fullShare} W bi) ∗ (xLoc d ↦{fullShare} W bx) ∗ (pLoc d ↦{fullShare} W bp)
      ∗ (oxLoc d ↦{fullShare} W box) ∗ (opLoc d ↦{fullShare} W bop)) := by
  unfold held S5
  rw [SparseCore.bigSep_insert' (by decide), SparseCore.bigSep_insert' (by decide), SparseCore.bigSep_insert' (by decide),
    SparseCore.bigSep_insert' (by decide), bigSep_singleton]

theorem VB_i (d : Dev nD) : VB m d bi = cix m d := by
  unfold VB; rw [Function.update_of_ne (by decide), Function.update_of_ne (by decide)]
theorem VB_x (d : Dev nD) : VB m d bx = ctx m d := by
  unfold VB; rw [Function.update_of_ne (by decide), Function.update_of_ne (by decide)]
theorem VB_p (d : Dev nD) : VB m d bp = ctp m d := by
  unfold VB; rw [Function.update_of_ne (by decide), Function.update_of_ne (by decide)]
theorem VB_ox (d : Dev nD) : VB m d box = gval (ctx m d) (cix m d) := by
  unfold VB; rw [Function.update_of_ne (by decide), Function.update_self]
theorem VB_op (d : Dev nD) : VB m d bop = gval (ctp m d) (cix m d) := by
  unfold VB; rw [Function.update_self]
theorem VB_of_not_mem (d : Dev nD) {b : DevRef τ sig} (hb : b ∉ S5) : VB m d b = VA m d b := by
  unfold VB
  rw [Function.update_of_ne (fun h => hb (by rw [h]; decide)), Function.update_of_ne (fun h => hb (by rw [h]; decide))]

/-- Before the call the arrays are its operands and the rest; -/
theorem held_before (d : Dev nD) : (held (T d) (Pipeline.ucRefs τ sig) (VA m d) : sProp 𝕄)
    = iprop(((iLoc d ↦{fullShare} cix m d) ∗ (xLoc d ↦{fullShare} ctx m d) ∗ (pLoc d ↦{fullShare} ctp m d)
          ∗ (oxLoc d ↦{fullShare} co0 m d) ∗ (opLoc d ↦{fullShare} co1 m d)) ∗ held (T d) (Pipeline.ucRefs τ sig \ S5) (VA m d)) := by
  rw [held_sub_split (T d) S5_sub, held_S5]
/-- and after it, the two results at the rows gathered. -/
theorem held_after (d : Dev nD) : (held (T d) (Pipeline.ucRefs τ sig) (VB m d) : sProp 𝕄)
    = iprop(((iLoc d ↦{fullShare} cix m d) ∗ (xLoc d ↦{fullShare} ctx m d) ∗ (pLoc d ↦{fullShare} ctp m d)
          ∗ (oxLoc d ↦{fullShare} gval (ctx m d) (cix m d)) ∗ (opLoc d ↦{fullShare} gval (ctp m d) (cix m d)))
        ∗ held (T d) (Pipeline.ucRefs τ sig \ S5) (VA m d)) := by
  rw [held_sub_split (T d) S5_sub, held_S5, VB_i, VB_x, VB_p, VB_ox, VB_op,
    held_congr (T d) fun b hb => VB_of_not_mem m d (Finset.mem_sdiff.mp hb).2]

/-- The TensorCore call's results, at their contents, the other arrays as before it. -/
theorem VO_e0 (d : Dev nD) : VO m d be0 = (dat (VIr m) d).arrAt 24 cfg0.N := by
  unfold VO; rw [Function.update_of_ne (by decide), Function.update_self]
theorem VO_e1 (d : Dev nD) : VO m d be1 = (dat (VIr m) d).arrAt 25 cfg0.N := by
  unfold VO; rw [Function.update_self]
theorem VO_ne (d : Dev nD) (b : Ref sig .tc) (h0 : b ≠ main_v13_0) (h1 : b ≠ main_v13_1) : VOr m d b = VIr m d b := by
  show VO m d (Proc.devRef .tc b) = VI m d (Proc.devRef .tc b)
  unfold VO
  rw [Function.update_of_ne (fun h => h1 (Proc.devRef_injective .tc h)), Function.update_of_ne (fun h => h0 (Proc.devRef_injective .tc h))]

/-- The TensorCore call's region at these contents. -/
abbrev rg : Pipeline.RegionSeg (pcfgs (F := F)) adm (pdats (VIr m)) none defs₀ 𝒱₀ (K (F := F)).L (K (F := F)).lev 0 :=
  reg (VIr m) (VOr m) (VO_e0 m) (VO_e1 m) (VO_ne m)

/-! ## @main -/

abbrev PP : (K (F := F)).Pay (nD := nD) (Val := Elt F) (Name := ℕ) (U := UU) := P (ctx m) (ctp m) (cix m) (co0 m) (co1 m)

/-- What @main leaves the claim: the arrays, at their final contents. -/
abbrev FIN (d : Dev nD) : sProp 𝕄 := held (T d) (Pipeline.ucRefs τ sig) (VC m d)

/-- What the launch deals @main: the staging cells' ghost state and the transfers' duty tokens. -/
def GG (d : Dev nD) : sProp 𝕄 :=
  iprop(Pipeline.cellsGhost (Pipeline.pin (pcfgs (F := F)) adm) EP 0 d ∗ Pipeline.toksInit (Pipeline.pin (pcfgs (F := F)) adm) EP 0 d)

theorem main_eq (d : Dev nD) : main (F := F) d = (do
    StableHlo.seq opsE
    SparseCore.liftProg (Prog.lift (.customCall (Pipeline.entry 0) ()))
    StableHlo.seq opsA
    sc.run d 0
    StableHlo.seq opsB
    pure ⟨⟩) := by
  simp only [main, opsE, opsA, opsB, StableHlo.seq, bind_assoc, pure_bind]
  rfl

omit [FloatOps F] in
/-- Before the first call the core's recorded pairs are at the waits' own index, -/
theorem wBelow_none {d : Dev nD} {W : Waits sig (HIx 1)} (h : (K (F := F)).WBelow (T d) W (8 * SparseCore.Cfg.Blocks.fst (N := 1) (Q := 1) 0)) :
    ∀ p ∈ W, p.2 = none := by
  intro p hp
  have := h p hp
  rcases hι : p.2 with _ | q
  · rfl
  · rw [hι] at this
    have h0 : SparseCore.Cfg.Blocks.fst (N := 1) (Q := 1) 0 = 0 := rfl
    simp [SparseCore.Cfg.lev, h0] at this
omit [FloatOps F] in
/-- and conversely. -/
theorem none_wBelow {d : Dev nD} {W : Waits sig (HIx 1)} (h : ∀ p ∈ W, p.2 = none) :
    (K (F := F)).WBelow (T d) W (8 * SparseCore.Cfg.Blocks.fst (N := 1) (Q := 1) 0) := by
  intro p hp
  rw [h p hp]
  exact Nat.zero_le _

/-- What the TensorCore call takes, -/
abbrev ENTRY (c : Dev nD) : sProp 𝕄 :=
  iprop(unscopedBufs c (VIr m c) ∗ ∃ W, ⌜∀ p ∈ W, p.2 = none⌝ ∗ owes (c.tc : Thread nD τ) ((K (F := F)).Otc c 0) W)
/-- and what it leaves. -/
abbrev EXIT (c : Dev nD) : sProp 𝕄 :=
  iprop(unscopedBufs c (VOr m c) ∗ ∃ W, ⌜∀ p ∈ W, p.2 = none⌝ ∗ owes (c.tc : Thread nD τ) ((K (F := F)).Otc c 0) W)

theorem pre_eq (d : Dev nD) : ENTRY m d = (rg m).pre d := rfl
theorem post_eq (d : Dev nD) : iprop(boundary (d.tc : Thread nD τ) ∗ (rg m).post d) = iprop(boundary (d.tc : Thread nD τ) ∗ EXIT m d) := rfl

/-- The TensorCore call in @main. -/
theorem region (d : Dev nD) (Φ : PUnit → sProp 𝕄) :
    iprop((boundary (d.tc : Thread nD τ) ∗ EXIT m d -∗ Φ ⟨⟩) ∗ boundary (d.tc : Thread nD τ) ∗ ENTRY m d
        ∗ levAts (K (F := F)).L (K (F := F)).lev ∗ GG d)
      ⊢ wp frame (wpE ((K (F := F)).defs (D (F := F))) 𝒱 (T d) none) Set.univ
          (SparseCore.liftProg (Prog.lift (.customCall (Pipeline.entry 0) ()))) Φ := by
  unfold GG
  iintro ⟨Hk, Hb, Hpre, Hlev, Hg, Ht⟩
  iapply ((K (F := F)).wp_liftProg (D (F := F)) 𝒱 (T d) Set.univ none (Prog.lift (.customCall (Pipeline.entry 0) ())) Φ)
  iapply (Pipeline.RegionSeg.wp (pcfgs (F := F)) adm (pdats (VIr m)) none cellOf_inj EP defs₀ 𝒱₀ (K (F := F)).L (K (F := F)).lev (rg m) d none
    (by intro u hu; cases hu) (fun x => .ret x) Φ) $$ [Hk Hb Hpre Hlev Hg Ht]
  isplitl [Hk]
  · iintro H
    rw [wp_ret]
    imodintro
    ihave H' := (Entails.of_eq (post_eq m d)) $$ H
    iapply Hk $$ H'
  isplitl [Hb]; · iexact Hb
  isplitl [Hpre]; · iapply (Entails.of_eq (pre_eq m d)) $$ Hpre
  isplitl [Hlev]; · iexact Hlev
  isplitl [Hg]; · iexact Hg
  iexact Ht

theorem hmain (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (fun b => m (d, b))
    from Pipeline.unscopedBufs_held d (fun b => m (d, b)), main_eq]
  iintro ⟨#Hctx, Hst, ⟨Hb, Hheld, Hts, -⟩, HG⟩
  iapply (StableHlo.wp_seq 𝒱 none Set.univ d (Pipeline.ucRefs τ sig) _ opsE (by
      intro op hop; simp only [List.mem_cons, List.not_mem_nil, or_false] at hop
      rcases hop with rfl | rfl | rfl | rfl | rfl | rfl | rfl | rfl | rfl | rfl | rfl | rfl | rfl <;> exact Pipeline.sub_ucRefs _ (by simp)) (by
      intro op hop; simp only [List.mem_cons, List.not_mem_nil, or_false] at hop
      rcases hop with rfl | rfl | rfl | rfl | rfl | rfl | rfl | rfl | rfl | rfl | rfl | rfl | rfl <;> rfl) (fun b => m (d, b))) $$ [Hb Hheld]
  · isplitl [Hb] <;> iassumption
  iintro ⟨Hb, Hheld⟩
  ihave Hub := (show (held (d.tc : Thread nD τ) (Pipeline.ucRefs τ sig) (StableHlo.after opsE fun b => m (d, b)) : sProp 𝕄) ⊢ unscopedBufs d (VIr m d) from
    Entails.of_eq (Pipeline.unscopedBufs_held d (VI m d)).symm) $$ Hheld
  unfold SparseCore.Cfg.tcSt
  icases Hst with ⟨⟨%W, %hW, HO⟩, Hst⟩
  ihave #Hlev := (SparseCore.Cfg.ctx_levAts κ) $$ Hctx
  rw [wp_bind]
  iapply (region m d _) $$ [Hst HO Hub Hb Hts HG]
  isplitl [Hst Hts]
  rotate_left
  · isplitl [Hb]; · iexact Hb
    isplitl [Hub HO]
    · isplitl [Hub]; · iexact Hub
      iexists W; isplitr; · ipureintro; exact wBelow_none hW
      iexact HO
    isplitr; · iexact Hlev
    iexact HG
  iintro ⟨Hb, Hub, ⟨%W', %hW', HO⟩⟩
  ihave Hheld := (show (unscopedBufs d (VOr m d) : sProp 𝕄) ⊢ held (d.tc : Thread nD τ) (Pipeline.ucRefs τ sig) (VO m d) from
    Entails.of_eq (Pipeline.unscopedBufs_held d (VO m d))) $$ Hub
  iapply (StableHlo.wp_seq 𝒱 none Set.univ d (Pipeline.ucRefs τ sig) _ opsA (by
      intro op hop; simp only [List.mem_cons, List.not_mem_nil, or_false] at hop
      rcases hop with rfl | rfl | rfl <;> exact Pipeline.sub_ucRefs _ (by simp)) (by
      intro op hop; simp only [List.mem_cons, List.not_mem_nil, or_false] at hop
      rcases hop with rfl | rfl | rfl <;> rfl) (VO m d)) $$ [Hb Hheld]
  · isplitl [Hb] <;> iassumption
  iintro ⟨Hb, Hheld⟩
  ihave Hh := (show (held (d.tc : Thread nD τ) (Pipeline.ucRefs τ sig) (StableHlo.after opsA (VO m d)) : sProp 𝕄) ⊢ _ from
    Entails.of_eq (held_before m d)) $$ Hheld
  icases Hh with ⟨Hops, Hrest⟩
  rw [wp_bind]
  iapply ((K (F := F)).wp_run (D (F := F)) 𝒱 (EH := EH) (P := PP m) κ d 0) $$ [Hst HO Hops Hb Hrest Hts]
  isplitr; · iexact Hctx
  isplitl [Hst HO]
  · unfold SparseCore.Cfg.tcSt
    isplitl [HO]
    · iexists W'; isplitr; · ipureintro; exact none_wBelow hW'
      iexact HO
    iexact Hst
  isplitl [Hops]
  · rw [st0_eq]; iexact Hops
  iintro ⟨Hst, Hdn⟩
  ihave Hdn' := (Entails.of_eq (dn0_eq (ctx m) (ctp m) (cix m) (co0 m) (co1 m) d)) $$ Hdn
  iapply (StableHlo.wp_seq 𝒱 none Set.univ d (Pipeline.ucRefs τ sig) _ opsB (by
      intro op hop; simp only [List.mem_cons, List.not_mem_nil, or_false] at hop
      rcases hop with rfl | rfl <;> exact Pipeline.sub_ucRefs _ (by simp)) (by
      intro op hop; simp only [List.mem_cons, List.not_mem_nil, or_false] at hop
      rcases hop with rfl | rfl <;> rfl) (VB m d)) $$ [Hb Hdn' Hrest]
  · isplitl [Hb]; · iexact Hb
    rw [held_after]
    isplitl [Hdn']; · iexact Hdn'
    iexact Hrest
  iintro ⟨Hb, Hheld⟩
  rw [wp_pure]; imodintro
  unfold SparseCore.Cfg.tcSt
  isplitl [Hst]; · iexact Hst
  isplitl [Hheld]; · iexact Hheld
  isplitl [Hb] <;> iassumption

/-! ## The final memory -/

def fq (d : Dev nD) (s' : Phys nD τ sig (Elt F)) : Prop := ∀ b ∈ Pipeline.ucRefs τ sig, s'.mem.mem (d, b) = VC m d b

omit [FloatOps F] in
/-- Arrays held at a valuation are at it in memory. -/
theorem held_agree (d : Dev nD) (s' : Phys nD τ sig (Elt F)) (V : Valuation τ sig (Elt F)) (S : Finset (DevRef τ sig)) :
    iprop(held (T d) S V ∗ SI s') ⊢ (⌜∀ b ∈ S, s'.mem.mem (d, b) = V b⌝ : sProp 𝕄) := by
  induction S using Finset.induction_on with
  | empty => iintro -; ipureintro; exact fun b hb => absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := V a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m d ∗ SI s') ⊢ (⌜fq m d s'⌝ : sProp 𝕄) :=
  held_agree d s' (VC m d) _

/-! ## The run -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} from by decide, bigSep_singleton]

/-- The launch element deals every device its share. -/
theorem fund : (BI.own (EP (initOf (Pipeline.cells (Pipeline.pin (pcfgs (F := F)) adm) cellOf_inj)
      (Pipeline.launchToks (Pipeline.pin (pcfgs (F := F)) adm) cellOf_inj))) : sProp 𝕄)
    ⊢ iprop(|==> bigSep Finset.univ fun d : Dev nD => GG d) := by
  iintro H
  imod (Pipeline.fund_ghost (Pipeline.pin (pcfgs (F := F)) adm) EP cellOf_inj) $$ H with ⟨Hg, Ht⟩
  imodintro
  unfold GG
  rw [bigSep_sep']
  isplitl [Hg]
  · iapply (Entails.of_eq (bigSep_congr fun c _ => bigSep_fin1 fun p => Pipeline.cellsGhost (Pipeline.pin (pcfgs (F := F)) adm) EP p c)) $$ Hg
  · iapply (Entails.of_eq (bigSep_congr fun c _ => bigSep_fin1 fun p => Pipeline.toksInit (Pipeline.pin (pcfgs (F := F)) adm) EP p c)) $$ Ht

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H2 := (own_pair_emb embR _ _) $$ HR
  icases H2 with ⟨HP, -⟩
  imod (show (BI.own (((Emb.inl : Emb UP (UP × Counters)).trans embR) (initOf (Pipeline.cells (Pipeline.pin (pcfgs (F := F)) adm) cellOf_inj)
      (Pipeline.launchToks (Pipeline.pin (pcfgs (F := F)) adm) cellOf_inj))) : sProp 𝕄) ⊢ iprop(|==> bigSep Finset.univ fun d : Dev nD => GG d) from fund) $$ HP with HG
  imodintro
  isplitl [HH]; · iexact HH
  isplitl [HG]; · iexact HG
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- Every array ends at its final contents, every semaphore at zero. -/
def QC : PUnit × MemSt nD τ sig (Elt F) → Prop := fun r =>
  (∀ c : Dev nD, ∀ b ∈ Pipeline.ucRefs τ sig, r.2.mem (c, b) = VC m c b) ∧ r.2.sem = fun _ => 0

theorem run_main [∀ e, Nonempty (Elt F e)] (hpre : PreOK (cix m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ctx m) (ctp m) (cix m) (co0 m) (co1 m) facts hpre)
    (fun q _ => match q with | 0 => SparseCore.Cfg.VecSplit.of_plain (vecSplit (ctx m) (ctp m) (cix m) (co0 m) (co1 m)))
    m ρ main GG (FIN m) (u₀ (F := F)) (sep_elim_left.trans (hu₀ m)) (hmain m ρ) (fq m) (hfin m) (QC m) (fun _ h hz => ⟨h, hz⟩)

end Cert.Proof.Whole

end
-- ==== Proof.EncBlocks.lean ====
/-
  The TensorCore call's operands and results block by block: what a grid point reads is a sequence of the batch or a whole
  weight array, and each result is, sequence by sequence, what the body leaves.
-/
module

public import proofs.«01_k».proof.Proof.EncRegion
public import Idealize.ShloMosaic.Lib.Pipeline.ValueKit.Geometry
public import Idealize.ShloMosaic.Lib.Pipeline.Value
public import Idealize.ShloMosaic.Lib.Pointwise

@[expose] public section

set_option maxRecDepth 16384

noncomputable section

namespace Cert.Proof.Whole

open Cert.KernelIdeal Cert.KernelIdeal.Gen
open Idealize.ShloMosaic Idealize.ShloMosaic.TcCoe
open Idealize.ShloMosaic.Pipeline (Dat Cfg Window)

variable {F : FTy → Type} [FloatOps F]
variable (VE : (c : Dev nD) → (b : Ref sig .tc) → Buf (Elt F) ((c : Thread nD τ).loc b))

/-- The grid point of sequence `b`. -/
def pt (b : Fin 4) : Fin cfg0.N := ⟨b.val, b.isLt⟩

theorem coords_pt (b : Fin 4) : (grid0.coords (pt b) 0).val = b.val :=
  (by decide +kernel : ∀ t : Fin grid0.N, (grid0.coords t 0).val = t.val) (pt b)

/-! ## Where the windows' blocks are -/

theorem idx_0 : ∀ t : Fin cfg0.N, win0_0.index t = ![t.val, 0, 0] := (by decide +kernel : ∀ t : Fin grid0.N, win0_0.index t = ![t.val, 0, 0])
theorem idx_1 : ∀ t : Fin cfg0.N, win0_1.index t = ![t.val, 0, 0] := (by decide +kernel : ∀ t : Fin grid0.N, win0_1.index t = ![t.val, 0, 0])
theorem idx_24 : ∀ t : Fin cfg0.N, win0_24.index t = ![t.val, 0, 0] := (by decide +kernel : ∀ t : Fin grid0.N, win0_24.index t = ![t.val, 0, 0])
theorem idx_25 : ∀ t : Fin cfg0.N, win0_25.index t = ![t.val, 0, 0] := (by decide +kernel : ∀ t : Fin grid0.N, win0_25.index t = ![t.val, 0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![0, 0] := (by decide +kernel : ∀ t : Fin grid0.N, win0_6.index t = ![0, 0])
theorem idx_7 : ∀ t : Fin cfg0.N, win0_7.index t = ![0, 0] := (by decide +kernel : ∀ t : Fin grid0.N, win0_7.index t = ![0, 0])
theorem idx_8 : ∀ t : Fin cfg0.N, win0_8.index t = ![0, 0] := (by decide +kernel : ∀ t : Fin grid0.N, win0_8.index t = ![0, 0])
theorem idx_9 : ∀ t : Fin cfg0.N, win0_9.index t = ![0, 0] := (by decide +kernel : ∀ t : Fin grid0.N, win0_9.index t = ![0, 0])
theorem idx_10 : ∀ t : Fin cfg0.N, win0_10.index t = ![0, 0] := (by decide +kernel : ∀ t : Fin grid0.N, win0_10.index t = ![0, 0])
theorem idx_11 : ∀ t : Fin cfg0.N, win0_11.index t = ![0, 0] := (by decide +kernel : ∀ t : Fin grid0.N, win0_11.index t = ![0, 0])
theorem idx_12 : ∀ t : Fin cfg0.N, win0_12.index t = ![0, 0] := (by decide +kernel : ∀ t : Fin grid0.N, win0_12.index t = ![0, 0])
theorem idx_13 : ∀ t : Fin cfg0.N, win0_13.index t = ![0, 0] := (by decide +kernel : ∀ t : Fin grid0.N, win0_13.index t = ![0, 0])
theorem idx_14 : ∀ t : Fin cfg0.N, win0_14.index t = ![0, 0] := (by decide +kernel : ∀ t : Fin grid0.N, win0_14.index t = ![0, 0])
theorem idx_15 : ∀ t : Fin cfg0.N, win0_15.index t = ![0, 0] := (by decide +kernel : ∀ t : Fin grid0.N, win0_15.index t = ![0, 0])
theorem idx_16 : ∀ t : Fin cfg0.N, win0_16.index t = ![0, 0] := (by decide +kernel : ∀ t : Fin grid0.N, win0_16.index t = ![0, 0])
theorem idx_17 : ∀ t : Fin cfg0.N, win0_17.index t = ![0, 0] := (by decide +kernel : ∀ t : Fin grid0.N, win0_17.index t = ![0, 0])
theorem idx_18 : ∀ t : Fin cfg0.N, win0_18.index t = ![0, 0] := (by decide +kernel : ∀ t : Fin grid0.N, win0_18.index t = ![0, 0])
theorem idx_19 : ∀ t : Fin cfg0.N, win0_19.index t = ![0, 0] := (by decide +kernel : ∀ t : Fin grid0.N, win0_19.index t = ![0, 0])
theorem idx_20 : ∀ t : Fin cfg0.N, win0_20.index t = ![0, 0] := (by decide +kernel : ∀ t : Fin grid0.N, win0_20.index t = ![0, 0])
theorem idx_21 : ∀ t : Fin cfg0.N, win0_21.index t = ![0, 0] := (by decide +kernel : ∀ t : Fin grid0.N, win0_21.index t = ![0, 0])
theorem idx_22 : ∀ t : Fin cfg0.N, win0_22.index t = ![0, 0] := (by decide +kernel : ∀ t : Fin grid0.N, win0_22.index t = ![0, 0])
theorem idx_23 : ∀ t : Fin cfg0.N, win0_23.index t = ![0, 0] := (by decide +kernel : ∀ t : Fin grid0.N, win0_23.index t = ![0, 0])

/-! ## The operands' blocks -/

theorem iblk_0 (c : Dev nD) (b : Fin 4) (i : Fin 2048) (j : Fin 128) :
    (iblk VE c 0 (pt b) : S1x2048x128.Idx → F .f32) (ix3 0 i j) = (VE c main_arg0 : S4x2048x128.Idx → F .f32) (ix3 b i j) := by
  blk_simp [iblk]
  refine congrArg _ ?_
  blk_ext [idx_0, pt]
theorem iblk_1 (c : Dev nD) (b : Fin 4) (i : Fin 2048) (j : Fin 128) :
    (iblk VE c 1 (pt b) : S1x2048x128.Idx → F .f32) (ix3 0 i j) = (VE c main_arg1 : S4x2048x128.Idx → F .f32) (ix3 b i j) := by
  blk_simp [iblk]
  refine congrArg _ ?_
  blk_ext [idx_1, pt]
theorem iblk_2 (c : Dev nD) (b : Fin 4) : (iblk VE c 2 (pt b) : S128x128.Idx → F .f32) = (VE c main_arg2 : S128x128.Idx → F .f32) := by
  funext y
  blk_simp [iblk]
  refine congrArg _ ?_
  blk_ext [idx_2, pt]
theorem iblk_3 (c : Dev nD) (b : Fin 4) : (iblk VE c 3 (pt b) : S1x128.Idx → F .f32) = (VE c main_v0 : S1x128.Idx → F .f32) := by
  funext y
  blk_simp [iblk]
  refine congrArg _ ?_
  blk_ext [idx_3, pt]
theorem iblk_4 (c : Dev nD) (b : Fin 4) : (iblk VE c 4 (pt b) : S128x128.Idx → F .f32) = (VE c main_arg4 : S128x128.Idx → F .f32) := by
  funext y
  blk_simp [iblk]
  refine congrArg _ ?_
  blk_ext [idx_4, pt]
theorem iblk_5 (c : Dev nD) (b : Fin 4) : (iblk VE c 5 (pt b) : S1x128.Idx → F .f32) = (VE c main_v1 : S1x128.Idx → F .f32) := by
  funext y
  blk_simp [iblk]
  refine congrArg _ ?_
  blk_ext [idx_5, pt]
theorem iblk_6 (c : Dev nD) (b : Fin 4) : (iblk VE c 6 (pt b) : S128x128.Idx → F .f32) = (VE c main_arg6 : S128x128.Idx → F .f32) := by
  funext y
  blk_simp [iblk]
  refine congrArg _ ?_
  blk_ext [idx_6, pt]
theorem iblk_7 (c : Dev nD) (b : Fin 4) : (iblk VE c 7 (pt b) : S1x128.Idx → F .f32) = (VE c main_v2 : S1x128.Idx → F .f32) := by
  funext y
  blk_simp [iblk]
  refine congrArg _ ?_
  blk_ext [idx_7, pt]
theorem iblk_8 (c : Dev nD) (b : Fin 4) : (iblk VE c 8 (pt b) : S128x128.Idx → F .f32) = (VE c main_arg8 : S128x128.Idx → F .f32) := by
  funext y
  blk_simp [iblk]
  refine congrArg _ ?_
  blk_ext [idx_8, pt]
theorem iblk_9 (c : Dev nD) (b : Fin 4) : (iblk VE c 9 (pt b) : S1x128.Idx → F .f32) = (VE c main_v3 : S1x128.Idx → F .f32) := by
  funext y
  blk_simp [iblk]
  refine congrArg _ ?_
  blk_ext [idx_9, pt]
theorem iblk_10 (c : Dev nD) (b : Fin 4) : (iblk VE c 10 (pt b) : S1x128.Idx → F .f32) = (VE c main_v4 : S1x128.Idx → F .f32) := by
  funext y
  blk_simp [iblk]
  refine congrArg _ ?_
  blk_ext [idx_10, pt]
theorem iblk_11 (c : Dev nD) (b : Fin 4) : (iblk VE c 11 (pt b) : S1x128.Idx → F .f32) = (VE c main_v5 : S1x128.Idx → F .f32) := by
  funext y
  blk_simp [iblk]
  refine congrArg _ ?_
  blk_ext [idx_11, pt]
theorem iblk_12 (c : Dev nD) (b : Fin 4) : (iblk VE c 12 (pt b) : S1x128.Idx → F .f32) = (VE c main_v6 : S1x128.Idx → F .f32) := by
  funext y
  blk_simp [iblk]
  refine congrArg _ ?_
  blk_ext [idx_12, pt]
theorem iblk_13 (c : Dev nD) (b : Fin 4) : (iblk VE c 13 (pt b) : S1x128.Idx → F .f32) = (VE c main_v7 : S1x128.Idx → F .f32) := by
  funext y
  blk_simp [iblk]
  refine congrArg _ ?_
  blk_ext [idx_13, pt]
theorem iblk_14 (c : Dev nD) (b : Fin 4) : (iblk VE c 14 (pt b) : S128x512.Idx → F .f32) = (VE c main_arg14 : S128x512.Idx → F .f32) := by
  funext y
  blk_simp [iblk]
  refine congrArg _ ?_
  blk_ext [idx_14, pt]
theorem iblk_15 (c : Dev nD) (b : Fin 4) : (iblk VE c 15 (pt b) : S1x512.Idx → F .f32) = (VE c main_v8 : S1x512.Idx → F .f32) := by
  funext y
  blk_simp [iblk]
  refine congrArg _ ?_
  blk_ext [idx_15, pt]
theorem iblk_16 (c : Dev nD) (b : Fin 4) : (iblk VE c 16 (pt b) : S512x128.Idx → F .f32) = (VE c main_arg16 : S512x128.Idx → F .f32) := by
  funext y
  blk_simp [iblk]
  refine congrArg _ ?_
  blk_ext [idx_16, pt]
theorem iblk_17 (c : Dev nD) (b : Fin 4) : (iblk VE c 17 (pt b) : S1x128.Idx → F .f32) = (VE c main_v9 : S1x128.Idx → F .f32) := by
  funext y
  blk_simp [iblk]
  refine congrArg _ ?_
  blk_ext [idx_17, pt]
theorem iblk_18 (c : Dev nD) (b : Fin 4) : (iblk VE c 18 (pt b) : S128x128.Idx → F .f32) = (VE c main_arg18 : S128x128.Idx → F .f32) := by
  funext y
  blk_simp [iblk]
  refine congrArg _ ?_
  blk_ext [idx_18, pt]
theorem iblk_19 (c : Dev nD) (b : Fin 4) : (iblk VE c 19 (pt b) : S1x128.Idx → F .f32) = (VE c main_v10 : S1x128.Idx → F .f32) := by
  funext y
  blk_simp [iblk]
  refine congrArg _ ?_
  blk_ext [idx_19, pt]
theorem iblk_20 (c : Dev nD) (b : Fin 4) : (iblk VE c 20 (pt b) : S128x32.Idx → F .f32) = (VE c main_arg20 : S128x32.Idx → F .f32) := by
  funext y
  blk_simp [iblk]
  refine congrArg _ ?_
  blk_ext [idx_20, pt]
theorem iblk_21 (c : Dev nD) (b : Fin 4) : (iblk VE c 21 (pt b) : S1x32.Idx → F .f32) = (VE c main_v11 : S1x32.Idx → F .f32) := by
  funext y
  blk_simp [iblk]
  refine congrArg _ ?_
  blk_ext [idx_21, pt]
theorem iblk_22 (c : Dev nD) (b : Fin 4) : (iblk VE c 22 (pt b) : S32x1.Idx → F .f32) = (VE c main_arg22 : S32x1.Idx → F .f32) := by
  funext y
  blk_simp [iblk]
  refine congrArg _ ?_
  blk_ext [idx_22, pt]
theorem iblk_23 (c : Dev nD) (b : Fin 4) : (iblk VE c 23 (pt b) : S1x1.Idx → F .f32) = (VE c main_v12 : S1x1.Idx → F .f32) := by
  funext y
  blk_simp [iblk]
  refine congrArg _ ?_
  blk_ext [idx_23, pt]

/-! ## The results -/

theorem flush_24 : ∀ t : Fin cfg0.N, (cfg0.win 24).flush t = true := (by decide +kernel : ∀ t : Fin grid0.N, win0_24.flush t = true)
theorem disj_24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne
    ((by decide +kernel : ∀ t t' : Fin grid0.N, win0_24.index t = win0_24.index t' → t = t') t t' h)
theorem flush_25 : ∀ t : Fin cfg0.N, (cfg0.win 25).flush t = true := (by decide +kernel : ∀ t : Fin grid0.N, win0_25.flush t = true)
theorem disj_25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne
    ((by decide +kernel : ∀ t t' : Fin grid0.N, win0_25.index t = win0_25.index t' → t = t') t t' h)

theorem arr24 (c : Dev nD) (b : Fin 4) (r : Fin 2048) (j : Fin 128) :
    ((dat VE c).arrAt 24 cfg0.N : S4x2048x128.Idx → F .f32) (ix3 b r j) = ((dat VE c).after 24 (pt b) : S1x2048x128.Idx → F .f32) (ix3 0 r j) := by
  have h := (dat VE c).arrAt_emb_eq_flushed 24 disj_24 (pt b) (flush_24 _) (ix3 0 r j : S1x2048x128.Idx)
  have e : ((cfg0.win 24).blk (pt b)).view.emb (ix3 0 r j : S1x2048x128.Idx) = (ix3 b r j : S4x2048x128.Idx) := by
    blk_ext [idx_24, pt]
  rw [e] at h
  exact h
theorem arr25 (c : Dev nD) (b : Fin 4) (k : Fin 1024) :
    ((dat VE c).arrAt 25 cfg0.N : S4x1x1024.Idx → BitVec 32) (ix3 b 0 k) = ((dat VE c).after 25 (pt b) : S1x1x1024.Idx → BitVec 32) (ix3 0 0 k) := by
  have h := (dat VE c).arrAt_emb_eq_flushed 25 disj_25 (pt b) (flush_25 _) (ix3 0 0 k : S1x1x1024.Idx)
  have e : ((cfg0.win 25).blk (pt b)).view.emb (ix3 0 0 k : S1x1x1024.Idx) = (ix3 b 0 k : S4x1x1024.Idx) := by
    blk_ext [idx_25, pt]
  rw [e] at h
  exact h

end Cert.Proof.Whole

end
-- ==== Proof.WholeArrays.lean ====
/-
  The arrays of the whole kernel's run at an index: the operands of the two calls, as the host's reshapes leave them, and
  the two results.
-/
module

public import proofs.«01_k».proof.Proof.WholeRun
public import proofs.«01_k».proof.Proof.EncBlocks

@[expose] public section

set_option maxRecDepth 16384

noncomputable section

namespace Cert.Proof.Whole

open Cert.KernelIdeal Cert.KernelIdeal.Gen
open Idealize.ShloMosaic Idealize.ShloMosaic.TcCoe Idealize.ShloMosaic.StableHlo
open Pipeline (ucRefs)

/-! ## The reshapes at an index -/

section Casts
variable {α : Type}

theorem cast_row {n : ℕ} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) := by
  refine shapeCast_apply _ _ _ _ ?_
  rw [Shape.rowMajor_val_one, Shape.rowMajor_val_two]
  show j.val = 0 * n + j.val
  omega
theorem cast_tokens (x : S4x2048x128.Idx → α) (b : Fin 4) (i : Fin 2048) (j : Fin 128) :
    shapeCast S8192x128 x shapeCasts_S4x2048x128_S8192x128 (ix2 ⟨b.val * 2048 + i.val, by omega⟩ j) = x (ix3 b i j) := by
  refine shapeCast_apply _ _ _ _ ?_
  rw [Shape.rowMajor_val_two, Shape.rowMajor_val_three]
  rfl
theorem cast_ids (x : S4x1x1024.Idx → α) (b : Fin 4) (k : Fin 1024) :
    shapeCast S4096 x shapeCasts_S4x1x1024_S4096 (ix1 ⟨b.val * 1024 + k.val, by omega⟩) = x (ix3 b 0 k) := by
  refine shapeCast_apply _ _ _ _ ?_
  rw [Shape.rowMajor_val_one, Shape.rowMajor_val_three]
  show (b.val * 1 + 0) * 1024 + k.val = b.val * 1024 + k.val
  omega
theorem cast_rows (x : S4096x128.Idx → α) (b : Fin 4) (k : Fin 1024) (j : Fin 128) :
    shapeCast S4x1024x128 x shapeCasts_S4096x128_S4x1024x128 (ix3 b k j) = x (ix2 ⟨b.val * 1024 + k.val, by omega⟩ j) := by
  refine shapeCast_apply _ _ _ _ ?_
  rw [Shape.rowMajor_val_two, Shape.rowMajor_val_three]
  rfl

end Casts

variable {F : FTy → Type} [FloatOps F]
variable (m : (ℓ : Loc nD τ sig) → Buf (Elt F) ℓ) (c : Dev nD)

/-- The kernel's argument arrays. -/
abbrev arg (b : Ref sig .tc) : Buf (Elt F) ((c.tc : Thread nD τ).loc b) := m ((c.tc : Thread nD τ).loc b)

/-! ## At the TensorCore call -/

theorem VI_arg0 : VIr m c main_arg0 = arg m c main_arg0 := by
  show VI m c (Proc.devRef .tc main_arg0) = _
  unfold VI; after_results
theorem VI_arg1 : VIr m c main_arg1 = arg m c main_arg1 := by
  show VI m c (Proc.devRef .tc main_arg1) = _
  unfold VI; after_results
theorem VI_arg2 : VIr m c main_arg2 = arg m c main_arg2 := by
  show VI m c (Proc.devRef .tc main_arg2) = _
  unfold VI; after_results
theorem VI_arg4 : VIr m c main_arg4 = arg m c main_arg4 := by
  show VI m c (Proc.devRef .tc main_arg4) = _
  unfold VI; after_results
theorem VI_arg6 : VIr m c main_arg6 = arg m c main_arg6 := by
  show VI m c (Proc.devRef .tc main_arg6) = _
  unfold VI; after_results
theorem VI_arg8 : VIr m c main_arg8 = arg m c main_arg8 := by
  show VI m c (Proc.devRef .tc main_arg8) = _
  unfold VI; after_results
theorem VI_arg14 : VIr m c main_arg14 = arg m c main_arg14 := by
  show VI m c (Proc.devRef .tc main_arg14) = _
  unfold VI; after_results
theorem VI_arg16 : VIr m c main_arg16 = arg m c main_arg16 := by
  show VI m c (Proc.devRef .tc main_arg16) = _
  unfold VI; after_results
theorem VI_arg18 : VIr m c main_arg18 = arg m c main_arg18 := by
  show VI m c (Proc.devRef .tc main_arg18) = _
  unfold VI; after_results
theorem VI_arg20 : VIr m c main_arg20 = arg m c main_arg20 := by
  show VI m c (Proc.devRef .tc main_arg20) = _
  unfold VI; after_results
theorem VI_arg22 : VIr m c main_arg22 = arg m c main_arg22 := by
  show VI m c (Proc.devRef .tc main_arg22) = _
  unfold VI; after_results
theorem VI_v0 : VIr m c main_v0 = shapeCast _ (arg m c main_arg3) shapeCasts_S128_S1x128 := by
  show VI m c (Proc.devRef .tc main_v0) = _
  unfold VI; after_results <;> rfl
theorem VI_v1 : VIr m c main_v1 = shapeCast _ (arg m c main_arg5) shapeCasts_S128_S1x128 := by
  show VI m c (Proc.devRef .tc main_v1) = _
  unfold VI; after_results <;> rfl
theorem VI_v2 : VIr m c main_v2 = shapeCast _ (arg m c main_arg7) shapeCasts_S128_S1x128 := by
  show VI m c (Proc.devRef .tc main_v2) = _
  unfold VI; after_results <;> rfl
theorem VI_v3 : VIr m c main_v3 = shapeCast _ (arg m c main_arg9) shapeCasts_S128_S1x128 := by
  show VI m c (Proc.devRef .tc main_v3) = _
  unfold VI; after_results <;> rfl
theorem VI_v4 : VIr m c main_v4 = shapeCast _ (arg m c main_arg10) shapeCasts_S128_S1x128 := by
  show VI m c (Proc.devRef .tc main_v4) = _
  unfold VI; after_results <;> rfl
theorem VI_v5 : VIr m c main_v5 = shapeCast _ (arg m c main_arg11) shapeCasts_S128_S1x128 := by
  show VI m c (Proc.devRef .tc main_v5) = _
  unfold VI; after_results <;> rfl
theorem VI_v6 : VIr m c main_v6 = shapeCast _ (arg m c main_arg12) shapeCasts_S128_S1x128 := by
  show VI m c (Proc.devRef .tc main_v6) = _
  unfold VI; after_results <;> rfl
theorem VI_v7 : VIr m c main_v7 = shapeCast _ (arg m c main_arg13) shapeCasts_S128_S1x128 := by
  show VI m c (Proc.devRef .tc main_v7) = _
  unfold VI; after_results <;> rfl
theorem VI_v8 : VIr m c main_v8 = shapeCast _ (arg m c main_arg15) shapeCasts_S512_S1x512 := by
  show VI m c (Proc.devRef .tc main_v8) = _
  unfold VI; after_results <;> rfl
theorem VI_v9 : VIr m c main_v9 = shapeCast _ (arg m c main_arg17) shapeCasts_S128_S1x128 := by
  show VI m c (Proc.devRef .tc main_v9) = _
  unfold VI; after_results <;> rfl
theorem VI_v10 : VIr m c main_v10 = shapeCast _ (arg m c main_arg19) shapeCasts_S128_S1x128 := by
  show VI m c (Proc.devRef .tc main_v10) = _
  unfold VI; after_results <;> rfl
theorem VI_v11 : VIr m c main_v11 = shapeCast _ (arg m c main_arg21) shapeCasts_S32_S1x32 := by
  show VI m c (Proc.devRef .tc main_v11) = _
  unfold VI; after_results <;> rfl
theorem VI_v12 : VIr m c main_v12 = shapeCast _ (arg m c main_arg23) shapeCasts_S1_S1x1 := by
  show VI m c (Proc.devRef .tc main_v12) = _
  unfold VI; after_results <;> rfl

/-! ## At the SparseCore call, and after -/

theorem ctx_eq : ctx m c = shapeCast _ (VO m c be0) shapeCasts_S4x2048x128_S8192x128 := by
  unfold ctx VA; after_results <;> rfl
theorem VO_arg1 : VO m c (Proc.devRef .tc main_arg1) = arg m c main_arg1 :=
  (VO_ne m c main_arg1 (by decide) (by decide)).trans (VI_arg1 m c)
theorem ctp_eq : ctp m c = shapeCast _ (arg m c main_arg1) shapeCasts_S4x2048x128_S8192x128 := by
  rw [← VO_arg1]
  unfold ctp VA; after_results <;> rfl
theorem cix_eq : cix m c = shapeCast _ (VO m c be1) shapeCasts_S4x1x1024_S4096 := by
  unfold cix VA; after_results <;> rfl
theorem VC_v18 : VC m c (Proc.devRef .tc main_v18) = shapeCast _ (gval (ctx m c) (cix m c)) shapeCasts_S4096x128_S4x1024x128 := by
  unfold VC; after_results
  · rw [VB_ox]; rfl
theorem VC_v19 : VC m c (Proc.devRef .tc main_v19) = shapeCast _ (gval (ctp m c) (cix m c)) shapeCasts_S4096x128_S4x1024x128 := by
  unfold VC; after_results
  · rw [VB_op]; rfl
theorem VC_arg0 : VC m c (Proc.devRef .tc main_arg0) = arg m c main_arg0 := by
  unfold VC; after_results; rw [VB_of_not_mem m c (by decide)]; unfold VA; after_results
  refine (VO_ne m c main_arg0 (by decide) (by decide)).trans ?_
  show VI m c (Proc.devRef .tc main_arg0) = _
  unfold VI; after_results
theorem VC_arg1 : VC m c (Proc.devRef .tc main_arg1) = arg m c main_arg1 := by
  unfold VC; after_results; rw [VB_of_not_mem m c (by decide)]; unfold VA; after_results
  refine (VO_ne m c main_arg1 (by decide) (by decide)).trans ?_
  show VI m c (Proc.devRef .tc main_arg1) = _
  unfold VI; after_results
theorem VC_arg2 : VC m c (Proc.devRef .tc main_arg2) = arg m c main_arg2 := by
  unfold VC; after_results; rw [VB_of_not_mem m c (by decide)]; unfold VA; after_results
  refine (VO_ne m c main_arg2 (by decide) (by decide)).trans ?_
  show VI m c (Proc.devRef .tc main_arg2) = _
  unfold VI; after_results
theorem VC_arg3 : VC m c (Proc.devRef .tc main_arg3) = arg m c main_arg3 := by
  unfold VC; after_results; rw [VB_of_not_mem m c (by decide)]; unfold VA; after_results
  refine (VO_ne m c main_arg3 (by decide) (by decide)).trans ?_
  show VI m c (Proc.devRef .tc main_arg3) = _
  unfold VI; after_results
theorem VC_arg4 : VC m c (Proc.devRef .tc main_arg4) = arg m c main_arg4 := by
  unfold VC; after_results; rw [VB_of_not_mem m c (by decide)]; unfold VA; after_results
  refine (VO_ne m c main_arg4 (by decide) (by decide)).trans ?_
  show VI m c (Proc.devRef .tc main_arg4) = _
  unfold VI; after_results
theorem VC_arg5 : VC m c (Proc.devRef .tc main_arg5) = arg m c main_arg5 := by
  unfold VC; after_results; rw [VB_of_not_mem m c (by decide)]; unfold VA; after_results
  refine (VO_ne m c main_arg5 (by decide) (by decide)).trans ?_
  show VI m c (Proc.devRef .tc main_arg5) = _
  unfold VI; after_results
theorem VC_arg6 : VC m c (Proc.devRef .tc main_arg6) = arg m c main_arg6 := by
  unfold VC; after_results; rw [VB_of_not_mem m c (by decide)]; unfold VA; after_results
  refine (VO_ne m c main_arg6 (by decide) (by decide)).trans ?_
  show VI m c (Proc.devRef .tc main_arg6) = _
  unfold VI; after_results
theorem VC_arg7 : VC m c (Proc.devRef .tc main_arg7) = arg m c main_arg7 := by
  unfold VC; after_results; rw [VB_of_not_mem m c (by decide)]; unfold VA; after_results
  refine (VO_ne m c main_arg7 (by decide) (by decide)).trans ?_
  show VI m c (Proc.devRef .tc main_arg7) = _
  unfold VI; after_results
theorem VC_arg8 : VC m c (Proc.devRef .tc main_arg8) = arg m c main_arg8 := by
  unfold VC; after_results; rw [VB_of_not_mem m c (by decide)]; unfold VA; after_results
  refine (VO_ne m c main_arg8 (by decide) (by decide)).trans ?_
  show VI m c (Proc.devRef .tc main_arg8) = _
  unfold VI; after_results
theorem VC_arg9 : VC m c (Proc.devRef .tc main_arg9) = arg m c main_arg9 := by
  unfold VC; after_results; rw [VB_of_not_mem m c (by decide)]; unfold VA; after_results
  refine (VO_ne m c main_arg9 (by decide) (by decide)).trans ?_
  show VI m c (Proc.devRef .tc main_arg9) = _
  unfold VI; after_results
theorem VC_arg10 : VC m c (Proc.devRef .tc main_arg10) = arg m c main_arg10 := by
  unfold VC; after_results; rw [VB_of_not_mem m c (by decide)]; unfold VA; after_results
  refine (VO_ne m c main_arg10 (by decide) (by decide)).trans ?_
  show VI m c (Proc.devRef .tc main_arg10) = _
  unfold VI; after_results
theorem VC_arg11 : VC m c (Proc.devRef .tc main_arg11) = arg m c main_arg11 := by
  unfold VC; after_results; rw [VB_of_not_mem m c (by decide)]; unfold VA; after_results
  refine (VO_ne m c main_arg11 (by decide) (by decide)).trans ?_
  show VI m c (Proc.devRef .tc main_arg11) = _
  unfold VI; after_results
theorem VC_arg12 : VC m c (Proc.devRef .tc main_arg12) = arg m c main_arg12 := by
  unfold VC; after_results; rw [VB_of_not_mem m c (by decide)]; unfold VA; after_results
  refine (VO_ne m c main_arg12 (by decide) (by decide)).trans ?_
  show VI m c (Proc.devRef .tc main_arg12) = _
  unfold VI; after_results
theorem VC_arg13 : VC m c (Proc.devRef .tc main_arg13) = arg m c main_arg13 := by
  unfold VC; after_results; rw [VB_of_not_mem m c (by decide)]; unfold VA; after_results
  refine (VO_ne m c main_arg13 (by decide) (by decide)).trans ?_
  show VI m c (Proc.devRef .tc main_arg13) = _
  unfold VI; after_results
theorem VC_arg14 : VC m c (Proc.devRef .tc main_arg14) = arg m c main_arg14 := by
  unfold VC; after_results; rw [VB_of_not_mem m c (by decide)]; unfold VA; after_results
  refine (VO_ne m c main_arg14 (by decide) (by decide)).trans ?_
  show VI m c (Proc.devRef .tc main_arg14) = _
  unfold VI; after_results
theorem VC_arg15 : VC m c (Proc.devRef .tc main_arg15) = arg m c main_arg15 := by
  unfold VC; after_results; rw [VB_of_not_mem m c (by decide)]; unfold VA; after_results
  refine (VO_ne m c main_arg15 (by decide) (by decide)).trans ?_
  show VI m c (Proc.devRef .tc main_arg15) = _
  unfold VI; after_results
theorem VC_arg16 : VC m c (Proc.devRef .tc main_arg16) = arg m c main_arg16 := by
  unfold VC; after_results; rw [VB_of_not_mem m c (by decide)]; unfold VA; after_results
  refine (VO_ne m c main_arg16 (by decide) (by decide)).trans ?_
  show VI m c (Proc.devRef .tc main_arg16) = _
  unfold VI; after_results
theorem VC_arg17 : VC m c (Proc.devRef .tc main_arg17) = arg m c main_arg17 := by
  unfold VC; after_results; rw [VB_of_not_mem m c (by decide)]; unfold VA; after_results
  refine (VO_ne m c main_arg17 (by decide) (by decide)).trans ?_
  show VI m c (Proc.devRef .tc main_arg17) = _
  unfold VI; after_results
theorem VC_arg18 : VC m c (Proc.devRef .tc main_arg18) = arg m c main_arg18 := by
  unfold VC; after_results; rw [VB_of_not_mem m c (by decide)]; unfold VA; after_results
  refine (VO_ne m c main_arg18 (by decide) (by decide)).trans ?_
  show VI m c (Proc.devRef .tc main_arg18) = _
  unfold VI; after_results
theorem VC_arg19 : VC m c (Proc.devRef .tc main_arg19) = arg m c main_arg19 := by
  unfold VC; after_results; rw [VB_of_not_mem m c (by decide)]; unfold VA; after_results
  refine (VO_ne m c main_arg19 (by decide) (by decide)).trans ?_
  show VI m c (Proc.devRef .tc main_arg19) = _
  unfold VI; after_results
theorem VC_arg20 : VC m c (Proc.devRef .tc main_arg20) = arg m c main_arg20 := by
  unfold VC; after_results; rw [VB_of_not_mem m c (by decide)]; unfold VA; after_results
  refine (VO_ne m c main_arg20 (by decide) (by decide)).trans ?_
  show VI m c (Proc.devRef .tc main_arg20) = _
  unfold VI; after_results
theorem VC_arg21 : VC m c (Proc.devRef .tc main_arg21) = arg m c main_arg21 := by
  unfold VC; after_results; rw [VB_of_not_mem m c (by decide)]; unfold VA; after_results
  refine (VO_ne m c main_arg21 (by decide) (by decide)).trans ?_
  show VI m c (Proc.devRef .tc main_arg21) = _
  unfold VI; after_results
theorem VC_arg22 : VC m c (Proc.devRef .tc main_arg22) = arg m c main_arg22 := by
  unfold VC; after_results; rw [VB_of_not_mem m c (by decide)]; unfold VA; after_results
  refine (VO_ne m c main_arg22 (by decide) (by decide)).trans ?_
  show VI m c (Proc.devRef .tc main_arg22) = _
  unfold VI; after_results
theorem VC_arg23 : VC m c (Proc.devRef .tc main_arg23) = arg m c main_arg23 := by
  unfold VC; after_results; rw [VB_of_not_mem m c (by decide)]; unfold VA; after_results
  refine (VO_ne m c main_arg23 (by decide) (by decide)).trans ?_
  show VI m c (Proc.devRef .tc main_arg23) = _
  unfold VI; after_results

/-- Where the selected row numbers are, and what they select. -/
theorem gval_at {α : Type} (t : S8192x128.Idx → α) (ix : S4096.Idx → BitVec 32) (b : Fin 4) (k : Fin 1024) (n : Fin 2048)
    (h : ix (ix1 ⟨b.val * 1024 + k.val, by omega⟩) = BitVec.ofNat 32 n.val + BitVec.ofNat 32 b.val * 2048#32) (j : Fin 128) :
    gval t ix (ix2 ⟨b.val * 1024 + k.val, by omega⟩ j) = t (ix2 ⟨b.val * 2048 + n.val, by omega⟩ j) := by
  have e : (BitVec.ofNat 32 n.val + BitVec.ofNat 32 b.val * 2048#32).toNat = b.val * 2048 + n.val := by
    simp [BitVec.toNat_add, BitVec.toNat_mul]
    omega
  unfold gval
  refine congrArg t (congrArg (fun a => (ix2 a j : S8192x128.Idx)) (Fin.ext ?_))
  show min (ix (ix1 ⟨b.val * 1024 + k.val, _⟩)).toNat 8191 = b.val * 2048 + n.val
  rw [h, e]
  omega

end Cert.Proof.Whole

end
-- ==== Proof.LayerSums.lean ====
/-
  The orders in which the kernel adds up a row: 128 entries by eights and halves, 1024 by four parts, 2048 by lanes.
-/
module

public import Idealize.ShloMosaic.Lib.Pointwise

@[expose] public section

set_option maxRecDepth 16384

noncomputable section

namespace Cert.Proof.Layer

open Idealize.ShloMosaic

/-- A row of 128 entries, added up by eights and then by halves. -/
theorem sum128 (f : Fin 128 → EReal) : ∑ j, f j = ((f 0 + f 8 + f 16 + f 24 + f 32 + f 40 + f 48 + f 56 + f 64 + f 72 + f 80 + f 88 + f 96 + f 104 + f 112 + f 120 + (f 4 + f 12 + f 20 + f 28 + f 36 + f 44 + f 52 + f 60 + f 68 + f 76 + f 84 + f 92 + f 100 + f 108 + f 116 + f 124)) + (f 2 + f 10 + f 18 + f 26 + f 34 + f 42 + f 50 + f 58 + f 66 + f 74 + f 82 + f 90 + f 98 + f 106 + f 114 + f 122 + (f 6 + f 14 + f 22 + f 30 + f 38 + f 46 + f 54 + f 62 + f 70 + f 78 + f 86 + f 94 + f 102 + f 110 + f 118 + f 126))) + ((f 1 + f 9 + f 17 + f 25 + f 33 + f 41 + f 49 + f 57 + f 65 + f 73 + f 81 + f 89 + f 97 + f 105 + f 113 + f 121 + (f 5 + f 13 + f 21 + f 29 + f 37 + f 45 + f 53 + f 61 + f 69 + f 77 + f 85 + f 93 + f 101 + f 109 + f 117 + f 125)) + (f 3 + f 11 + f 19 + f 27 + f 35 + f 43 + f 51 + f 59 + f 67 + f 75 + f 83 + f 91 + f 99 + f 107 + f 115 + f 123 + (f 7 + f 15 + f 23 + f 31 + f 39 + f 47 + f 55 + f 63 + f 71 + f 79 + f 87 + f 95 + f 103 + f 111 + f 119 + f 127))) := by
  rw [← List.sum_ofFn, show List.ofFn f = [f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31, f 32, f 33, f 34, f 35, f 36, f 37, f 38, f 39, f 40, f 41, f 42, f 43, f 44, f 45, f 46, f 47, f 48, f 49, f 50, f 51, f 52, f 53, f 54, f 55, f 56, f 57, f 58, f 59, f 60, f 61, f 62, f 63, f 64, f 65, f 66, f 67, f 68, f 69, f 70, f 71, f 72, f 73, f 74, f 75, f 76, f 77, f 78, f 79, f 80, f 81, f 82, f 83, f 84, f 85, f 86, f 87, f 88, f 89, f 90, f 91, f 92, f 93, f 94, f 95, f 96, f 97, f 98, f 99, f 100, f 101, f 102, f 103, f 104, f 105, f 106, f 107, f 108, f 109, f 110, f 111, f 112, f 113, f 114, f 115, f 116, f 117, f 118, f 119, f 120, f 121, f 122, f 123, f 124, f 125, f 126, f 127] from rfl]
  simp only [List.sum_cons, List.sum_nil, add_zero]
  ac_rfl

/-- A row of 1024 entries, added up by its four quarters. -/
theorem sum1024 (f : Fin 1024 → EReal) :
    ∑ j, f j = (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩) := by
  rw [Fin.sum_univ_tiles 4 256 rfl, Fin.sum_univ_four]
  rfl

/-- A row of 2048 entries, added up by its two halves. -/
theorem sum2048 (f : Fin 2048 → EReal) :
    ∑ j, f j = (∑ x : Fin 1024, f ⟨x.val, by omega⟩) + (∑ x : Fin 1024, f ⟨1024 + x.val, by omega⟩) := by
  rw [Fin.sum_univ_tiles 2 1024 rfl, Fin.sum_univ_two]
  simp

/-- A row of 2048 entries, added up lane by lane over its sixteen parts. -/
theorem sum2048_lanes (f : Fin 2048 → EReal) :
    ∑ j, f j = ∑ c : Fin 128, (f ⟨c.val, by omega⟩ + f ⟨128 + c.val, by omega⟩ + f ⟨256 + c.val, by omega⟩ + f ⟨384 + c.val, by omega⟩ + f ⟨512 + c.val, by omega⟩ + f ⟨640 + c.val, by omega⟩ + f ⟨768 + c.val, by omega⟩ + f ⟨896 + c.val, by omega⟩ + f ⟨1024 + c.val, by omega⟩ + f ⟨1152 + c.val, by omega⟩ + f ⟨1280 + c.val, by omega⟩ + f ⟨1408 + c.val, by omega⟩ + f ⟨1536 + c.val, by omega⟩ + f ⟨1664 + c.val, by omega⟩ + f ⟨1792 + c.val, by omega⟩ + f ⟨1920 + c.val, by omega⟩) := by
  rw [Fin.sum_univ_tiles 16 128 rfl, Finset.sum_comm]
  refine Finset.sum_congr rfl fun c _ => ?_
  rw [← List.sum_ofFn]
  simp only [List.ofFn_succ, List.ofFn_zero, List.sum_cons, List.sum_nil, add_zero]
  simp [add_assoc]

end Cert.Proof.Layer

end
-- ==== Proof.LayerSpec.lean ====
/-
  The layer on one sequence, as functions of plain indices over the extended reals: the projections, the attention, the
  layer normalisation, the exact GELU, the score's softmax, and the rank of a token by it.
-/
module

public import Idealize.ShloMosaic.Lib.Pointwise

@[expose] public section

noncomputable section

namespace Cert.Proof.Layer

open Idealize.ShloMosaic

/-- A matrix of extended reals. -/
abbrev Mat (a b : ℕ) : Type := Fin a → Fin b → EReal

/-- `x W + b`. -/
def lin {a k n : ℕ} (x : Mat a k) (W : Mat k n) (b : Fin n → EReal) : Mat a n := fun i j => ∑ c, x i c * W c j + b j

/-- The exact GELU, `a / 2 · (1 - erf (-a / √2))`. -/
def gelu (a : EReal) : EReal :=
  a * Ideal.ofBits .f32 0x3F000000#32 * (1 - FloatOps.erf (F := Ideal) (φ := .f32) ((0 - a) * Ideal.ofBits .f32 0x3F3504F3#32))

/-- The mean of 128 entries. -/
def mean (o : Fin 128 → EReal) : EReal := (∑ j, o j) * Ideal.ofBits .f32 0x3C000000#32

/-- The layer normalisation of a row. -/
def lnorm (g b o : Fin 128 → EReal) : Fin 128 → EReal := fun j =>
  Ideal.div (o j - mean o) (Ideal.sqrt (mean (fun x => (o x - mean o) * (o x - mean o)) + Ideal.ofBits .f32 0x3727C5AC#32)) * g j + b j

/-- A head's 64 columns. -/
def head (h : Fin 2) (x : Mat 2048 128) : Mat 2048 64 := fun i d => x i ⟨h.val * 64 + d.val, by omega⟩

/-- A head's scores. -/
def scores (q k : Mat 2048 64) : Mat 2048 2048 := fun i j => (∑ d, q i d * k j d) * Ideal.ofBits .f32 0x3E000000#32

/-- The greatest of a row. -/
def top {n : ℕ} (s : Fin n → EReal) : EReal := Finset.univ.fold max (Ideal.ofBits .f32 0xFF800000#32) s

/-- The row's exponentials, relative to its greatest entry. -/
def expo {n : ℕ} (s : Fin n → EReal) : Fin n → EReal := fun j => Ideal.exp (s j - top s)

/-- The row's softmax. -/
def soft {n : ℕ} (s : Fin n → EReal) : Fin n → EReal := fun j => Ideal.div (expo s j) (∑ x, expo s x)

/-- A head's output. -/
def attend (s : Mat 2048 2048) (v : Mat 2048 64) : Mat 2048 64 := fun i d => ∑ j, soft (s i) j * v j d

/-- The same by the kernel's two halves of the keys: the first half's result, rescaled when the second half's greatest
    score is met. -/
def online (s0 s1 v0 v1 : Fin 1024 → EReal) : EReal :=
  ((Ideal.exp (if top s0 = max (top s0) (top s1) then 0 else top s0 - max (top s0) (top s1)) * (∑ x, Ideal.exp (s0 x - top s0)))
      * ((∑ x, Ideal.exp (s0 x - top s0) * v0 x) * Ideal.div 1 (∑ x, Ideal.exp (s0 x - top s0)))
    + ∑ x, Ideal.exp (s1 x - max (top s0) (top s1)) * v1 x)
  * Ideal.div 1 ((Ideal.exp (if top s0 = max (top s0) (top s1) then 0 else top s0 - max (top s0) (top s1)) * (∑ x, Ideal.exp (s0 x - top s0)))
      + ∑ x, Ideal.exp (s1 x - max (top s0) (top s1)))

/-- The two halves of a row. -/
def lo {α : Type} (s : Fin 2048 → α) : Fin 1024 → α := fun x => s ⟨x.val, by omega⟩
def hi {α : Type} (s : Fin 2048 → α) : Fin 1024 → α := fun x => s ⟨1024 + x.val, by omega⟩

/-- A head's output by halves of the keys. -/
def attendOnline (s : Mat 2048 2048) (v : Mat 2048 64) : Mat 2048 64 := fun i d =>
  online (lo (s i)) (hi (s i)) (lo fun j => v j d) (hi fun j => v j d)

/-- The two heads' outputs side by side. -/
def joined (a b : Mat 2048 64) : Mat 2048 128 := fun i j =>
  if h : j.val < 64 then a i ⟨j.val, h⟩ else b i ⟨j.val - 64, by omega⟩

/-- The layer's weights. -/
structure Weights where
  Wq : Mat 128 128
  bq : Fin 128 → EReal
  Wk : Mat 128 128
  bk : Fin 128 → EReal
  Wv : Mat 128 128
  bv : Fin 128 → EReal
  Wo : Mat 128 128
  bo : Fin 128 → EReal
  g1 : Fin 128 → EReal
  b1 : Fin 128 → EReal
  g2 : Fin 128 → EReal
  b2 : Fin 128 → EReal
  F1 : Mat 128 512
  c1 : Fin 512 → EReal
  F2 : Mat 512 128
  c2 : Fin 128 → EReal
  P0 : Mat 128 128
  d0 : Fin 128 → EReal
  P1 : Mat 128 32
  d1 : Fin 32 → EReal
  P3 : Fin 32 → EReal
  d3 : EReal

variable (w : Weights)

/-- A head's scores from the tokens. -/
def sc (h : Fin 2) (x : Mat 2048 128) : Mat 2048 2048 := scores (head h (lin x w.Wq w.bq)) (head h (lin x w.Wk w.bk))

/-- What attention leaves, projected, from the heads' outputs. -/
def attnOut (o : Mat 2048 128) : Mat 2048 128 := lin o w.Wo w.bo

def ln1 (o : Mat 2048 128) : Mat 2048 128 := fun i => lnorm w.g1 w.b1 (attnOut w o i)

/-- The feed-forward part. -/
def mlp (x1 : Mat 2048 128) : Mat 2048 128 := lin (fun i j => gelu (lin x1 w.F1 w.c1 i j)) w.F2 w.c2

/-- The layer's output, from the tokens and the heads' outputs. -/
def out (x o : Mat 2048 128) : Mat 2048 128 := fun i j =>
  x i j + lnorm w.g2 w.b2 (mlp w (fun i j => x i j + ln1 w o i j) i) j + ln1 w o i j

/-- A token's score, from the layer's output. -/
def score (y : Mat 2048 128) : Fin 2048 → EReal := fun i =>
  ∑ c, w.P3 c * gelu (lin (fun i j => gelu (lin y w.P0 w.d0 i j)) w.P1 w.d1 i c) + w.d3

/-- The tokens' probabilities. -/
def prob (y : Mat 2048 128) : Fin 2048 → EReal := soft (score w y)

/-- Token `j` comes before token `i`: its probability is greater, or equal and its number less. -/
def before (p : Fin 2048 → EReal) (j i : Fin 2048) : Prop := p i < p j ∨ (p j = p i ∧ j < i)

instance (p : Fin 2048 → EReal) (j i : Fin 2048) : Decidable (before p j i) := Classical.dec _

/-- How many tokens come before token `i`. -/
def rank (p : Fin 2048 → EReal) (i : Fin 2048) : ℕ := (Finset.univ.filter fun j => before p j i).card

end Cert.Proof.Layer

end
-- ==== Proof.EncStage.lean ====
/-
  The TensorCore call's body, operation group by operation group, as the layer's functions.
-/
module

public import proofs.«01_k».proof.Proof.LayerSums
public import proofs.«01_k».proof.Proof.LayerSpec
public import proofs.«01_k».proof.Proof.Gen.KernelIdeal.Skeleton

@[expose] public section

set_option maxRecDepth 16384

noncomputable section

namespace Cert.Proof.Layer

open Cert.KernelIdeal Cert.KernelIdeal.Gen
open Idealize.ShloMosaic

/-- A rank-2 array as a matrix, and its first row. -/
def mat {a b : ℕ} (v : (⟨2, ![a, b]⟩ : Shape).Idx → EReal) : Mat a b := fun i j => v (ix2 i j)
def row {b : ℕ} (v : (⟨2, ![1, b]⟩ : Shape).Idx → EReal) : Fin b → EReal := fun j => v (ix2 0 j)

/-- The tokens with their positions added. -/
def toks (v0 v2 : Vec Ideal S1x2048x128 .f32) : Mat 2048 128 := fun i j => v0 (ix3 0 i j) + v2 (ix3 0 i j)

theorem st_3 (v0 v2 : Vec Ideal S1x2048x128 .f32) (i j) : k0_pay3 (F := Ideal) v0 v2 (ix2 i j) = toks v0 v2 i j := by
  pointwise [k0_pay3, toks]
theorem st_4 (v0 v2 : Vec Ideal S1x2048x128 .f32) (W : Vec Ideal S128x128 .f32) (b : Vec Ideal S1x128 .f32) (i j) :
    k0_pay4 (F := Ideal) v0 v2 W b (ix2 i j) = lin (toks v0 v2) (mat W) (row b) i j := by
  pointwise [k0_pay4, k0_pay3, toks, lin, mat, row]
theorem st_5 (v0 v2 : Vec Ideal S1x2048x128 .f32) (W : Vec Ideal S128x128 .f32) (b : Vec Ideal S1x128 .f32) (i j) :
    k0_pay5 (F := Ideal) v0 v2 W b (ix2 i j) = lin (toks v0 v2) (mat W) (row b) i j := by
  pointwise [k0_pay5, k0_pay3, toks, lin, mat, row]
theorem st_6 (v0 v2 : Vec Ideal S1x2048x128 .f32) (W : Vec Ideal S128x128 .f32) (b : Vec Ideal S1x128 .f32) (i j) :
    k0_pay6 (F := Ideal) v0 v2 W b (ix2 i j) = lin (toks v0 v2) (mat W) (row b) i j := by
  pointwise [k0_pay6, k0_pay3, toks, lin, mat, row]

theorem st_35 (o : Vec Ideal S2048x128 .f32) (W : Vec Ideal S128x128 .f32) (b : Vec Ideal S1x128 .f32) (i j) :
    k0_pay35 (F := Ideal) o W b (ix2 i j) = lin (mat o) (mat W) (row b) i j := by
  pointwise [k0_pay35, lin, mat, row]
theorem st_36 (o : Vec Ideal S2048x128 .f32) (W : Vec Ideal S128x128 .f32) (b : Vec Ideal S1x128 .f32) (i) :
    k0_pay36 (F := Ideal) o W b (ix2 i 0) = mean (fun j => k0_pay35 o W b (ix2 i j)) := by
  rw [mean, sum128]
  pointwise [k0_pay36]
theorem st_37 (o : Vec Ideal S2048x128 .f32) (W : Vec Ideal S128x128 .f32) (b : Vec Ideal S1x128 .f32) (i j) :
    k0_pay37 (F := Ideal) o W b (ix2 i j) = (k0_pay35 o W b (ix2 i j) - k0_pay36 o W b (ix2 i 0)) * (k0_pay35 o W b (ix2 i j) - k0_pay36 o W b (ix2 i 0)) := by
  pointwise [k0_pay37]
theorem st_38 (o : Vec Ideal S2048x128 .f32) (W : Vec Ideal S128x128 .f32) (b : Vec Ideal S1x128 .f32) (i) (c : Fin 8) :
    k0_pay38 (F := Ideal) o W b (ix2 i c) = k0_pay37 o W b (ix2 i ⟨c.val, by omega⟩) + k0_pay37 o W b (ix2 i ⟨8 + c.val, by omega⟩) := by
  pointwise [k0_pay38]
theorem st_39 (o q : Vec Ideal S2048x128 .f32) (m : Vec Ideal S2048x1 .f32) (r : Vec Ideal S2048x8 .f32) (g b : Vec Ideal S1x128 .f32)
    (i : Fin 2048) (hr : ∀ c : Fin 8, r (ix2 i c) = q (ix2 i ⟨c.val, by omega⟩) + q (ix2 i ⟨8 + c.val, by omega⟩)) (j) :
    k0_pay39 (F := Ideal) o m q r g b (ix2 i j)
      = Ideal.div (o (ix2 i j) - m (ix2 i 0)) (Ideal.sqrt (mean (fun x => q (ix2 i x)) + Ideal.ofBits .f32 0x3727C5AC#32)) * g (ix2 0 j) + b (ix2 0 j) := by
  rw [mean, sum128]
  pointwise [k0_pay39]
  simp only [hr]
  rfl

theorem st_40 (x l : Vec Ideal S2048x128 .f32) (F1 : Vec Ideal S128x512 .f32) (c1 : Vec Ideal S1x512 .f32) (F2 : Vec Ideal S512x128 .f32) (c2 : Vec Ideal S1x128 .f32) (i j) :
    k0_pay40 (F := Ideal) x l F1 c1 F2 c2 (ix2 i j)
      = lin (fun i j => gelu (lin (fun i j => x (ix2 i j) + l (ix2 i j)) (mat F1) (row c1) i j)) (mat F2) (row c2) i j := by
  pointwise [k0_pay40, lin, mat, row, gelu]
theorem st_42 (x l : Vec Ideal S2048x128 .f32) (F1 : Vec Ideal S128x512 .f32) (c1 : Vec Ideal S1x512 .f32) (F2 : Vec Ideal S512x128 .f32) (c2 : Vec Ideal S1x128 .f32) (i) :
    k0_pay42 (F := Ideal) (k0_pay40 x l F1 c1 F2 c2) (k0_pay41 x l F1 c1 F2 c2) (ix2 i 0) = mean (fun j => k0_pay40 x l F1 c1 F2 c2 (ix2 i j)) := by
  rw [mean, sum128]
  pointwise [k0_pay42, k0_pay41]

theorem st_43 (o : Vec Ideal S2048x128 .f32) (r : Vec Ideal S2048x8 .f32) (i : Fin 2048) :
    k0_pay43 (F := Ideal) o r (ix2 i 0) + k0_pay43 (F := Ideal) o r (ix2 i 1)
      = ∑ j, (o (ix2 i j) - k0_pay42 (F := Ideal) o r (ix2 i 0)) * (o (ix2 i j) - k0_pay42 (F := Ideal) o r (ix2 i 0)) := by
  rw [sum128]
  pointwise [k0_pay43]
theorem st_44 (x l o : Vec Ideal S2048x128 .f32) (m : Vec Ideal S2048x1 .f32) (r : Vec Ideal S2048x2 .f32) (g b : Vec Ideal S1x128 .f32) (i j) :
    k0_pay44 (F := Ideal) x l o m r g b (ix2 i j)
      = x (ix2 i j) + (Ideal.div (o (ix2 i j) - m (ix2 i 0)) (Ideal.sqrt ((r (ix2 i 0) + r (ix2 i 1)) * Ideal.ofBits .f32 0x3C000000#32
          + Ideal.ofBits .f32 0x3727C5AC#32)) * g (ix2 0 j) + b (ix2 0 j)) + l (ix2 i j) := by
  pointwise [k0_pay44]
theorem st_45 (x l o : Vec Ideal S2048x128 .f32) (m : Vec Ideal S2048x1 .f32) (r : Vec Ideal S2048x2 .f32) (g b : Vec Ideal S1x128 .f32)
    (W : Vec Ideal S128x128 .f32) (d : Vec Ideal S1x128 .f32) (W1 : Vec Ideal S128x32 .f32) (i j) :
    k0_pay45 (F := Ideal) x l o m r g b W d W1 (ix2 i j)
      = ∑ c, gelu (lin (mat (k0_pay44 x l o m r g b)) (mat W) (row d) i c) * W1 (ix2 c j) := by
  pointwise [k0_pay45, lin, mat, row, gelu]
/-- The score before its greatest is taken off. -/
def sc0 (v : Vec Ideal S2048x32 .f32) (d1 : Vec Ideal S1x32 .f32) (P3 : Vec Ideal S32x1 .f32) (d3 : Vec Ideal S1x1 .f32) : Fin 2048 → EReal :=
  fun i => ∑ c, P3 (ix2 c 0) * gelu (v (ix2 i c) + d1 (ix2 0 c)) + d3 (ix2 0 0)
theorem st_46 (v : Vec Ideal S2048x32 .f32) (d1 : Vec Ideal S1x32 .f32) (P3 : Vec Ideal S32x1 .f32) (d3 : Vec Ideal S1x1 .f32) (i) :
    k0_pay46 (F := Ideal) v d1 P3 d3 (ix2 0 i) = expo (sc0 v d1 P3 d3) i := by
  pointwise [k0_pay46, expo, top, sc0, gelu]
theorem st_47 (v : Vec Ideal S2048x32 .f32) (d1 : Vec Ideal S1x32 .f32) (P3 : Vec Ideal S32x1 .f32) (d3 : Vec Ideal S1x1 .f32) (c : Fin 128) :
    k0_pay47 (F := Ideal) v d1 P3 d3 (ix2 0 c) = k0_pay46 v d1 P3 d3 (ix2 0 ⟨c.val, by omega⟩) + k0_pay46 v d1 P3 d3 (ix2 0 ⟨128 + c.val, by omega⟩) + k0_pay46 v d1 P3 d3 (ix2 0 ⟨256 + c.val, by omega⟩) + k0_pay46 v d1 P3 d3 (ix2 0 ⟨384 + c.val, by omega⟩) + k0_pay46 v d1 P3 d3 (ix2 0 ⟨512 + c.val, by omega⟩) + k0_pay46 v d1 P3 d3 (ix2 0 ⟨640 + c.val, by omega⟩) + k0_pay46 v d1 P3 d3 (ix2 0 ⟨768 + c.val, by omega⟩) + k0_pay46 v d1 P3 d3 (ix2 0 ⟨896 + c.val, by omega⟩) + k0_pay46 v d1 P3 d3 (ix2 0 ⟨1024 + c.val, by omega⟩) + k0_pay46 v d1 P3 d3 (ix2 0 ⟨1152 + c.val, by omega⟩) + k0_pay46 v d1 P3 d3 (ix2 0 ⟨1280 + c.val, by omega⟩) + k0_pay46 v d1 P3 d3 (ix2 0 ⟨1408 + c.val, by omega⟩) + k0_pay46 v d1 P3 d3 (ix2 0 ⟨1536 + c.val, by omega⟩) := by
  pointwise [k0_pay47]
theorem st_48 (e : Vec Ideal S1x2048 .f32) (z : Vec Ideal S1x128 .f32) (hz : ∀ c : Fin 128, z (ix2 0 c) = e (ix2 0 ⟨c.val, by omega⟩) + e (ix2 0 ⟨128 + c.val, by omega⟩) + e (ix2 0 ⟨256 + c.val, by omega⟩) + e (ix2 0 ⟨384 + c.val, by omega⟩) + e (ix2 0 ⟨512 + c.val, by omega⟩) + e (ix2 0 ⟨640 + c.val, by omega⟩) + e (ix2 0 ⟨768 + c.val, by omega⟩) + e (ix2 0 ⟨896 + c.val, by omega⟩) + e (ix2 0 ⟨1024 + c.val, by omega⟩) + e (ix2 0 ⟨1152 + c.val, by omega⟩) + e (ix2 0 ⟨1280 + c.val, by omega⟩) + e (ix2 0 ⟨1408 + c.val, by omega⟩) + e (ix2 0 ⟨1536 + c.val, by omega⟩)) (i) :
    k0_pay48 (F := Ideal) e z (ix2 0 i) = Ideal.div (e (ix2 0 i)) (∑ j, e (ix2 0 j)) := by
  rw [sum2048_lanes, sum128]
  pointwise [k0_pay48]
  simp only [hz]
  rfl
theorem st_49 (e : Vec Ideal S1x2048 .f32) (z : Vec Ideal S1x128 .f32) (i) :
    k0_pay49 (F := Ideal) e z (ix2 i 0) = ∑ x : Fin 2048, FloatOps.sitofp (F := Ideal) .f32 (BitVec.setWidth 32 (IntOp.cmpi .eq (BitVec.ofNat 32 i.val) (BitVec.ofNat 32 x.val))) * k0_pay48 e z (ix2 0 x) := by
  pointwise [k0_pay49]
theorem st_50 (e : Vec Ideal S1x2048 .f32) (z : Vec Ideal S1x128 .f32) (i j) :
    k0_pay50 (F := Ideal) e z (ix2 i j) = BitVec.ofBool (decide (k0_pay49 (F := Ideal) e z (ix2 i 0) < k0_pay48 (F := Ideal) e z (ix2 0 j))) := by
  pointwise [k0_pay50]
theorem st_2 (v : Vec Ideal S2048x128 .f32) (i j) : k0_pay2 (F := Ideal) v (ix3 0 i j) = v (ix2 i j) := by
  pointwise [k0_pay2]

end Cert.Proof.Layer

end
-- ==== Proof.EncHeads.lean ====
/-
  The two heads of the TensorCore call's attention, as the layer's functions, by halves of the keys.
-/
module

public import proofs.«01_k».proof.Proof.EncStage

@[expose] public section

set_option maxRecDepth 16384

noncomputable section

namespace Cert.Proof.Layer

open Cert.KernelIdeal Cert.KernelIdeal.Gen
open Idealize.ShloMosaic

/-- The first head's columns. -/
theorem st_7 (v0 v2 : Vec Ideal S1x2048x128 .f32) (W : Vec Ideal S128x128 .f32) (b : Vec Ideal S1x128 .f32) :
    mat (k0_pay7 (F := Ideal) v0 v2 W b) = head 0 (mat (k0_pay4 (F := Ideal) v0 v2 W b)) := by
  funext i j
  pointwise [k0_pay7, head, mat]
theorem st_8 (v0 v2 : Vec Ideal S1x2048x128 .f32) (W : Vec Ideal S128x128 .f32) (b : Vec Ideal S1x128 .f32) :
    mat (k0_pay8 (F := Ideal) v0 v2 W b) = head 0 (mat (k0_pay5 (F := Ideal) v0 v2 W b)) := by
  funext i j
  pointwise [k0_pay8, head, mat]
theorem st_9 (v0 v2 : Vec Ideal S1x2048x128 .f32) (W : Vec Ideal S128x128 .f32) (b : Vec Ideal S1x128 .f32) :
    mat (k0_pay9 (F := Ideal) v0 v2 W b) = head 0 (mat (k0_pay6 (F := Ideal) v0 v2 W b)) := by
  funext i j
  pointwise [k0_pay9, head, mat]
/-- The second head's columns. -/
theorem st_24 (q : Vec Ideal S2048x128 .f32) : mat (k0_pay24 (F := Ideal) q) = head 1 (mat q) := by
  funext i j
  pointwise [k0_pay24, head, mat]
theorem st_25 (q : Vec Ideal S2048x128 .f32) : mat (k0_pay25 (F := Ideal) q) = head 1 (mat q) := by
  funext i j
  pointwise [k0_pay25, head, mat]
theorem st_26 (q : Vec Ideal S2048x128 .f32) : mat (k0_pay26 (F := Ideal) q) = head 1 (mat q) := by
  funext i j
  pointwise [k0_pay26, head, mat]

/-- The two-halves form with each half's weighted sum by quarters. -/
theorem online_quarters (s0 s1 v0 v1 : Fin 1024 → EReal) : online s0 s1 v0 v1
    = (Ideal.exp (if top s0 = max (top s0) (top s1) then 0 else top s0 - max (top s0) (top s1)) * (∑ x, Ideal.exp (s0 x - top s0))
        * (((∑ x : Fin 256, Ideal.exp (s0 ⟨x.val, by omega⟩ - top s0) * v0 ⟨x.val, by omega⟩) + (∑ x : Fin 256, Ideal.exp (s0 ⟨256 + x.val, by omega⟩ - top s0) * v0 ⟨256 + x.val, by omega⟩) + (∑ x : Fin 256, Ideal.exp (s0 ⟨512 + x.val, by omega⟩ - top s0) * v0 ⟨512 + x.val, by omega⟩) + (∑ x : Fin 256, Ideal.exp (s0 ⟨768 + x.val, by omega⟩ - top s0) * v0 ⟨768 + x.val, by omega⟩)) * Ideal.div 1 (∑ x, Ideal.exp (s0 x - top s0)))
      + (∑ x : Fin 256, Ideal.exp (s1 ⟨x.val, by omega⟩ - max (top s0) (top s1)) * v1 ⟨x.val, by omega⟩) + (∑ x : Fin 256, Ideal.exp (s1 ⟨256 + x.val, by omega⟩ - max (top s0) (top s1)) * v1 ⟨256 + x.val, by omega⟩) + (∑ x : Fin 256, Ideal.exp (s1 ⟨512 + x.val, by omega⟩ - max (top s0) (top s1)) * v1 ⟨512 + x.val, by omega⟩) + (∑ x : Fin 256, Ideal.exp (s1 ⟨768 + x.val, by omega⟩ - max (top s0) (top s1)) * v1 ⟨768 + x.val, by omega⟩))
    * Ideal.div 1 (Ideal.exp (if top s0 = max (top s0) (top s1) then 0 else top s0 - max (top s0) (top s1)) * (∑ x, Ideal.exp (s0 x - top s0))
      + ∑ x, Ideal.exp (s1 x - max (top s0) (top s1))) := by
  unfold online
  rw [sum1024 (fun x => Ideal.exp (s0 x - top s0) * v0 x), sum1024 (fun x => Ideal.exp (s1 x - max (top s0) (top s1)) * v1 x)]
  simp only [add_assoc]

/-- The scores' halves, the first head. -/
theorem st_10 (v0 v2 : Vec Ideal S1x2048x128 .f32) (Wq : Vec Ideal S128x128 .f32) (bq : Vec Ideal S1x128 .f32) (Wk : Vec Ideal S128x128 .f32) (bk : Vec Ideal S1x128 .f32) (i j) :
    k0_pay10 (F := Ideal) v0 v2 Wq bq Wk bk (ix2 i j) = lo (scores (mat (k0_pay7 v0 v2 Wq bq)) (mat (k0_pay8 v0 v2 Wk bk)) i) j := by
  pointwise [k0_pay10, lo, scores, mat]
theorem st_11 (v0 v2 : Vec Ideal S1x2048x128 .f32) (Wq : Vec Ideal S128x128 .f32) (bq : Vec Ideal S1x128 .f32) (Wk : Vec Ideal S128x128 .f32) (bk : Vec Ideal S1x128 .f32) (i) :
    k0_pay11 (F := Ideal) v0 v2 Wq bq Wk bk (ix1 i) = top (fun j => k0_pay10 (F := Ideal) v0 v2 Wq bq Wk bk (ix2 i j)) := by
  pointwise [k0_pay11, top]
theorem eq1280 (x : ℕ) : 1280 + x = 1024 + (256 + x) := by omega
theorem eq1536 (x : ℕ) : 1536 + x = 1024 + (512 + x) := by omega
theorem eq1792 (x : ℕ) : 1792 + x = 1024 + (768 + x) := by omega
/-- The first head's output. -/
theorem st_23 (q k v : Vec Ideal S2048x64 .f32) (s : Vec Ideal S2048x1024 .f32) (t : Vec Ideal S2048 .f32) (i : Fin 2048)
    (hs : ∀ j, s (ix2 i j) = lo (scores (mat q) (mat k) i) j) (ht : t (ix1 i) = top (fun j => s (ix2 i j))) (d : Fin 64) :
    k0_pay23 (F := Ideal) v (k0_pay18 q k t) (k0_pay19 q k s t) (k0_pay20 q k v s t) (k0_pay21 q k t) (k0_pay22 v) (ix2 i d)
      = attendOnline (scores (mat q) (mat k)) (mat v) i d := by
  have hs' : (fun j => s (ix2 i j)) = lo (scores (mat q) (mat k) i) := funext hs
  rw [hs'] at ht
  rw [attendOnline, online_quarters]
  pointwise [k0_pay23, k0_pay22, k0_pay21, k0_pay20, k0_pay19, k0_pay18, k0_pay17, k0_pay16, k0_pay15, k0_pay14, k0_pay13, k0_pay12]
  simp only [hs, ht, eq1280, eq1536, eq1792]
  rfl

/-- The second head: the first half's greatest score, the sum of its exponentials, its weighted sum, and the two
    heads' outputs side by side. -/
theorem st_28 (q k : Vec Ideal S2048x128 .f32) (i) :
    k0_pay28 (F := Ideal) q k (ix2 i 0) = top (lo (scores (head 1 (mat q)) (head 1 (mat k)) i)) := by
  pointwise [k0_pay28, k0_pay27, k0_pay24, k0_pay25, top, lo, scores, head, mat]
theorem st_30 (q k : Vec Ideal S2048x128 .f32) (i) :
    k0_pay30 (F := Ideal) q k (ix2 i 0) = ∑ x, Ideal.exp (lo (scores (head 1 (mat q)) (head 1 (mat k)) i) x - top (lo (scores (head 1 (mat q)) (head 1 (mat k)) i))) := by
  pointwise [k0_pay30, k0_pay29, k0_pay28, k0_pay27, k0_pay24, k0_pay25, top, lo, scores, head, mat]
theorem st_32 (q k v : Vec Ideal S2048x128 .f32) (i d) :
    k0_pay32 (F := Ideal) q k v (ix2 i d) + k0_pay33 (F := Ideal) q k v (ix2 i d)
      = ∑ x, Ideal.exp (lo (scores (head 1 (mat q)) (head 1 (mat k)) i) x - top (lo (scores (head 1 (mat q)) (head 1 (mat k)) i))) * lo (fun j => head 1 (mat v) j d) x := by
  rw [sum1024]
  pointwise [k0_pay32, k0_pay33, k0_pay31, k0_pay26, k0_pay29, k0_pay28, k0_pay27, k0_pay24, k0_pay25, top, lo, scores, head, mat]

theorem st_34 (a q k v : Vec Ideal S2048x64 .f32) (m l : Vec Ideal S2048x1 .f32) (r r' : Vec Ideal S2048x64 .f32) (i : Fin 2048)
    (hm : m (ix2 i 0) = top (lo (scores (mat q) (mat k) i)))
    (hl : l (ix2 i 0) = ∑ x, Ideal.exp (lo (scores (mat q) (mat k) i) x - top (lo (scores (mat q) (mat k) i))))
    (hr : ∀ d, r (ix2 i d) + r' (ix2 i d)
      = ∑ x, Ideal.exp (lo (scores (mat q) (mat k) i) x - top (lo (scores (mat q) (mat k) i))) * lo (fun j => mat v j d) x) (j : Fin 128) :
    k0_pay34 (F := Ideal) a q k v m l r r' (ix2 i j) = joined (mat a) (attendOnline (scores (mat q) (mat k)) (mat v)) i j := by
  unfold joined
  by_cases h : j.val < 64
  · rw [dif_pos h]
    pointwise [k0_pay34, mat]
    rw [dif_pos h]
  · rw [dif_neg h, attendOnline, online_quarters, ← sum1024 (fun x => Ideal.exp (lo (scores (mat q) (mat k) i) x - top (lo (scores (mat q) (mat k) i))) * lo (fun y => mat v y ⟨j.val - 64, by omega⟩) x), ← hl, ← hr, ← hm]
    pointwise [k0_pay34]
    rw [dif_neg h]
    simp only [eq1280, eq1536, eq1792]
    rfl

end Cert.Proof.Layer

end
-- ==== Proof.EncRank.lean ====
/-
  The ranks of the tokens by their probabilities are 0 to 2047, each once; and the TensorCore call's last stage, which
  sums the token numbers whose rank is `k`, is the number of the token of rank `k`.
-/
module

public import proofs.«01_k».proof.Proof.EncStage
public import Idealize.ShloMosaic.Lib.IndicatorCount
public import Idealize.ShloMosaic.Lib.WordCmp

@[expose] public section

set_option maxRecDepth 16384

noncomputable section

namespace Cert.Proof.Layer

open Cert.KernelIdeal Cert.KernelIdeal.Gen
open Idealize.ShloMosaic Idealize.ShloMosaic.WordCmp

variable (p : Fin 2048 → EReal)

theorem before_irrefl (i : Fin 2048) : ¬ before p i i := by
  rintro (h | ⟨_, h⟩)
  · exact lt_irrefl _ h
  · exact lt_irrefl _ h

theorem before_trans {i j k : Fin 2048} (h : before p i j) (h' : before p j k) : before p i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem before_total {i j : Fin 2048} (h : i ≠ j) : before p i j ∨ before p j i := by
  rcases lt_trichotomy (p i) (p j) with h' | h' | h'
  · exact Or.inr (Or.inl h')
  · rcases lt_or_gt_of_ne h with g | g
    · exact Or.inl (Or.inr ⟨h', g⟩)
    · exact Or.inr (Or.inr ⟨h'.symm, g⟩)
  · exact Or.inl (Or.inl h')

theorem rank_lt_of_before {i j : Fin 2048} (h : before p i j) : rank p i < rank p j := by
  refine Finset.card_lt_card ⟨fun x hx => ?_, fun hs => ?_⟩
  · simp only [Finset.mem_filter, Finset.mem_univ, true_and] at hx ⊢
    exact before_trans p hx h
  · have := hs (show i ∈ _ by simpa using h)
    simp only [Finset.mem_filter, Finset.mem_univ, true_and] at this
    exact before_irrefl p i this

theorem rank_lt (i : Fin 2048) : rank p i < 2048 := by
  have : rank p i < (Finset.univ : Finset (Fin 2048)).card := by
    refine Finset.card_lt_card ⟨fun x _ => Finset.mem_univ x, fun hs => ?_⟩
    have := hs (Finset.mem_univ i)
    simp only [Finset.mem_filter, Finset.mem_univ, true_and] at this
    exact before_irrefl p i this
  simpa using this

/-- The rank, below 2048. -/
def rk (i : Fin 2048) : Fin 2048 := ⟨rank p i, rank_lt p i⟩

theorem rk_injective : Function.Injective (rk p) := by
  intro i j h
  by_contra hne
  have e : rank p i = rank p j := congrArg Fin.val h
  rcases before_total p hne with g | g
  · exact absurd e (rank_lt_of_before p g).ne
  · exact absurd e (rank_lt_of_before p g).ne'

theorem rk_bijective : Function.Bijective (rk p) := Finite.injective_iff_bijective.mp (rk_injective p)

/-- The token of rank `k`. -/
def atRank (k : Fin 2048) : Fin 2048 := (Equiv.ofBijective _ (rk_bijective p)).symm k

theorem rk_atRank (k : Fin 2048) : rk p (atRank p k) = k := (Equiv.ofBijective _ (rk_bijective p)).apply_symm_apply k

theorem rank_eq_iff (i k : Fin 2048) : rank p i = k.val ↔ i = atRank p k := by
  constructor
  · intro h
    exact rk_injective p ((Fin.ext h : rk p i = k).trans (rk_atRank p k).symm)
  · rintro rfl
    exact congrArg Fin.val (rk_atRank p k)

theorem fold_addi_zero {ι : Type} (s : Finset ι) (f : ι → BitVec 32) (h : ∀ x ∈ s, f x = 0#32) : s.fold IntOp.addi 0#32 f = 0#32 := by
  classical
  induction s using Finset.induction_on with
  | empty => rfl
  | insert a s ha ih =>
    rw [Finset.fold_insert ha, ih fun x hx => h x (Finset.mem_insert_of_mem hx), h a (Finset.mem_insert_self a s)]
    rfl

/-- A sum with one entry that is not zero. -/
theorem fold_addi_single {ι : Type} [DecidableEq ι] (s : Finset ι) (f : ι → BitVec 32) (a : ι) (ha : a ∈ s) (h : ∀ x ∈ s, x ≠ a → f x = 0#32) :
    s.fold IntOp.addi 0#32 f = f a := by
  rw [← Finset.insert_erase ha, Finset.fold_insert (Finset.notMem_erase a s),
    fold_addi_zero _ f fun x hx => h x (Finset.mem_of_mem_erase hx) (Finset.ne_of_mem_erase hx)]
  exact BitVec.add_zero _

/-- The diagonal of the probabilities' row is the row. -/
theorem diag (f : Fin 2048 → EReal) (i : Fin 2048) :
    ∑ x : Fin 2048, FloatOps.sitofp (F := Ideal) .f32 (BitVec.setWidth 32 (IntOp.cmpi .eq (BitVec.ofNat 32 i.val) (BitVec.ofNat 32 x.val))) * f x
      = f i := by
  rw [Finset.sum_eq_single i]
  · rw [cmpi_eq_ofNat (by omega) (by omega)]
    simp [FloatOps.sitofp]
  · intro x _ hx
    rw [cmpi_eq_ofNat (by omega) (by omega)]
    have : ¬ i.val = x.val := fun e => hx (Fin.ext e.symm)
    simp [FloatOps.sitofp, this]
  · intro h; exact absurd (Finset.mem_univ i) h

/-- The last stage: the number of the token of rank `k`, among all sequences' tokens. -/
theorem st_1 (a : BitVec 32) (v : Vec Ideal S1x2048 .f32) (pc : Vec Ideal S2048x1 .f32) (gt : IVec S2048x2048 1)
    (hv : ∀ i, v (ix2 0 i) = p i) (hpc : ∀ i, pc (ix2 i 0) = p i) (hgt : ∀ i j, gt (ix2 i j) = BitVec.ofBool (decide (p i < p j))) (k : Fin 1024) :
    k0_pay1 (F := Ideal) a v (iota .tc S2048x1 32 [0] iota_S2048x1_d0_w32) (iota .tc S1x2048 32 [1] iota_S1x2048_d1_w32) pc gt (ix3 0 0 k)
      = BitVec.ofNat 32 (atRank p ⟨k.val, by omega⟩).val + a * 2048#32 := by
  have hr : ∀ x : Fin 2048, Finset.fold IntOp.addi (0#32) (fun y : Fin 2048 => BitVec.setWidth 32 (IntOp.ori (gt (ix2 x y))
      (IntOp.andi (BitVec.ofBool (decide (v (ix2 0 y) = pc (ix2 x 0)))) (IntOp.cmpi CmpIPredicate.slt (BitVec.ofNat 32 y.val) (BitVec.ofNat 32 x.val)))))
      Finset.univ = BitVec.ofNat 32 (rank p x) := by
    intro x
    rw [IndicatorCount.fold_addi_setWidth_eq_card]
    congr 1
    unfold rank
    congr 1
    ext y
    rw [Finset.mem_filter, Finset.mem_filter]
    simp only [Finset.mem_univ, true_and, before]
    rw [cmpi_slt_ofNat (by omega) (by omega), hgt, hv, hpc, andi_ofBool, ori_ofBool, ofBool_eq_one_iff]
    simp
  have e : k0_pay1 (F := Ideal) a v (iota .tc S2048x1 32 [0] iota_S2048x1_d0_w32) (iota .tc S1x2048 32 [1] iota_S1x2048_d1_w32) pc gt (ix3 0 0 k)
      = IntOp.addi (Finset.fold IntOp.addi (0#32) (fun x : Fin 2048 => Scalar.select (IntOp.cmpi CmpIPredicate.eq
          (Finset.fold IntOp.addi (0#32) (fun y : Fin 2048 => BitVec.setWidth 32 (IntOp.ori (gt (ix2 x y))
            (IntOp.andi (BitVec.ofBool (decide (v (ix2 0 y) = pc (ix2 x 0)))) (IntOp.cmpi CmpIPredicate.slt (BitVec.ofNat 32 y.val) (BitVec.ofNat 32 x.val)))))
            Finset.univ) (BitVec.ofNat 32 k.val)) (BitVec.ofNat 32 x.val) 0#32) Finset.univ) (Scalar.muli a 2048#32) := by
    pointwise [k0_pay1]
  rw [e]
  simp only [hr]
  rw [fold_addi_single _ _ (atRank p ⟨k.val, by omega⟩) (Finset.mem_univ _)]
  · rw [cmpi_eq_ofNat (by have := rank_lt p (atRank p ⟨k.val, by omega⟩); omega) (by omega)]
    have := (rank_eq_iff p (atRank p ⟨k.val, by omega⟩) ⟨k.val, by omega⟩).mpr rfl
    simp only [this, decide_true, Scalar.select]
    rfl
  · intro x _ hx
    rw [cmpi_eq_ofNat (by have := rank_lt p x; omega) (by omega)]
    have : ¬ rank p x = k.val := fun e => hx ((rank_eq_iff p x ⟨k.val, by omega⟩).mp e)
    simp [this, Scalar.select]

end Cert.Proof.Layer

end
-- ==== Proof.EncOut.lean ====
/-
  What the TensorCore call's body leaves in its two results' staging buffers, as the layer's functions of its operands'
  blocks: the layer's output, and for each rank `k` below 1024 the number of the token of that rank.
-/
module

public import proofs.«01_k».proof.Proof.EncRegion
public import proofs.«01_k».proof.Proof.EncHeads
public import proofs.«01_k».proof.Proof.EncRank
public import Idealize.ShloMosaic.Lib.Pipeline.ValueKit.Basic

@[expose] public section

set_option maxRecDepth 16384

noncomputable section

namespace Cert.Proof.Layer

open Cert.KernelIdeal Cert.KernelIdeal.Gen
open Idealize.ShloMosaic

section Chain

variable (x0 x1 : Vec Ideal S1x2048x128 .f32) (x2 : Vec Ideal S128x128 .f32) (x3 : Vec Ideal S1x128 .f32) (x4 : Vec Ideal S128x128 .f32) (x5 : Vec Ideal S1x128 .f32) (x6 : Vec Ideal S128x128 .f32) (x7 : Vec Ideal S1x128 .f32) (x8 : Vec Ideal S128x128 .f32) (x9 x10 x11 x12 x13 : Vec Ideal S1x128 .f32) (x14 : Vec Ideal S128x512 .f32) (x15 : Vec Ideal S1x512 .f32) (x16 : Vec Ideal S512x128 .f32) (x17 : Vec Ideal S1x128 .f32) (x18 : Vec Ideal S128x128 .f32) (x19 : Vec Ideal S1x128 .f32) (x20 : Vec Ideal S128x32 .f32) (x21 : Vec Ideal S1x32 .f32) (x22 : Vec Ideal S32x1 .f32) (x23 : Vec Ideal S1x1 .f32)

/-- The weights, as the body loads them. -/
def wOf : Weights where
  Wq := mat x2
  bq := row x3
  Wk := mat x4
  bk := row x5
  Wv := mat x6
  bv := row x7
  Wo := mat x8
  bo := row x9
  g1 := row x10
  b1 := row x11
  g2 := row x12
  b2 := row x13
  F1 := mat x14
  c1 := row x15
  F2 := mat x16
  c2 := row x17
  P0 := mat x18
  d0 := row x19
  P1 := mat x20
  d1 := row x21
  P3 := fun c => x22 (ix2 c 0)
  d3 := x23 (ix2 0 0)

/-- The heads' outputs by halves of the keys. -/
def heads (w : Weights) (x : Mat 2048 128) : Mat 2048 128 :=
  joined (attendOnline (sc w 0 x) (head 0 (lin x w.Wv w.bv))) (attendOnline (sc w 1 x) (head 1 (lin x w.Wv w.bv)))

theorem joined_congr (a a' b : Mat 2048 64) (h : a = a') (i : Fin 2048) (j : Fin 128) : joined a b i j = joined a' b i j := by rw [h]

local notation "W" => wOf x2 x3 x4 x5 x6 x7 x8 x9 x10 x11 x12 x13 x14 x15 x16 x17 x18 x19 x20 x21 x22 x23

theorem mat_4 : mat (k0_pay4 (F := Ideal) x0 x1 x2 x3) = lin (toks x0 x1) (mat x2) (row x3) := funext fun i => funext fun j => st_4 ..
theorem mat_5 : mat (k0_pay5 (F := Ideal) x0 x1 x4 x5) = lin (toks x0 x1) (mat x4) (row x5) := funext fun i => funext fun j => st_5 ..
theorem mat_6 : mat (k0_pay6 (F := Ideal) x0 x1 x6 x7) = lin (toks x0 x1) (mat x6) (row x7) := funext fun i => funext fun j => st_6 ..

/-- The two heads, from the projected queries, keys and values. -/
theorem heads_eq (i : Fin 2048) (j : Fin 128) :
    k0_pay34 (F := Ideal)
      (k0_pay23 (F := Ideal) (k0_pay9 x0 x1 x6 x7)
        (k0_pay18 (k0_pay7 x0 x1 x2 x3) (k0_pay8 x0 x1 x4 x5) (k0_pay11 x0 x1 x2 x3 x4 x5))
        (k0_pay19 (k0_pay7 x0 x1 x2 x3) (k0_pay8 x0 x1 x4 x5) (k0_pay10 x0 x1 x2 x3 x4 x5) (k0_pay11 x0 x1 x2 x3 x4 x5))
        (k0_pay20 (k0_pay7 x0 x1 x2 x3) (k0_pay8 x0 x1 x4 x5) (k0_pay9 x0 x1 x6 x7) (k0_pay10 x0 x1 x2 x3 x4 x5) (k0_pay11 x0 x1 x2 x3 x4 x5))
        (k0_pay21 (k0_pay7 x0 x1 x2 x3) (k0_pay8 x0 x1 x4 x5) (k0_pay11 x0 x1 x2 x3 x4 x5)) (k0_pay22 (k0_pay9 x0 x1 x6 x7)))
      (k0_pay24 (k0_pay4 x0 x1 x2 x3)) (k0_pay25 (k0_pay5 x0 x1 x4 x5)) (k0_pay26 (k0_pay6 x0 x1 x6 x7))
      (k0_pay28 (k0_pay4 x0 x1 x2 x3) (k0_pay5 x0 x1 x4 x5)) (k0_pay30 (k0_pay4 x0 x1 x2 x3) (k0_pay5 x0 x1 x4 x5))
      (k0_pay32 (k0_pay4 x0 x1 x2 x3) (k0_pay5 x0 x1 x4 x5) (k0_pay6 x0 x1 x6 x7)) (k0_pay33 (k0_pay4 x0 x1 x2 x3) (k0_pay5 x0 x1 x4 x5) (k0_pay6 x0 x1 x6 x7)) (ix2 i j)
      = heads W (toks x0 x1) i j := by
  refine (st_34 _ _ _ _ _ _ _ _ i ?_ ?_ ?_ j).trans ?_
  · rw [st_24, st_25]; exact st_28 ..
  · rw [st_24, st_25]; exact st_30 ..
  · rw [st_24, st_25, st_26]; exact fun d => st_32 _ _ _ i d
  · rw [st_24, st_25, st_26, mat_4, mat_5, mat_6]
    have hb : attendOnline (scores (head 1 (lin (toks x0 x1) (mat x2) (row x3))) (head 1 (lin (toks x0 x1) (mat x4) (row x5)))) (head 1 (lin (toks x0 x1) (mat x6) (row x7)))
        = attendOnline (sc W 1 (toks x0 x1)) (head 1 (lin (toks x0 x1) (W).Wv (W).bv)) := by
      unfold sc wOf; rfl
    rw [hb]
    unfold heads
    refine joined_congr _ _ _ (funext fun i => funext fun d => ?_) i j
    refine (st_23 _ _ _ _ _ i (fun j => st_10 ..) (st_11 ..) d).trans ?_
    rw [st_7, st_8, st_9, mat_4, mat_5, mat_6]
    unfold sc wOf; rfl

/-- The first layer normalisation, from the heads' outputs. -/
theorem ln1_eq (o : Vec Ideal S2048x128 .f32) (i : Fin 2048) (j : Fin 128) :
    k0_pay39 (F := Ideal) (k0_pay35 o x8 x9) (k0_pay36 o x8 x9) (k0_pay37 o x8 x9) (k0_pay38 o x8 x9) x10 x11 (ix2 i j) = ln1 W (mat o) i j := by
  rw [st_39 _ _ _ _ _ _ i (fun c => st_38 ..)]
  simp only [st_37, st_36, st_35]
  rfl

/-- The layer's output, from the tokens and the first normalisation. -/
theorem out_eq (x l : Vec Ideal S2048x128 .f32) (i : Fin 2048) (j : Fin 128) :
    k0_pay44 (F := Ideal) x l (k0_pay40 x l x14 x15 x16 x17) (k0_pay42 (k0_pay40 x l x14 x15 x16 x17) (k0_pay41 x l x14 x15 x16 x17))
      (k0_pay43 (k0_pay40 x l x14 x15 x16 x17) (k0_pay41 x l x14 x15 x16 x17)) x12 x13 (ix2 i j)
      = mat x i j + lnorm (row x12) (row x13) (mlp W (fun i j => mat x i j + mat l i j) i) j + mat l i j := by
  rw [st_44, st_43]
  simp only [st_42, st_40]
  rfl

/-- The probabilities, as a row and as a column, and the comparison of two of them. -/
theorem prob_48 (v : Vec Ideal S2048x32 .f32) (i : Fin 2048) :
    k0_pay48 (F := Ideal) (k0_pay46 v x21 x22 x23) (k0_pay47 v x21 x22 x23) (ix2 0 i) = soft (sc0 v x21 x22 x23) i := by
  rw [st_48 _ _ (fun c => st_47 ..)]
  simp only [st_46]
  rfl
theorem prob_49 (v : Vec Ideal S2048x32 .f32) (i : Fin 2048) :
    k0_pay49 (F := Ideal) (k0_pay46 v x21 x22 x23) (k0_pay47 v x21 x22 x23) (ix2 i 0) = soft (sc0 v x21 x22 x23) i := by
  rw [st_49, diag (fun x => k0_pay48 (F := Ideal) (k0_pay46 v x21 x22 x23) (k0_pay47 v x21 x22 x23) (ix2 0 x)), prob_48]
theorem prob_50 (v : Vec Ideal S2048x32 .f32) (i j : Fin 2048) :
    k0_pay50 (F := Ideal) (k0_pay46 v x21 x22 x23) (k0_pay47 v x21 x22 x23) (ix2 i j)
      = BitVec.ofBool (decide (soft (sc0 v x21 x22 x23) i < soft (sc0 v x21 x22 x23) j)) := by
  rw [st_50, prob_48, prob_49]

/-- The score, from the layer's output. -/
theorem score_eq (x l o : Vec Ideal S2048x128 .f32) (m : Vec Ideal S2048x1 .f32) (r : Vec Ideal S2048x2 .f32) :
    sc0 (k0_pay45 (F := Ideal) x l o m r x12 x13 x18 x19 x20) x21 x22 x23 = score W (mat (k0_pay44 (F := Ideal) x l o m r x12 x13)) := by
  funext i
  unfold sc0
  simp only [st_45]
  rfl

section Body
variable (i : grid0.Coords)

theorem mat_51 : mat (Whole.k0_pay51 i x0 x1 x2 x3 x4 x5 x6 x7 x8 x9 x10 x11 x12 x13 x14 x15 x16 x17 x18 x19 x20 x21 x22 x23) = toks x0 x1 := by
  funext r j
  unfold Whole.k0_pay51
  rw [View.ld_unit_lit _ x0 (by decide), View.ld_unit_lit _ x1 (by decide)]
  exact st_3 ..
theorem mat_60 : mat (Whole.k0_pay60 i x0 x1 x2 x3 x4 x5 x6 x7 x8 x9 x10 x11 x12 x13 x14 x15 x16 x17 x18 x19 x20 x21 x22 x23) = heads W (toks x0 x1) := by
  funext r j
  unfold Whole.k0_pay60 Whole.k0_pay59 Whole.k0_pay58 Whole.k0_pay57 Whole.k0_pay56 Whole.k0_pay55 Whole.k0_pay54 Whole.k0_pay53 Whole.k0_pay52
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]
  exact heads_eq ..
theorem mat_61 : mat (Whole.k0_pay61 i x0 x1 x2 x3 x4 x5 x6 x7 x8 x9 x10 x11 x12 x13 x14 x15 x16 x17 x18 x19 x20 x21 x22 x23) = ln1 W (heads W (toks x0 x1)) := by
  rw [← mat_60 x0 x1 x2 x3 x4 x5 x6 x7 x8 x9 x10 x11 x12 x13 x14 x15 x16 x17 x18 x19 x20 x21 x22 x23 i]
  funext r j
  unfold Whole.k0_pay61
  rw [View.ld_unit_lit _ x8 (by decide), View.ld_unit_lit _ x9 (by decide), View.ld_unit_lit _ x10 (by decide), View.ld_unit_lit _ x11 (by decide)]
  exact ln1_eq ..
/-- The layer's output, -/
theorem mat_44 : mat (k0_pay44 (F := Ideal) (Whole.k0_pay51 i x0 x1 x2 x3 x4 x5 x6 x7 x8 x9 x10 x11 x12 x13 x14 x15 x16 x17 x18 x19 x20 x21 x22 x23) (Whole.k0_pay61 i x0 x1 x2 x3 x4 x5 x6 x7 x8 x9 x10 x11 x12 x13 x14 x15 x16 x17 x18 x19 x20 x21 x22 x23) (Whole.k0_pay62 i x0 x1 x2 x3 x4 x5 x6 x7 x8 x9 x10 x11 x12 x13 x14 x15 x16 x17 x18 x19 x20 x21 x22 x23) (Whole.k0_pay64 i x0 x1 x2 x3 x4 x5 x6 x7 x8 x9 x10 x11 x12 x13 x14 x15 x16 x17 x18 x19 x20 x21 x22 x23) (Whole.k0_pay65 i x0 x1 x2 x3 x4 x5 x6 x7 x8 x9 x10 x11 x12 x13 x14 x15 x16 x17 x18 x19 x20 x21 x22 x23)
      (View.ld x12 Whole.r0_2) (View.ld x13 Whole.r0_2)) = out W (toks x0 x1) (heads W (toks x0 x1)) := by
  funext r j
  unfold Whole.k0_pay64 Whole.k0_pay65 Whole.k0_pay62 Whole.k0_pay63
  rw [View.ld_unit_lit _ x12 (by decide), View.ld_unit_lit _ x13 (by decide), View.ld_unit_lit _ x14 (by decide), View.ld_unit_lit _ x15 (by decide),
    View.ld_unit_lit _ x16 (by decide), View.ld_unit_lit _ x17 (by decide)]
  refine (out_eq x2 x3 x4 x5 x6 x7 x8 x9 x10 x11 x12 x13 x14 x15 x16 x17 x18 x19 x20 x21 x22 x23 _ _ r j).trans ?_
  rw [mat_51 x0 x1 x2 x3 x4 x5 x6 x7 x8 x9 x10 x11 x12 x13 x14 x15 x16 x17 x18 x19 x20 x21 x22 x23 i, mat_61 x0 x1 x2 x3 x4 x5 x6 x7 x8 x9 x10 x11 x12 x13 x14 x15 x16 x17 x18 x19 x20 x21 x22 x23 i]
  rfl
/-- as the body leaves it. -/
theorem out24 (r : Fin 2048) (j : Fin 128) : Whole.out0_24 i x0 x1 x2 x3 x4 x5 x6 x7 x8 x9 x10 x11 x12 x13 x14 x15 x16 x17 x18 x19 x20 x21 x22 x23 (ix3 0 r j) = out W (toks x0 x1) (heads W (toks x0 x1)) r j := by
  rw [← mat_44 x0 x1 x2 x3 x4 x5 x6 x7 x8 x9 x10 x11 x12 x13 x14 x15 x16 x17 x18 x19 x20 x21 x22 x23 i]
  unfold Whole.out0_24
  rw [View.canon_cons_unit_lit _ _ _ (by decide)]
  exact st_2 ..
/-- The selected row numbers, as the body leaves them. -/
theorem out25 (k : Fin 1024) : Whole.out0_25 i x0 x1 x2 x3 x4 x5 x6 x7 x8 x9 x10 x11 x12 x13 x14 x15 x16 x17 x18 x19 x20 x21 x22 x23 (ix3 0 0 k)
    = BitVec.ofNat 32 (atRank (prob W (out W (toks x0 x1) (heads W (toks x0 x1)))) ⟨k.val, by omega⟩).val + BitVec.ofNat 32 (i 0).val * 2048#32 := by
  have e : prob W (out W (toks x0 x1) (heads W (toks x0 x1))) = soft (sc0 (Whole.k0_pay66 i x0 x1 x2 x3 x4 x5 x6 x7 x8 x9 x10 x11 x12 x13 x14 x15 x16 x17 x18 x19 x20 x21 x22 x23) x21 x22 x23) := by
    unfold prob Whole.k0_pay66
    rw [← mat_44 x0 x1 x2 x3 x4 x5 x6 x7 x8 x9 x10 x11 x12 x13 x14 x15 x16 x17 x18 x19 x20 x21 x22 x23 i, View.ld_unit_lit _ x12 (by decide), View.ld_unit_lit _ x13 (by decide), View.ld_unit_lit _ x18 (by decide),
      View.ld_unit_lit _ x19 (by decide), View.ld_unit_lit _ x20 (by decide), score_eq x2 x3 x4 x5 x6 x7 x8 x9 x10 x11 x12 x13 x14 x15 x16 x17 x18 x19 x20 x21 x22 x23]
  rw [e]
  unfold Whole.out0_25
  rw [View.canon_cons_unit_lit _ _ _ (by decide)]
  unfold Whole.k0_pay67 Whole.k0_pay68
  rw [View.ld_unit_lit _ x21 (by decide), View.ld_unit_lit _ x22 (by decide), View.ld_unit_lit _ x23 (by decide)]
  exact st_1 _ _ _ _ _ (fun r => prob_48 ..) (fun r => prob_49 ..) (fun r s => prob_50 ..) k

end Body

end Chain

end Cert.Proof.Layer

end
-- ==== Proof.WholeValues.lean ====
/-
  The whole kernel's results, in the layer's own terms: the TensorCore call leaves every sequence's encoded tokens and the
  row numbers of its 1024 tokens of highest probability, which the SparseCore call's rows are then taken by.
-/
module

public import proofs.«01_k».proof.Proof.WholeArrays
public import proofs.«01_k».proof.Proof.EncOut

@[expose] public section

set_option maxRecDepth 16384

noncomputable section

namespace Cert.Proof.Whole

open Cert.KernelIdeal Cert.KernelIdeal.Gen
open Idealize.ShloMosaic Idealize.ShloMosaic.TcCoe
open Cert.Proof.Layer

variable (m : (ℓ : Loc nD τ sig) → Buf (Elt Ideal) ℓ) (c : Dev nD)

/-- The kernel's weights, -/
def kw : Weights where
  Wq := fun i j => (arg m c main_arg2 : S128x128.Idx → EReal) (ix2 i j)
  bq := fun j => (arg m c main_arg3 : S128.Idx → EReal) (ix1 j)
  Wk := fun i j => (arg m c main_arg4 : S128x128.Idx → EReal) (ix2 i j)
  bk := fun j => (arg m c main_arg5 : S128.Idx → EReal) (ix1 j)
  Wv := fun i j => (arg m c main_arg6 : S128x128.Idx → EReal) (ix2 i j)
  bv := fun j => (arg m c main_arg7 : S128.Idx → EReal) (ix1 j)
  Wo := fun i j => (arg m c main_arg8 : S128x128.Idx → EReal) (ix2 i j)
  bo := fun j => (arg m c main_arg9 : S128.Idx → EReal) (ix1 j)
  g1 := fun j => (arg m c main_arg10 : S128.Idx → EReal) (ix1 j)
  b1 := fun j => (arg m c main_arg11 : S128.Idx → EReal) (ix1 j)
  g2 := fun j => (arg m c main_arg12 : S128.Idx → EReal) (ix1 j)
  b2 := fun j => (arg m c main_arg13 : S128.Idx → EReal) (ix1 j)
  F1 := fun i j => (arg m c main_arg14 : S128x512.Idx → EReal) (ix2 i j)
  c1 := fun j => (arg m c main_arg15 : S512.Idx → EReal) (ix1 j)
  F2 := fun i j => (arg m c main_arg16 : S512x128.Idx → EReal) (ix2 i j)
  c2 := fun j => (arg m c main_arg17 : S128.Idx → EReal) (ix1 j)
  P0 := fun i j => (arg m c main_arg18 : S128x128.Idx → EReal) (ix2 i j)
  d0 := fun j => (arg m c main_arg19 : S128.Idx → EReal) (ix1 j)
  P1 := fun i j => (arg m c main_arg20 : S128x32.Idx → EReal) (ix2 i j)
  d1 := fun j => (arg m c main_arg21 : S32.Idx → EReal) (ix1 j)
  P3 := fun i => (arg m c main_arg22 : S32x1.Idx → EReal) (ix2 i 0)
  d3 := (arg m c main_arg23 : S1.Idx → EReal) (ix1 0)
/-- a sequence's tokens with their positions added, -/
def kX (b : Fin 4) : Mat 2048 128 := fun i j =>
  @HAdd.hAdd EReal EReal EReal _ ((arg m c main_arg0 : S4x2048x128.Idx → EReal) (ix3 b i j)) ((arg m c main_arg1 : S4x2048x128.Idx → EReal) (ix3 b i j))
/-- what its heads leave, -/
def kO (b : Fin 4) : Mat 2048 128 := heads (kw m c) (kX m c b)
/-- its token of rank `k`. -/
def ksel (b : Fin 4) (k : Fin 1024) : Fin 2048 := atRank (prob (kw m c) (out (kw m c) (kX m c b) (kO m c b))) ⟨k.val, by omega⟩

theorem wOf_eq (b : Fin 4) : wOf (iblk (VIr m) c 2 (pt b)) (iblk (VIr m) c 3 (pt b)) (iblk (VIr m) c 4 (pt b)) (iblk (VIr m) c 5 (pt b)) (iblk (VIr m) c 6 (pt b)) (iblk (VIr m) c 7 (pt b)) (iblk (VIr m) c 8 (pt b)) (iblk (VIr m) c 9 (pt b)) (iblk (VIr m) c 10 (pt b)) (iblk (VIr m) c 11 (pt b)) (iblk (VIr m) c 12 (pt b)) (iblk (VIr m) c 13 (pt b)) (iblk (VIr m) c 14 (pt b)) (iblk (VIr m) c 15 (pt b)) (iblk (VIr m) c 16 (pt b)) (iblk (VIr m) c 17 (pt b)) (iblk (VIr m) c 18 (pt b)) (iblk (VIr m) c 19 (pt b)) (iblk (VIr m) c 20 (pt b)) (iblk (VIr m) c 21 (pt b)) (iblk (VIr m) c 22 (pt b)) (iblk (VIr m) c 23 (pt b)) = kw m c := by
  rw [iblk_2, iblk_3, iblk_4, iblk_5, iblk_6, iblk_7, iblk_8, iblk_9, iblk_10, iblk_11, iblk_12, iblk_13, iblk_14, iblk_15, iblk_16, iblk_17, iblk_18, iblk_19, iblk_20, iblk_21, iblk_22, iblk_23]
  rw [VI_arg2, VI_v0, VI_arg4, VI_v1, VI_arg6, VI_v2, VI_arg8, VI_v3, VI_v4, VI_v5, VI_v6, VI_v7, VI_arg14, VI_v8, VI_arg16, VI_v9, VI_arg18, VI_v10, VI_arg20, VI_v11, VI_arg22, VI_v12]
  unfold wOf mat row kw
  simp only [cast_row]
theorem toks_eq (b : Fin 4) : toks (iblk (VIr m) c 0 (pt b)) (iblk (VIr m) c 1 (pt b)) = kX m c b := by
  funext i j
  unfold toks kX
  rw [iblk_0, iblk_1, VI_arg0, VI_arg1]

/-- The encoded tokens, -/
theorem enc0 (b : Fin 4) (r : Fin 2048) (j : Fin 128) : (VO m c be0 : S4x2048x128.Idx → EReal) (ix3 b r j) = out (kw m c) (kX m c b) (kO m c b) r j := by
  rw [VO_e0]
  refine (arr24 (VIr m) c b r j).trans ?_
  rw [after0_24]
  refine (out24 (iblk (VIr m) c 0 (pt b)) (iblk (VIr m) c 1 (pt b)) (iblk (VIr m) c 2 (pt b)) (iblk (VIr m) c 3 (pt b)) (iblk (VIr m) c 4 (pt b)) (iblk (VIr m) c 5 (pt b)) (iblk (VIr m) c 6 (pt b)) (iblk (VIr m) c 7 (pt b)) (iblk (VIr m) c 8 (pt b)) (iblk (VIr m) c 9 (pt b)) (iblk (VIr m) c 10 (pt b)) (iblk (VIr m) c 11 (pt b)) (iblk (VIr m) c 12 (pt b)) (iblk (VIr m) c 13 (pt b)) (iblk (VIr m) c 14 (pt b)) (iblk (VIr m) c 15 (pt b)) (iblk (VIr m) c 16 (pt b)) (iblk (VIr m) c 17 (pt b)) (iblk (VIr m) c 18 (pt b)) (iblk (VIr m) c 19 (pt b)) (iblk (VIr m) c 20 (pt b)) (iblk (VIr m) c 21 (pt b)) (iblk (VIr m) c 22 (pt b)) (iblk (VIr m) c 23 (pt b)) (grid0.coords (pt b)) r j).trans ?_
  rw [wOf_eq, toks_eq]
  rfl
/-- and the row numbers. -/
theorem enc1 (b : Fin 4) (k : Fin 1024) : (VO m c be1 : S4x1x1024.Idx → BitVec 32) (ix3 b 0 k) = BitVec.ofNat 32 (ksel m c b k).val + BitVec.ofNat 32 b.val * 2048#32 := by
  rw [VO_e1]
  refine (arr25 (VIr m) c b k).trans ?_
  rw [after0_25]
  refine (out25 (iblk (VIr m) c 0 (pt b)) (iblk (VIr m) c 1 (pt b)) (iblk (VIr m) c 2 (pt b)) (iblk (VIr m) c 3 (pt b)) (iblk (VIr m) c 4 (pt b)) (iblk (VIr m) c 5 (pt b)) (iblk (VIr m) c 6 (pt b)) (iblk (VIr m) c 7 (pt b)) (iblk (VIr m) c 8 (pt b)) (iblk (VIr m) c 9 (pt b)) (iblk (VIr m) c 10 (pt b)) (iblk (VIr m) c 11 (pt b)) (iblk (VIr m) c 12 (pt b)) (iblk (VIr m) c 13 (pt b)) (iblk (VIr m) c 14 (pt b)) (iblk (VIr m) c 15 (pt b)) (iblk (VIr m) c 16 (pt b)) (iblk (VIr m) c 17 (pt b)) (iblk (VIr m) c 18 (pt b)) (iblk (VIr m) c 19 (pt b)) (iblk (VIr m) c 20 (pt b)) (iblk (VIr m) c 21 (pt b)) (iblk (VIr m) c 22 (pt b)) (iblk (VIr m) c 23 (pt b)) (grid0.coords (pt b)) k).trans ?_
  rw [wOf_eq, toks_eq, coords_pt]
  rfl

theorem cix_at (b : Fin 4) (k : Fin 1024) : (cix m c : S4096.Idx → BitVec 32) (ix1 ⟨b.val * 1024 + k.val, by omega⟩) = BitVec.ofNat 32 (ksel m c b k).val + BitVec.ofNat 32 b.val * 2048#32 := by
  rw [cix_eq]
  exact (cast_ids _ b k).trans (enc1 m c b k)

/-- The row numbers are in range, whatever the arguments are. -/
theorem pre_ok : PreOK (cix m) := by
  intro d j
  have hj : j = ix1 ⟨(⟨(j 0).val / 1024, by have := (j 0).isLt; change _ < 4096 at this; omega⟩ : Fin 4).val * 1024 + (⟨(j 0).val % 1024, by omega⟩ : Fin 1024).val, by have := (j 0).isLt; change _ < 4096 at this; dsimp only; omega⟩ := by
    funext a
    obtain rfl : a = 0 := Subsingleton.elim _ _
    refine Fin.ext ?_
    show (j 0).val = (j 0).val / 1024 * 1024 + (j 0).val % 1024
    omega
  rw [hj]
  refine lt_of_eq_of_lt (congrArg BitVec.toNat (cix_at m d _ _)) ?_
  have h1 := (ksel m d ⟨(j 0).val / 1024, by have := (j 0).isLt; change _ < 4096 at this; omega⟩ ⟨(j 0).val % 1024, by omega⟩).isLt
  have h2 : (j 0).val < 4096 := (j 0).isLt
  simp [BitVec.toNat_add, BitVec.toNat_mul]
  omega

/-- The first result. -/
theorem v18_at (b : Fin 4) (k : Fin 1024) (j : Fin 128) :
    (VC m c (Proc.devRef .tc main_v18) : S4x1024x128.Idx → EReal) (ix3 b k j) = out (kw m c) (kX m c b) (kO m c b) (ksel m c b k) j := by
  rw [VC_v18]
  refine (cast_rows _ b k j).trans ((gval_at _ _ b k _ (cix_at m c b k) j).trans ?_)
  rw [ctx_eq]
  exact (cast_tokens _ b _ j).trans (enc0 m c b _ j)
/-- The second. -/
theorem v19_at (b : Fin 4) (k : Fin 1024) (j : Fin 128) :
    (VC m c (Proc.devRef .tc main_v19) : S4x1024x128.Idx → EReal) (ix3 b k j) = (arg m c main_arg1 : S4x2048x128.Idx → EReal) (ix3 b (ksel m c b k) j) := by
  rw [VC_v19]
  refine (cast_rows _ b k j).trans ((gval_at _ _ b k _ (cix_at m c b k) j).trans ?_)
  rw [ctp_eq]
  exact cast_tokens _ b _ j

end Cert.Proof.Whole

end
-- ==== Proof.Soft.lean ====
/-
  Attention by halves of the keys is attention, for real scores.
-/
module

public import proofs.«01_k».proof.Proof.LayerSpec
public import proofs.«01_k».proof.Proof.LayerSums

@[expose] public section

noncomputable section

namespace Cert.Proof.Layer

open Idealize.ShloMosaic

/-- The least extended real, as the reductions' first value. -/
theorem ofBits_neg_inf : Ideal.ofBits .f32 0xFF800000#32 = ⊥ := by
  simp [Ideal.ofBits, Ideal.ieee]

/-- The greatest of real entries is real. -/
theorem top_coe {n : ℕ} (hn : 0 < n) (r : Fin n → ℝ) : ∃ m : ℝ, top (fun j => (r j : EReal)) = m := by
  unfold top
  rw [ofBits_neg_inf]
  have : ∀ s : Finset (Fin n), s.Nonempty → ∃ m : ℝ, s.fold max ⊥ (fun j => (r j : EReal)) = m := by
    intro s hs
    induction hs using Finset.Nonempty.cons_induction with
    | singleton a => exact ⟨r a, by simp⟩
    | cons a s ha _ ih =>
      obtain ⟨m, hm⟩ := ih
      exact ⟨max (r a) m, by rw [Finset.fold_cons, hm]; exact (EReal.coe_strictMono.monotone.map_max).symm⟩
  exact this _ ⟨⟨0, hn⟩, Finset.mem_univ _⟩

theorem lo_add_hi {α : Type} [AddCommMonoid α] (f : Fin 2048 → α) : ∑ j, f j = ∑ x, lo f x + ∑ x, hi f x := by
  have := Fin.sum_univ_add (a := 1024) (b := 1024) f
  exact this

/-- The greatest of a row is the greater of its halves' greatest. -/
theorem top_halves (s : Fin 2048 → EReal) : top s = max (top (lo s)) (top (hi s)) := by
  apply le_antisymm
  · refine (Finset.fold_max_le _).2 ⟨?_, fun j _ => ?_⟩
    · exact le_max_of_le_left ((Finset.le_fold_max _).2 (Or.inl le_rfl))
    · by_cases h : j.val < 1024
      · exact le_max_of_le_left ((Finset.le_fold_max _).2 (Or.inr ⟨⟨j.val, h⟩, Finset.mem_univ _, le_rfl⟩))
      · refine le_max_of_le_right ((Finset.le_fold_max _).2 (Or.inr ⟨⟨j.val - 1024, by omega⟩, Finset.mem_univ _, le_of_eq ?_⟩))
        unfold hi
        congr 1
        exact Fin.ext (by show j.val = 1024 + (j.val - 1024); omega)
  · refine max_le ?_ ?_
    · exact (Finset.fold_max_le _).2 ⟨(Finset.le_fold_max _).2 (Or.inl le_rfl), fun x _ => (Finset.le_fold_max _).2 (Or.inr ⟨_, Finset.mem_univ _, le_rfl⟩)⟩
    · exact (Finset.fold_max_le _).2 ⟨(Finset.le_fold_max _).2 (Or.inl le_rfl), fun x _ => (Finset.le_fold_max _).2 (Or.inr ⟨_, Finset.mem_univ _, le_rfl⟩)⟩

/-- A product by a nonnegative real goes into a sum. -/
theorem coe_mul_sum {n : ℕ} (c : ℝ) (hc : 0 ≤ c) (f : Fin n → EReal) : (c : EReal) * ∑ j, f j = ∑ j, (c : EReal) * f j := by
  have : ∀ s : Finset (Fin n), (c : EReal) * ∑ j ∈ s, f j = ∑ j ∈ s, (c : EReal) * f j := by
    intro s
    induction s using Finset.cons_induction with
    | empty => simp
    | cons a s ha ih =>
      rw [Finset.sum_cons, Finset.sum_cons, EReal.left_distrib_of_nonneg_of_ne_top (by exact_mod_cast hc) (EReal.coe_ne_top c), ih]
  exact this _

theorem coe_sum {n : ℕ} (f : Fin n → ℝ) : ((∑ j, f j : ℝ) : EReal) = ∑ j, (f j : EReal) := by
  have : ∀ s : Finset (Fin n), ((∑ j ∈ s, f j : ℝ) : EReal) = ∑ j ∈ s, (f j : EReal) := by
    intro s
    induction s using Finset.cons_induction with
    | empty => simp
    | cons a s ha ih => rw [Finset.sum_cons, Finset.sum_cons, EReal.coe_add, ih]
  exact this _

/-- `online`, for halves of any length. -/
def onl {n : ℕ} (s0 s1 v0 v1 : Fin n → EReal) : EReal :=
  ((Ideal.exp (if top s0 = max (top s0) (top s1) then 0 else top s0 - max (top s0) (top s1)) * (∑ x, Ideal.exp (s0 x - top s0)))
      * ((∑ x, Ideal.exp (s0 x - top s0) * v0 x) * Ideal.div 1 (∑ x, Ideal.exp (s0 x - top s0)))
    + ∑ x, Ideal.exp (s1 x - max (top s0) (top s1)) * v1 x)
  * Ideal.div 1 ((Ideal.exp (if top s0 = max (top s0) (top s1) then 0 else top s0 - max (top s0) (top s1)) * (∑ x, Ideal.exp (s0 x - top s0)))
      + ∑ x, Ideal.exp (s1 x - max (top s0) (top s1)))

theorem online_onl (s0 s1 v0 v1 : Fin 1024 → EReal) : online s0 s1 v0 v1 = onl s0 s1 v0 v1 := rfl

/-- The two halves' form, for real scores. -/
theorem online_eq {n : ℕ} (hn : 0 < n) (r0 r1 : Fin n → ℝ) (v0 v1 : Fin n → EReal) (m : ℝ) (hm : max (top fun j => (r0 j : EReal)) (top fun j => (r1 j : EReal)) = m) :
    onl (fun j => (r0 j : EReal)) (fun j => (r1 j : EReal)) v0 v1
      = ∑ x, Ideal.div (Ideal.exp ((r0 x : EReal) - m)) (∑ y, Ideal.exp ((r0 y : EReal) - m) + ∑ y, Ideal.exp ((r1 y : EReal) - m)) * v0 x
        + ∑ x, Ideal.div (Ideal.exp ((r1 x : EReal) - m)) (∑ y, Ideal.exp ((r0 y : EReal) - m) + ∑ y, Ideal.exp ((r1 y : EReal) - m)) * v1 x := by
  obtain ⟨a, ha⟩ := top_coe hn r0
  have hE (x y : ℝ) : Ideal.exp ((x : EReal) - (y : EReal)) = ((Real.exp (x - y) : ℝ) : EReal) := by rw [← EReal.coe_sub]; rfl
  have hc : Ideal.exp (if (a : EReal) = m then 0 else (a : EReal) - m) = ((Real.exp (a - m) : ℝ) : EReal) := by
    split
    · next h => rw [EReal.coe_eq_coe_iff.mp h, sub_self]; rfl
    · exact hE a m
  unfold onl
  rw [hm, ha, hc]
  simp only [hE, ← coe_sum]
  have hA : 0 < ∑ x, Real.exp (r0 x - a) := Finset.sum_pos (fun _ _ => Real.exp_pos _) ⟨⟨0, hn⟩, Finset.mem_univ _⟩
  have hB : 0 < ∑ x, Real.exp (r1 x - m) := Finset.sum_pos (fun _ _ => Real.exp_pos _) ⟨⟨0, hn⟩, Finset.mem_univ _⟩
  have hAm : Real.exp (a - m) * ∑ x, Real.exp (r0 x - a) = ∑ x, Real.exp (r0 x - m) := by
    rw [Finset.mul_sum]
    refine Finset.sum_congr rfl fun x _ => ?_
    rw [← Real.exp_add]; congr 1; ring
  have hA' : 0 < ∑ x, Real.exp (r0 x - m) := hAm ▸ mul_pos (Real.exp_pos _) hA
  rw [← EReal.coe_mul, hAm, ← EReal.coe_add]
  have hS : (∑ x, Real.exp (r0 x - m)) + ∑ x, Real.exp (r1 x - m) ≠ 0 := (add_pos hA' hB).ne'
  rw [Ideal.div_coe hA.ne', Ideal.div_coe hS, one_mul, one_mul]
  simp only [Ideal.div_coe hS]
  have hfirst : ((∑ x, Real.exp (r0 x - m) : ℝ) : EReal) * ((∑ x, ((Real.exp (r0 x - a) : ℝ) : EReal) * v0 x) * ((1 / ∑ x, Real.exp (r0 x - a) : ℝ) : EReal))
      = ∑ x, ((Real.exp (r0 x - m) : ℝ) : EReal) * v0 x := by
    rw [mul_comm (∑ x, ((Real.exp (r0 x - a) : ℝ) : EReal) * v0 x), ← mul_assoc, ← EReal.coe_mul]
    have : (∑ x, Real.exp (r0 x - m)) * (1 / ∑ x, Real.exp (r0 x - a)) = Real.exp (a - m) := by
      rw [← hAm]; field_simp
    rw [this, coe_mul_sum _ (Real.exp_pos _).le]
    refine Finset.sum_congr rfl fun x _ => ?_
    rw [← mul_assoc, ← EReal.coe_mul, ← Real.exp_add]
    congr 3; ring
  rw [hfirst, mul_comm, EReal.left_distrib_of_nonneg_of_ne_top (by exact_mod_cast (one_div_pos.mpr (add_pos hA' hB)).le) (EReal.coe_ne_top _),
    coe_mul_sum _ (one_div_pos.mpr (add_pos hA' hB)).le, coe_mul_sum _ (one_div_pos.mpr (add_pos hA' hB)).le]
  congr 1 <;> exact Finset.sum_congr rfl fun x _ => by rw [← mul_assoc, mul_comm (((1 / _ : ℝ)) : EReal)]

theorem two_sums (e v : Fin 2048 → EReal) :
    ∑ j, Ideal.div (e j) (∑ x, e x) * v j
      = ∑ x, Ideal.div (lo e x) (∑ y, lo e y + ∑ y, hi e y) * lo v x + ∑ x, Ideal.div (hi e x) (∑ y, lo e y + ∑ y, hi e y) * hi v x := by
  rw [← lo_add_hi e]
  exact lo_add_hi fun j => Ideal.div (e j) (∑ x, e x) * v j

/-- Attention by halves of the keys, for real scores. -/
theorem attendOnline_eq (s : Mat 2048 2048) (hs : ∀ i j, ∃ r : ℝ, s i j = r) (v : Mat 2048 64) : attendOnline s v = attend s v := by
  funext i d
  choose r hr using hs
  obtain ⟨m, hm⟩ := top_coe (by norm_num) (r i)
  have hsi : s i = fun j => (r i j : EReal) := funext fun j => hr i j
  unfold attendOnline attend soft expo
  rw [hsi, hm]
  have hmm : max (top fun j => (lo (fun j => (r i j : EReal))) j) (top fun j => (hi (fun j => (r i j : EReal))) j) = m := by
    rw [← hm, top_halves]
  refine (online_onl _ _ _ _).trans ((online_eq (by norm_num) (fun x : Fin 1024 => r i ⟨x.val, by omega⟩) (fun x : Fin 1024 => r i ⟨1024 + x.val, by omega⟩) _ _ m hmm).trans ?_)
  exact (two_sums (fun j => Ideal.exp ((r i j : EReal) - m)) (fun j => v j d)).symm

end Cert.Proof.Layer

end
-- ==== Proof.Finite.lean ====
/-
  The precondition read back: the arrays the attention scores are computed from have real entries, and so the scores are real.
-/
module

public import proofs.«01_k».proof.Defs
public import proofs.«01_k».proof.Proof.Gen.Pre_finite_scores
public import proofs.«01_k».proof.Proof.LayerSpec
public import Idealize.ShloMosaic.Lib.ReduceAll
public import Idealize.ShloMosaic.Lib.WordCmp

@[expose] public section

set_option maxRecDepth 16384

noncomputable section

namespace Cert.Proof.Layer

open Idealize.ShloMosaic Cert.Pre_finite_scores Cert.Pre_finite_scores.Facts

theorem ofBits_inf : Ideal.ofBits .f32 0x7F800000#32 = ⊤ := by
  simp [Ideal.ofBits, Ideal.ieee]

/-- An extended real whose magnitude is less than the greatest is real. -/
theorem real_of_abs {x : EReal} (h : FloatOps.cmpf (F := Ideal) (φ := .f32) .olt (FloatOps.hostAbsf (F := Ideal) (φ := .f32) x) (Ideal.ofBits .f32 0x7F800000#32) = 1#1) : ∃ r : ℝ, x = r := by
  rw [ofBits_inf] at h
  induction x using EReal.rec with
  | bot => exfalso; revert h; simp [FloatOps.cmpf, FloatOps.hostAbsf, Ideal.cmp]
  | top => exfalso; revert h; simp [FloatOps.cmpf, FloatOps.hostAbsf, Ideal.cmp]
  | coe r => exact ⟨r, rfl⟩

theorem andi_one {a b : BitVec 1} (h : IntOp.andi a b = 1#1) : a = 1#1 ∧ b = 1#1 := by
  revert a b; decide

variable [Cert.Pre_finite_scores.Facts]

instance : Subsingleton S_.Idx := ⟨fun a b => funext fun i => i.elim0⟩

theorem all_real {s : Shape} (x : FVec Ideal s .f32) {axes : List (Fin s.rank)} (h : s.ReducesTo axes S_) (hb : S_.BroadcastsInDim s (![] : Fin 0 → Fin s.rank)) (j : S_.Idx)
    (e : Host.reduce IntOp.andi (cmpf .olt (Host.absf x) (broadcastInDim s ![] hb (constant (F := Ideal) S_ .f32 0x7F800000#32))) (constantI S_ 1 1#1) h h_S_ j = 1#1)
    (i : s.Idx) : ∃ r : ℝ, (x i : EReal) = r :=
  real_of_abs (Host.reduce_andi_all _ _ h h_S_ j e i)

/-- What the precondition says: the entries of the first six arrays are real. -/
theorem finite_of_pre (a0 : FVec Ideal S4x2048x128 .f32) (a1 : FVec Ideal S4x2048x128 .f32) (a2 : FVec Ideal S128x128 .f32) (a3 : FVec Ideal S128 .f32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128 .f32) (a11 : FVec Ideal S128 .f32) (a12 : FVec Ideal S128 .f32) (a13 : FVec Ideal S128 .f32) (a14 : FVec Ideal S128x512 .f32) (a15 : FVec Ideal S512 .f32) (a16 : FVec Ideal S512x128 .f32) (a17 : FVec Ideal S128 .f32) (a18 : FVec Ideal S128x128 .f32) (a19 : FVec Ideal S128 .f32) (a20 : FVec Ideal S128x32 .f32) (a21 : FVec Ideal S32 .f32) (a22 : FVec Ideal S32x1 .f32) (a23 : FVec Ideal S1 .f32) (j : S_.Idx)
    (h : fn (F := Ideal) a0 a1 a2 a3 a4 a5 a6 a7 a8 a9 a10 a11 a12 a13 a14 a15 a16 a17 a18 a19 a20 a21 a22 a23 j = 1#1) :
    (∀ i, ∃ r : ℝ, (a0 i : EReal) = r) ∧ (∀ i, ∃ r : ℝ, (a1 i : EReal) = r) ∧ (∀ i, ∃ r : ℝ, (a2 i : EReal) = r) ∧ (∀ i, ∃ r : ℝ, (a3 i : EReal) = r)
      ∧ (∀ i, ∃ r : ℝ, (a4 i : EReal) = r) ∧ (∀ i, ∃ r : ℝ, (a5 i : EReal) = r) := by
  unfold fn fn_part1 at h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨all_real a0 _ _ j h0, all_real a1 _ _ j h1, all_real a2 _ _ j h2, all_real a3 _ _ j h3, all_real a4 _ _ j h4, all_real a5 _ _ j h5⟩

/-- Sums of products of reals are real. -/
theorem sum_real {n : ℕ} (f g : Fin n → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  have : ∀ s : Finset (Fin n), ∑ i ∈ s, f i * g i = ((∑ i ∈ s, a i * b i : ℝ) : EReal) := by
    intro s
    induction s using Finset.cons_induction with
    | empty => simp
    | cons c s hc ih => rw [Finset.sum_cons, Finset.sum_cons, ih, ha, hb, EReal.coe_add, EReal.coe_mul]
  exact this _

end Cert.Proof.Layer

end
-- ==== Proof.RefStage.lean ====
/-
  The reference's operations, stage by stage, as the layer's functions.
-/
module

public import proofs.«01_k».proof.Proof.LayerSpec
public import Idealize.ShloMosaic.Lib.Tactic.CleanTypes
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Cert.Proof.Layer

variable (V0 : Valuation τ sig (Elt Ideal))

/-- The arguments, at plain indices. -/
def wts : Weights where
  Wq := fun i j => (V0 (Proc.devRef .tc main_arg2) : S128x128.Idx → EReal) (ix2 i j)
  bq := fun j => (V0 (Proc.devRef .tc main_arg3) : S128.Idx → EReal) (ix1 j)
  Wk := fun i j => (V0 (Proc.devRef .tc main_arg4) : S128x128.Idx → EReal) (ix2 i j)
  bk := fun j => (V0 (Proc.devRef .tc main_arg5) : S128.Idx → EReal) (ix1 j)
  Wv := fun i j => (V0 (Proc.devRef .tc main_arg6) : S128x128.Idx → EReal) (ix2 i j)
  bv := fun j => (V0 (Proc.devRef .tc main_arg7) : S128.Idx → EReal) (ix1 j)
  Wo := fun i j => (V0 (Proc.devRef .tc main_arg8) : S128x128.Idx → EReal) (ix2 i j)
  bo := fun j => (V0 (Proc.devRef .tc main_arg9) : S128.Idx → EReal) (ix1 j)
  g1 := fun j => (V0 (Proc.devRef .tc main_arg10) : S128.Idx → EReal) (ix1 j)
  b1 := fun j => (V0 (Proc.devRef .tc main_arg11) : S128.Idx → EReal) (ix1 j)
  g2 := fun j => (V0 (Proc.devRef .tc main_arg12) : S128.Idx → EReal) (ix1 j)
  b2 := fun j => (V0 (Proc.devRef .tc main_arg13) : S128.Idx → EReal) (ix1 j)
  F1 := fun i j => (V0 (Proc.devRef .tc main_arg14) : S128x512.Idx → EReal) (ix2 i j)
  c1 := fun j => (V0 (Proc.devRef .tc main_arg15) : S512.Idx → EReal) (ix1 j)
  F2 := fun i j => (V0 (Proc.devRef .tc main_arg16) : S512x128.Idx → EReal) (ix2 i j)
  c2 := fun j => (V0 (Proc.devRef .tc main_arg17) : S128.Idx → EReal) (ix1 j)
  P0 := fun i j => (V0 (Proc.devRef .tc main_arg18) : S128x128.Idx → EReal) (ix2 i j)
  d0 := fun j => (V0 (Proc.devRef .tc main_arg19) : S128.Idx → EReal) (ix1 j)
  P1 := fun i j => (V0 (Proc.devRef .tc main_arg20) : S128x32.Idx → EReal) (ix2 i j)
  d1 := fun j => (V0 (Proc.devRef .tc main_arg21) : S32.Idx → EReal) (ix1 j)
  P3 := fun c => (V0 (Proc.devRef .tc main_arg22) : S32x1.Idx → EReal) (ix2 c 0)
  d3 := (V0 (Proc.devRef .tc main_arg23) : S1.Idx → EReal) (ix1 0)

/-- The tokens of a sequence with their positions added. -/
def X (b : Fin 4) : Mat 2048 128 := fun i j => @HAdd.hAdd EReal EReal EReal _ ((V0 (Proc.devRef .tc main_arg0) : S4x2048x128.Idx → EReal) (ix3 b i j)) ((V0 (Proc.devRef .tc main_arg1) : S4x2048x128.Idx → EReal) (ix3 b i j))

/-- A greatest entry is not raised by the value it is taken from. -/
theorem max_fold {n : ℕ} (c : EReal) (f : Fin n → EReal) : max c (Finset.univ.fold max c f) = Finset.univ.fold max c f :=
  max_eq_right ((Finset.le_fold_max _).2 (Or.inl le_rfl))

/-- Each named value of the reference, at an index. -/
theorem r_0 (b : Fin 4) (i : Fin 2048) (j : Fin 128) : (res_main_v0 V0 : S4x2048x128.Idx → EReal) (ix3 b i j) = X V0 b i j := by
  pointwise [res_main_v0, X]
theorem r_21 (b : Fin 4) (h : Fin 2) (i j : Fin 2048) : (res_main_v21 V0 : S4x2x2048x2048.Idx → EReal) (ix4 b h i j) = sc (wts V0) h (X V0 b) i j := by
  pointwise [res_main_v21, res_main_v0, sc, scores, head, lin, wts, X]
/-- The greatest score of a row, and the exponentials relative to it. -/
theorem hmax (v : FVec Ideal S4x2x2048x2048 .f32) (b : Fin 4) (h : Fin 2) (i : Fin 2048) :
    Host.reduce FloatOps.maximumf v (constant (F := Ideal) S_ .f32 0xFF800000#32) reducesTo_S4x2x2048x2048_S4x2x2048_d3 h_S_ (ix3 b h i) = top (fun j => v (ix4 b h i j)) := by
  pointwise [top]
theorem hexp (v : FVec Ideal S4x2x2048x2048 .f32) (r : FVec Ideal S4x2x2048 .f32) (b : Fin 4) (h : Fin 2) (i j : Fin 2048) :
    Host.exp (subf v (broadcastInDim S4x2x2048x2048 ![0, 1, 2, 3] bcast_S4x2x2048x1_S4x2x2048x2048_0_1_2_3 (broadcastInDim S4x2x2048x1 ![0, 1, 2] bcast_S4x2x2048_S4x2x2048x1_0_1_2 (maximumf (broadcastInDim S4x2x2048 ![] bcast_S_S4x2x2048 (constant S_ .f32 0xFF800000#32)) r)))) (ix4 b h i j)
      = Ideal.exp (v (ix4 b h i j) - max (Ideal.ofBits .f32 0xFF800000#32) (r (ix3 b h i))) := by
  pointwise
theorem r_28 (b : Fin 4) (h : Fin 2) (i j : Fin 2048) : (res_main_v28 V0 : S4x2x2048x2048.Idx → EReal) (ix4 b h i j) = expo (sc (wts V0) h (X V0 b) i) j := by
  refine (hexp (res_main_v21 V0) _ b h i j).trans ?_
  rw [hmax, top, max_fold]
  unfold expo top
  simp only [r_21]
/-- The heads' outputs. -/
def O (b : Fin 4) : Mat 2048 128 :=
  joined (attend (sc (wts V0) 0 (X V0 b)) (head 0 (lin (X V0 b) (wts V0).Wv (wts V0).bv)))
    (attend (sc (wts V0) 1 (X V0 b)) (head 1 (lin (X V0 b) (wts V0).Wv (wts V0).bv)))
theorem O_apply (b : Fin 4) (i : Fin 2048) (c : Fin 128) : O V0 b i c
    = ∑ y, Ideal.div (expo (sc (wts V0) ⟨c.val / 64, by omega⟩ (X V0 b) i) y) (∑ z, expo (sc (wts V0) ⟨c.val / 64, by omega⟩ (X V0 b) i) z)
        * lin (X V0 b) (wts V0).Wv (wts V0).bv y c := by
  unfold O joined
  split
  · next h =>
    have e : (⟨c.val / 64, by omega⟩ : Fin 2) = 0 := Fin.ext (by show c.val / 64 = 0; omega)
    rw [e]
    unfold attend head soft
    refine Finset.sum_congr rfl fun y _ => ?_
    congr 2
    exact Fin.ext (by show 0 * 64 + c.val = c.val; omega)
  · next h =>
    have e : (⟨c.val / 64, by omega⟩ : Fin 2) = 1 := Fin.ext (by show c.val / 64 = 1; omega)
    rw [e]
    unfold attend head soft
    refine Finset.sum_congr rfl fun y _ => ?_
    congr 2
    exact Fin.ext (by show 1 * 64 + (c.val - 64) = c.val; omega)
theorem r_39 (b : Fin 4) (i : Fin 2048) (j : Fin 128) : (res_main_v39 V0 : S4x2048x128.Idx → EReal) (ix3 b i j) = attnOut (wts V0) (O V0 b) i j := by
  unfold attnOut lin
  simp only [O_apply]
  pointwise [res_main_v39, lin, wts]
  simp only [r_0, r_28]
  rfl
/-- Division by 128, as the product by its reciprocal. -/
theorem div128 (a : EReal) : Ideal.div a (Ideal.ofBits .f32 0x43000000#32) = a * Ideal.ofBits .f32 0x3C000000#32 := by
  have h : Ideal.ofBits .f32 0x43000000#32 = ((128 : ℝ) : EReal) := by
    simp [Ideal.ofBits, Ideal.ieee, -EReal.coe_mul]; norm_num
  have h' : Ideal.ofBits .f32 0x3C000000#32 = ((1 / 128 : ℝ) : EReal) := by
    simp [Ideal.ofBits, Ideal.ieee, -EReal.coe_mul]; norm_num
  rw [h, h', Ideal.div_coe (by norm_num)]
/-- The exact GELU as the reference writes it. -/
theorem gelu_ref (a : EReal) : Ideal.ofBits .f32 0x3F000000#32 * a * Ideal.erfc (-a * Ideal.ofBits .f32 0x3F3504F3#32) = gelu a := by
  unfold gelu
  rw [zero_sub, mul_comm a (Ideal.ofBits .f32 0x3F000000#32)]
  rfl
theorem r_64 (b : Fin 4) (i : Fin 2048) (j : Fin 128) : (res_main_v64 V0 : S4x2048x128.Idx → EReal) (ix3 b i j) = X V0 b i j + ln1 (wts V0) (O V0 b) i j := by
  pointwise [res_main_v64, res_main_v45, res_main_v43]
  simp only [r_0, r_39, div128]
  rfl
theorem r_79 (b : Fin 4) (i : Fin 2048) (j : Fin 128) : (res_main_v79 V0 : S4x2048x128.Idx → EReal) (ix3 b i j)
    = mlp (wts V0) (fun i j => X V0 b i j + ln1 (wts V0) (O V0 b) i j) i j := by
  pointwise [res_main_v79, res_main_v68]
  simp only [r_64, gelu_ref]
  rfl
theorem r_104 (b : Fin 4) (i : Fin 2048) (j : Fin 128) : (res_main_v104 V0 : S4x2048x128.Idx → EReal) (ix3 b i j) = out (wts V0) (X V0 b) (O V0 b) i j := by
  pointwise [res_main_v104, res_main_v85, res_main_v83]
  simp only [r_64, r_79, div128]
  unfold out
  rw [add_right_comm]
  rfl
theorem r_131 (b : Fin 4) (i : Fin 2048) : (res_main_v131 V0 : S4x2048.Idx → EReal) (ix2 b i) = score (wts V0) (out (wts V0) (X V0 b) (O V0 b)) i := by
  pointwise [res_main_v131, res_main_v119, res_main_v108]
  simp only [r_104, gelu_ref]
  unfold score
  simp only [mul_comm ((wts V0).P3 _)]
  rfl
theorem r_138 (b : Fin 4) (i : Fin 2048) : (res_main_v138 V0 : S4x2048.Idx → EReal) (ix2 b i) = expo (score (wts V0) (out (wts V0) (X V0 b) (O V0 b))) i := by
  unfold res_main_v138
  clean_types
  pointwise [expo, top, r_131, max_fold]
theorem r_143 (b : Fin 4) (i : Fin 2048) : (res_main_v143 V0 : S4x2048.Idx → EReal) (ix2 b i) = -prob (wts V0) (out (wts V0) (X V0 b) (O V0 b)) i := by
  pointwise [res_main_v143, prob, soft, r_138]

end Cert.Proof.Ref

end
-- ==== Proof.RankSort.lean ====
/-
  A stable sort of the tokens by decreasing probability puts the token of rank `k` at place `k`.
-/
module

public import proofs.«01_k».proof.Proof.EncRank
public import Idealize.ShloMosaic.Lib.SortPrefix

@[expose] public section

noncomputable section

namespace Cert.Proof.Layer

open Idealize.ShloMosaic

theorem sortedFrom_of_eq {n : ℕ} {A B : Fin n → Fin n → Bool} (h : sortPositions n A = sortPositions n B) (k : Fin n) :
    sortedFrom A k = sortedFrom B k := by
  unfold sortedFrom
  rw [List.get_of_eq h]
  rfl

variable (p : Fin 2048 → EReal)

/-- Of ascending positions, a stable sort by the probability alone is the sort by the probability and then the position. -/
theorem stableSort_before (l : List (Fin 2048)) (hl : l.Pairwise (· < ·)) :
    stableSort (fun k k' => decide (p k' < p k)) l = stableSort (fun k k' => decide (before p k k')) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    refine decide_eq_decide.mpr ⟨Or.inl, fun h => ?_⟩
    rcases h with h | ⟨_, h⟩
    · exact h
    · exact absurd h (not_lt.mpr hab.le)

theorem strictTotal_before : StrictTotalBefore fun k k' => decide (before p k k') where
  irrefl k := by simpa using before_irrefl p k
  trans a b c h h' := by simp only [decide_eq_true_eq] at *; exact before_trans p h h'
  total a b h := by simp only [decide_eq_true_eq]; exact before_total p h

theorem sortedFrom_atRank (k : Fin 2048) : sortedFrom (fun k k' => decide (p k' < p k)) k = atRank p k := by
  have e : sortedFrom (fun k k' => decide (p k' < p k)) k = sortedFrom (fun k k' => decide (before p k k')) k := by
    have h : sortPositions 2048 (fun k k' => decide (p k' < p k)) = sortPositions 2048 (fun k k' => decide (before p k k')) :=
      stableSort_before p (List.finRange 2048) (List.pairwise_lt_finRange 2048)
    exact sortedFrom_of_eq h k
  rw [e]
  refine (strictTotal_before p).sortedFrom_eq_of_prefix le_rfl (atRank p) (Equiv.ofBijective _ (rk_bijective p)).symm.injective ?_ ?_ k
  · intro i j hij
    refine decide_eq_false fun h => ?_
    have h := rank_lt_of_before p h
    rw [(rank_eq_iff p _ i).mpr rfl, (rank_eq_iff p _ j).mpr rfl] at h
    exact absurd h (not_lt.mpr hij.le)
  · intro i q hq
    exact absurd ((rank_eq_iff p q (rk p q)).mp rfl).symm (hq (rk p q))

end Cert.Proof.Layer

end
-- ==== Proof.RefTake.lean ====
/-
  The reference's selection: the stable sort's first 1024 places hold the tokens of rank 0 to 1023, and taking rows along
  the tokens by them reads those tokens' rows.
-/
module

public import proofs.«01_k».proof.Proof.RefStage
public import proofs.«01_k».proof.Proof.RankSort
public import Idealize.ShloMosaic.Lib.ReduceAll

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Cert.Proof.Layer

/-! ## Rows taken along the middle axis, sequence by sequence -/

section Rows
variable {α : Type} {A N C B w : Nat}

abbrev takeDims (A N C B : Nat) (wf : GatherDims.WF ⟨3, ![A, N, C]⟩ ⟨3, ![A, B, 1]⟩ ⟨3, ![A, B, C]⟩ [2] [1] [0] [1] [0] 2 ![1, 1, C]) :
    GatherDims ⟨3, ![A, N, C]⟩ ⟨3, ![A, B, 1]⟩ ⟨3, ![A, B, C]⟩ where
  offsetDims := [2]
  collapsedSliceDims := [1]
  operandBatchingDims := [0]
  startIndicesBatchingDims := [0]
  startIndexMap := [1]
  indexVectorDim := 2
  sliceSizes := ![1, 1, C]
  wf := wf

theorem take_apply (hN : 0 < N) (wf : GatherDims.WF ⟨3, ![A, N, C]⟩ ⟨3, ![A, B, 1]⟩ ⟨3, ![A, B, C]⟩ [2] [1] [0] [1] [0] 2 ![1, 1, C])
    (x : (⟨3, ![A, N, C]⟩ : Shape).Idx → α) (idx : IVec ⟨3, ![A, B, 1]⟩ w) (y : (⟨3, ![A, B, C]⟩ : Shape).Idx) :
    Host.gather (takeDims A N C B wf) x idx y
      = x (ix3 (y 0) ⟨min (idx (ix3 (y 0) (y 1) ⟨0, Nat.one_pos⟩)).toInt.toNat (N - 1), by omega⟩ (y 2)) := by
  unfold Host.gather
  congr 1
  funext a
  refine Fin.ext ?_
  show (takeDims A N C B wf).start y idx a + (takeDims A N C B wf).batchCoord y a + (takeDims A N C B wf).offCoord y a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => by rw [GatherDims.mem_sKept] at h; simp at h)]
    unfold GatherDims.batchCoord
    rw [dif_pos (show (0 : Fin 3) ∈ (takeDims A N C B wf).operandBatchingDims from List.mem_singleton.mpr rfl), Nat.zero_add, Nat.add_zero]
    rfl
  · rw [GatherDims.batchCoord_eq_zero _ _ _ (by simp), GatherDims.offCoord_eq_zero _ _ _ (fun h => by rw [GatherDims.mem_sKept] at h; simp at h)]
    simp only [Nat.add_zero]
    unfold GatherDims.start
    rw [dif_pos (show (1 : Fin 3) ∈ (takeDims A N C B wf).startIndexMap from List.mem_singleton.mpr rfl)]
    have hsi : (takeDims A N C B wf).siIdx y ⟨List.idxOf (1 : Fin 3) (takeDims A N C B wf).startIndexMap,
        List.idxOf_lt_length_iff.2 (List.mem_singleton.mpr rfl)⟩ = ix3 (y 0) (y 1) ⟨0, Nat.one_pos⟩ := by
      funext b; refine Fin.ext ?_
      match b with
      | ⟨0, _⟩ => rfl
      | ⟨1, _⟩ => rfl
      | ⟨2, _⟩ => rfl
    rw [hsi]
    rfl
  · have h1 : (takeDims A N C B wf).start y idx 2 = 0 := by
      unfold GatherDims.start
      rw [dif_neg (by simp)]
    rw [h1, GatherDims.batchCoord_eq_zero _ _ _ (by simp)]
    simp only [Nat.zero_add]
    unfold GatherDims.offCoord
    rw [dif_pos (by rw [GatherDims.mem_sKept]; simp)]
    rfl

end Rows

/-! ## The sort -/

/-- The comparator is "less" on the keys. -/
theorem comparator_eq (a b : EReal) (x y : BitVec 32) :
    comparator_f32_i32_d1 (F := Ideal) (a, x) (b, y) = BitVec.ofBool (decide (a < b)) := by
  have h0 : Ideal.ofBits .f32 0x00000000#32 = 0 := Ideal.ofBits_zero_f32
  have hs : ∀ c : EReal, Scalar.select (FloatOps.cmpf (F := Ideal) (φ := .f32) .oeq c (Ideal.ofBits .f32 0x00000000#32)) (Ideal.ofBits .f32 0x00000000#32) c = c := by
    intro c
    rw [h0]
    by_cases h : c = 0
    · subst h; simp [Scalar.select]
    · simp [Scalar.select, FloatOps.cmpf, Ideal.cmp, h]
  have hn : ∀ c d e : EReal, Scalar.select (FloatOps.cmpf (F := Ideal) (φ := .f32) .une c c) d e = e := by
    intro c d e
    simp [Scalar.select, FloatOps.cmpf, Ideal.cmp]
  unfold comparator_f32_i32_d1
  simp only [Ideal.ofBits_def]
  rw [hs, hs, hn, hn]
  rfl

end Cert.Proof.Ref

end
-- ==== Proof.RefSel.lean ====
/-
  The reference's two results at an index: the encoded tokens and the positions of the 1024 tokens of highest probability,
  in the order of their ranks.
-/
module

public import proofs.«01_k».proof.Proof.RefTake
public import Idealize.ShloMosaic.Lib.WordCmp

@[expose] public section

set_option maxRecDepth 16384

noncomputable section

namespace Cert.Proof.Ref

open Cert.ReferenceIdeal Cert.ReferenceIdeal.Gen Cert.ReferenceIdeal.Value Cert.ReferenceIdeal.Facts
open Idealize.ShloMosaic Idealize.ShloMosaic.TcCoe Cert.Proof.Layer

/-- Sorting along the second axis by keys that are negated probabilities puts the token of rank `k` at place `k`. -/
theorem sort_at (x : FVec Ideal S4x2048 .f32) (y : IVec S4x2048 32) (p : Fin 4 → Fin 2048 → EReal)
    (hx : ∀ b i, (x : S4x2048.Idx → EReal) (ix2 b i) = -p b i) (b : Fin 4) (k : Fin 2048) :
    (Host.sort2 S4x2048 1 (comparator_f32_i32_d1 (F := Ideal)) x y).2 (ix2 b k) = y (ix2 b (atRank (p b) k)) := by
  have hd : 1 < S4x2048.rank := by decide
  have hal : ∀ c : Fin 2048, (ix2 b k : S4x2048.Idx).along ⟨1, hd⟩ c = ix2 b c := by
    intro c
    funext a
    match a with
    | ⟨0, _⟩ => rfl
    | ⟨1, _⟩ => rfl
  have hbefore : (fun a c : Fin 2048 => comparator_f32_i32_d1 (F := Ideal) (x ((ix2 b k : S4x2048.Idx).along ⟨1, hd⟩ a), y ((ix2 b k : S4x2048.Idx).along ⟨1, hd⟩ a))
      (x ((ix2 b k : S4x2048.Idx).along ⟨1, hd⟩ c), y ((ix2 b k : S4x2048.Idx).along ⟨1, hd⟩ c)) == 1#1) = fun a c => decide (p b c < p b a) := by
    funext a c
    rw [hal, hal, comparator_eq, hx, hx]
    by_cases h : p b c < p b a <;> simp [h, EReal.neg_lt_neg_iff]
  have hsrc : sortedFrom (n := 2048) (fun a c : Fin 2048 => comparator_f32_i32_d1 (F := Ideal) (x ((ix2 b k : S4x2048.Idx).along ⟨1, hd⟩ a), y ((ix2 b k : S4x2048.Idx).along ⟨1, hd⟩ a))
      (x ((ix2 b k : S4x2048.Idx).along ⟨1, hd⟩ c), y ((ix2 b k : S4x2048.Idx).along ⟨1, hd⟩ c)) == 1#1) k = atRank (p b) k := by
    rw [hbefore]
    exact sortedFrom_atRank (p b) k
  unfold Host.sort2
  rw [dif_pos hd]
  exact (congrArg (fun c : Fin 2048 => y ((ix2 b k : S4x2048.Idx).along ⟨1, hd⟩ c)) hsrc).trans (congrArg y (hal _))

theorem slice_at (x : IVec S4x2048 32) (b : Fin 4) (k : Fin 1024) :
    extractStridedSlice S4x1024 ![0, 0] x slices_S4x2048_S4x1024_0_0 (ix2 b k) = x (ix2 b ⟨k.val, by omega⟩) := by
  pointwise

variable (V0 : Valuation τ sig (Elt Ideal))

/-- The token of rank `k` in sequence `b`. -/
def sel (b : Fin 4) (k : Fin 1024) : Fin 2048 := atRank (prob (wts V0) (out (wts V0) (X V0 b) (O V0 b))) ⟨k.val, by omega⟩

theorem iota_at (b : Fin 4) (i : Fin 2048) : (res_main_call0_v0 V0 : IVec S4x2048 32) (ix2 b i) = BitVec.ofNat 32 i.val := by
  pointwise [res_main_call0_v0]

theorem v145_at (b : Fin 4) (k : Fin 1024) : (res_main_v145 V0 : IVec S4x1024 32) (ix2 b k) = BitVec.ofNat 32 (sel V0 b k).val := by
  unfold res_main_v145
  exact (slice_at _ b k).trans ((sort_at _ _ (fun b => prob (wts V0) (out (wts V0) (X V0 b) (O V0 b))) (fun b i => r_143 V0 b i) b _).trans (iota_at V0 b _))

/-- A negative index would count from the end; these are not negative. -/
theorem wrapped_at (v : IVec S4x1024 32) (n : Fin 4 → Fin 1024 → Fin 2048) (hv : ∀ b k, v (ix2 b k) = BitVec.ofNat 32 (n b k).val)
    (b : Fin 4) (k : Fin 1024) (z : Fin 1) :
    select (cmpi .slt (broadcastInDim S4x1024x1 ![0, 1] bcast_S4x1024_S4x1024x1_0_1 v) (broadcastInDim S4x1024x1 ![] bcast_S_S4x1024x1 (constantI S_ 32 0#32)))
      (addi (broadcastInDim S4x1024x1 ![0, 1] bcast_S4x1024_S4x1024x1_0_1 v) (broadcastInDim S4x1024x1 ![] bcast_S_S4x1024x1 (constantI S_ 32 2048#32)))
      (broadcastInDim S4x1024x1 ![0, 1] bcast_S4x1024_S4x1024x1_0_1 v) (ix3 b k z) = BitVec.ofNat 32 (n b k).val := by
  have e : select (cmpi .slt (broadcastInDim S4x1024x1 ![0, 1] bcast_S4x1024_S4x1024x1_0_1 v) (broadcastInDim S4x1024x1 ![] bcast_S_S4x1024x1 (constantI S_ 32 0#32)))
      (addi (broadcastInDim S4x1024x1 ![0, 1] bcast_S4x1024_S4x1024x1_0_1 v) (broadcastInDim S4x1024x1 ![] bcast_S_S4x1024x1 (constantI S_ 32 2048#32)))
      (broadcastInDim S4x1024x1 ![0, 1] bcast_S4x1024_S4x1024x1_0_1 v) (ix3 b k z)
      = Scalar.select (IntOp.cmpi .slt (v (ix2 b k)) (BitVec.ofNat 32 0)) (IntOp.addi (v (ix2 b k)) 2048#32) (v (ix2 b k)) := by
    pointwise
  have hlt := (n b k).isLt
  rw [e, hv, WordCmp.cmpi_slt_ofNat (by norm_num; omega) (by norm_num), decide_eq_false (by omega)]
  rfl

/-- The index is within the axis, so that the row taken is the row it names. -/
theorem takes (x : FVec Ideal S4x2048x128 .f32) (i : IVec S4x1024x1 32) (n : Fin 4 → Fin 1024 → Fin 2048)
    (hi : ∀ b k z, i (ix3 b k z) = BitVec.ofNat 32 (n b k).val) (b : Fin 4) (k : Fin 1024) (j : Fin 128) :
    select (broadcastInDim S4x1024x128 ![0, 1] bcast_S4x1024_S4x1024x128_0_1 (Host.reduce IntOp.andi (andi (cmpi .sge i (broadcastInDim S4x1024x1 ![] bcast_S_S4x1024x1 (constantI S_ 32 0#32))) (cmpi .sle i (broadcastInDim S4x1024x1 ![0, 1, 2] bcast_S1x1x1_S4x1024x1_0_1_2 (broadcastInDim S1x1x1 ![2] bcast_S1_S1x1x1_2 (constantI S1 32 2047#32))))) (constantI S_ 1 1#1) reducesTo_S4x1024x1_S4x1024_d2 h_S_)) (Host.gather gather_S4x2048x128_S4x1024x1_S4x1024x128_2_1_0_0_1_2_11128 x i) (broadcastInDim S4x1024x128 ![] bcast_S_S4x1024x128 (constant S_ .f32 0x7FC00000#32)) (ix3 b k j)
      = x (ix3 b (n b k) j) := by
  have e : ∀ (r : IVec S4x1024 1) (g c : FVec Ideal S4x1024x128 .f32),
      select (broadcastInDim S4x1024x128 ![0, 1] bcast_S4x1024_S4x1024x128_0_1 r) g c (ix3 b k j) = Scalar.select (r (ix2 b k)) (g (ix3 b k j)) (c (ix3 b k j)) := by
    intro r g c
    pointwise
  have m : ∀ y : S4x1024x1.Idx, andi (cmpi .sge i (broadcastInDim S4x1024x1 ![] bcast_S_S4x1024x1 (constantI S_ 32 0#32))) (cmpi .sle i (broadcastInDim S4x1024x1 ![0, 1, 2] bcast_S1x1x1_S4x1024x1_0_1_2 (broadcastInDim S1x1x1 ![2] bcast_S1_S1x1x1_2 (constantI S1 32 2047#32)))) y = 1#1 := by
    intro y
    have hy : y = ix3 (y 0) (y 1) (y 2) := by
      funext a
      match a with
      | ⟨0, _⟩ => rfl
      | ⟨1, _⟩ => rfl
      | ⟨2, _⟩ => rfl
    have hlt := (n (y 0) (y 1)).isLt
    have f : andi (cmpi .sge i (broadcastInDim S4x1024x1 ![] bcast_S_S4x1024x1 (constantI S_ 32 0#32))) (cmpi .sle i (broadcastInDim S4x1024x1 ![0, 1, 2] bcast_S1x1x1_S4x1024x1_0_1_2 (broadcastInDim S1x1x1 ![2] bcast_S1_S1x1x1_2 (constantI S1 32 2047#32)))) y
        = IntOp.andi (IntOp.cmpi .sge (i y) (BitVec.ofNat 32 0)) (IntOp.cmpi .sle (i y) (BitVec.ofNat 32 2047)) := rfl
    have g : i y = BitVec.ofNat 32 (n (y 0) (y 1)).val := by rw [hy]; exact hi _ _ _
    rw [f, g, WordCmp.cmpi_sge_ofNat (by norm_num; omega) (by norm_num), WordCmp.cmpi_sle_ofNat (by norm_num; omega) (by norm_num),
      decide_eq_true (by omega), decide_eq_true (by omega)]
    rfl
  rw [e, Host.reduce_andi_one _ _ _ _ _ rfl m]
  refine (take_apply (by decide) gather_S4x2048x128_S4x1024x1_S4x1024x128_2_1_0_0_1_2_11128_wf x i (ix3 b k j)).trans ?_
  refine congrArg x ?_
  have g : min (i (ix3 b k ⟨0, Nat.one_pos⟩)).toInt.toNat (2048 - 1) = (n b k).val := by
    have hlt := (n b k).isLt
    rw [hi, WordCmp.toInt_ofNat_of_lt (by norm_num; omega)]
    omega
  exact congrArg (fun c : Fin 2048 => (ix3 b c j : S4x2048x128.Idx)) (Fin.ext g)

/-- The index arrays of the two takes. -/
theorem call1_at (b : Fin 4) (k : Fin 1024) (z : Fin 1) : (res_main_call1_v4 V0 : IVec S4x1024x1 32) (ix3 b k z) = BitVec.ofNat 32 (sel V0 b k).val :=
  wrapped_at (res_main_v145 V0) (sel V0) (v145_at V0) b k z
theorem call2_at (b : Fin 4) (k : Fin 1024) (z : Fin 1) : (res_main_call2_v4 V0 : IVec S4x1024x1 32) (ix3 b k z) = BitVec.ofNat 32 (sel V0 b k).val :=
  wrapped_at (res_main_v145 V0) (sel V0) (v145_at V0) b k z

end Cert.Proof.Ref

end
-- ==== Proof.WholeClaims.lean ====
/-
  The whole kernel's claims: it runs to its end and leaves its arguments, and under finite scores its two results are the
  reference's.
-/
module

public import proofs.«01_k».proof.Defs
public import proofs.«01_k».proof.Proof.WholeValues
public import proofs.«01_k».proof.Proof.WholeRun
public import proofs.«01_k».proof.Proof.Soft
public import proofs.«01_k».proof.Proof.Finite
public import proofs.«01_k».proof.Proof.RefSel
public import proofs.«01_k».proof.Proof.Gen.Pre_finite_scores

@[expose] public section

set_option maxRecDepth 16384

noncomputable section

namespace Cert.Proof.Whole

open Cert.KernelIdeal Cert.KernelIdeal.Gen
open Idealize.ShloMosaic Idealize.ShloMosaic.TcCoe Idealize.ShloMosaic.StableHlo Idealize.SL.Sem
open Cert.Proof.Layer

/-! ## Finite scores -/

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem eighth_real : ∃ r : ℝ, Ideal.ofBits .f32 0x3E000000#32 = r :=
  ⟨_, by simp [Ideal.ofBits, Ideal.ieee, -EReal.coe_mul]; rfl⟩

theorem lin_real {n k p : ℕ} (x : Mat n k) (w : Mat k p) (b : Fin p → EReal) (hx : ∀ i j, ∃ r : ℝ, x i j = r) (hw : ∀ i j, ∃ r : ℝ, w i j = r)
    (hb : ∀ j, ∃ r : ℝ, b j = r) (i : Fin n) (j : Fin p) : ∃ r : ℝ, lin x w b i j = r :=
  real_add (sum_real _ _ (fun c => hx i c) (fun c => hw c j)) (hb j)

/-- Scores of real tokens under real weights are real. -/
theorem sc_real (w : Weights) (x : Mat 2048 128) (hx : ∀ i j, ∃ r : ℝ, x i j = r) (hq : ∀ i j, ∃ r : ℝ, w.Wq i j = r) (hbq : ∀ j, ∃ r : ℝ, w.bq j = r)
    (hk : ∀ i j, ∃ r : ℝ, w.Wk i j = r) (hbk : ∀ j, ∃ r : ℝ, w.bk j = r) (h : Fin 2) (i j : Fin 2048) : ∃ r : ℝ, sc w h x i j = r := by
  obtain ⟨a, ha⟩ := sum_real (fun d => head h (lin x w.Wq w.bq) i d) (fun d => head h (lin x w.Wk w.bk) j d)
    (fun d => lin_real x w.Wq w.bq hx hq hbq i _) (fun d => lin_real x w.Wk w.bk hx hk hbk j _)
  obtain ⟨b, hb⟩ := eighth_real
  exact ⟨a * b, by unfold Layer.sc scores; rw [ha, hb, EReal.coe_mul]⟩

section Values
variable (m : (ℓ : Loc nD τ sig) → Buf (Elt Ideal) ℓ) (c : Dev nD)

/-- The precondition makes every score real, -/
theorem scores_real (hp : Cert.Pre_KernelIdeal_finite_scores m) (b : Fin 4) (h : Fin 2) (i j : Fin 2048) : ∃ r : ℝ, sc (kw m c) h (kX m c b) i j = r := by
  obtain ⟨h0, h1, h2, h3, h4, h5⟩ := finite_of_pre _ _ _ _ _ _ _ _ _ _ _ _ _ _ _ _ _ _ _ _ _ _ _ _ (fun a => a.elim0) (congrFun (hp c) (fun a => a.elim0))
  exact sc_real (kw m c) (kX m c b) (fun i j => real_add (h0 (ix3 b i j)) (h1 (ix3 b i j))) (fun i j => h2 (ix2 i j)) (fun j => h3 (ix1 j))
    (fun i j => h4 (ix2 i j)) (fun j => h5 (ix1 j)) h i j

/-- so that the kernel's heads, taken by halves of the keys, are the heads. -/
theorem kO_eq (hp : Cert.Pre_KernelIdeal_finite_scores m) (b : Fin 4) :
    kO m c b = joined (attend (sc (kw m c) 0 (kX m c b)) (head 0 (lin (kX m c b) (kw m c).Wv (kw m c).bv)))
      (attend (sc (kw m c) 1 (kX m c b)) (head 1 (lin (kX m c b) (kw m c).Wv (kw m c).bv))) := by
  unfold kO heads
  rw [attendOnline_eq _ (scores_real m c hp b 0), attendOnline_eq _ (scores_real m c hp b 1)]

end Values

/-! ## The kernel's run -/

theorem mem_uc {b : Ref sig .tc} (h : b.isScoped = false) : (Proc.devRef .tc b : DevRef τ sig) ∈ Pipeline.ucRefs τ sig :=
  Finset.mem_filter.mpr ⟨devRef_mem_tcRefs b, by rw [Proc.isScoped_devRef, h]; exact Bool.false_ne_true⟩

/-- The run's results and arguments. -/
theorem run_values (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ fun r => (∀ c : Dev nD,
      r.2.mem ((c.tc : Thread nD τ).loc main_v18) = VC m c (Proc.devRef .tc main_v18)
      ∧ r.2.mem ((c.tc : Thread nD τ).loc main_v19) = VC m c (Proc.devRef .tc main_v19)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6
      ∧ r.2.mem ((c.tc : Thread nD τ).loc main_arg7) = arg m c main_arg7
      ∧ r.2.mem ((c.tc : Thread nD τ).loc main_arg8) = arg m c main_arg8
      ∧ r.2.mem ((c.tc : Thread nD τ).loc main_arg9) = arg m c main_arg9
      ∧ r.2.mem ((c.tc : Thread nD τ).loc main_arg10) = arg m c main_arg10
      ∧ r.2.mem ((c.tc : Thread nD τ).loc main_arg11) = arg m c main_arg11
      ∧ r.2.mem ((c.tc : Thread nD τ).loc main_arg12) = arg m c main_arg12
      ∧ r.2.mem ((c.tc : Thread nD τ).loc main_arg13) = arg m c main_arg13
      ∧ r.2.mem ((c.tc : Thread nD τ).loc main_arg14) = arg m c main_arg14
      ∧ r.2.mem ((c.tc : Thread nD τ).loc main_arg15) = arg m c main_arg15
      ∧ r.2.mem ((c.tc : Thread nD τ).loc main_arg16) = arg m c main_arg16
      ∧ r.2.mem ((c.tc : Thread nD τ).loc main_arg17) = arg m c main_arg17
      ∧ r.2.mem ((c.tc : Thread nD τ).loc main_arg18) = arg m c main_arg18
      ∧ r.2.mem ((c.tc : Thread nD τ).loc main_arg19) = arg m c main_arg19
      ∧ r.2.mem ((c.tc : Thread nD τ).loc main_arg20) = arg m c main_arg20
      ∧ r.2.mem ((c.tc : Thread nD τ).loc main_arg21) = arg m c main_arg21
      ∧ r.2.mem ((c.tc : Thread nD τ).loc main_arg22) = arg m c main_arg22
      ∧ r.2.mem ((c.tc : Thread nD τ).loc main_arg23) = arg m c main_arg23) ∧ r.2.sem = fun _ => 0 :=
  (θ_run Cert.KernelIdeal.defs _ _).mono (fun _ h => ⟨fun c =>
    ⟨h.1 c _ (mem_uc (b := main_v18) rfl), h.1 c _ (mem_uc (b := main_v19) rfl),
     (h.1 c _ (mem_uc (b := main_arg0) rfl)).trans (VC_arg0 m c),
     (h.1 c _ (mem_uc (b := main_arg1) rfl)).trans (VC_arg1 m c),
     (h.1 c _ (mem_uc (b := main_arg2) rfl)).trans (VC_arg2 m c),
     (h.1 c _ (mem_uc (b := main_arg3) rfl)).trans (VC_arg3 m c),
     (h.1 c _ (mem_uc (b := main_arg4) rfl)).trans (VC_arg4 m c),
     (h.1 c _ (mem_uc (b := main_arg5) rfl)).trans (VC_arg5 m c),
     (h.1 c _ (mem_uc (b := main_arg6) rfl)).trans (VC_arg6 m c),
     (h.1 c _ (mem_uc (b := main_arg7) rfl)).trans (VC_arg7 m c),
     (h.1 c _ (mem_uc (b := main_arg8) rfl)).trans (VC_arg8 m c),
     (h.1 c _ (mem_uc (b := main_arg9) rfl)).trans (VC_arg9 m c),
     (h.1 c _ (mem_uc (b := main_arg10) rfl)).trans (VC_arg10 m c),
     (h.1 c _ (mem_uc (b := main_arg11) rfl)).trans (VC_arg11 m c),
     (h.1 c _ (mem_uc (b := main_arg12) rfl)).trans (VC_arg12 m c),
     (h.1 c _ (mem_uc (b := main_arg13) rfl)).trans (VC_arg13 m c),
     (h.1 c _ (mem_uc (b := main_arg14) rfl)).trans (VC_arg14 m c),
     (h.1 c _ (mem_uc (b := main_arg15) rfl)).trans (VC_arg15 m c),
     (h.1 c _ (mem_uc (b := main_arg16) rfl)).trans (VC_arg16 m c),
     (h.1 c _ (mem_uc (b := main_arg17) rfl)).trans (VC_arg17 m c),
     (h.1 c _ (mem_uc (b := main_arg18) rfl)).trans (VC_arg18 m c),
     (h.1 c _ (mem_uc (b := main_arg19) rfl)).trans (VC_arg19 m c),
     (h.1 c _ (mem_uc (b := main_arg20) rfl)).trans (VC_arg20 m c),
     (h.1 c _ (mem_uc (b := main_arg21) rfl)).trans (VC_arg21 m c),
     (h.1 c _ (mem_uc (b := main_arg22) rfl)).trans (VC_arg22 m c),
     (h.1 c _ (mem_uc (b := main_arg23) rfl)).trans (VC_arg23 m c)⟩, h.2⟩) (run_main m ρ (pre_ok m))

theorem frame_kernel : Cert.quiescent_KernelIdeal := fun m ρ _ =>
  (θ_run Cert.KernelIdeal.defs _ _).mono (fun _ h => ⟨fun c => (h.1 c).2.2, h.2⟩) (run_values m ρ)
theorem frame_kernel_finite : Cert.quiescent_KernelIdeal_pre_finite_scores := fun m ρ _ => frame_kernel m ρ trivial
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_reference_finite : Cert.quiescent_ReferenceIdeal_pre_finite_scores := fun m ρ _ => frame_reference m ρ trivial

/-! ## The reference's results are the kernel's -/

theorem ix_eta (y : S4x1024x128.Idx) : y = ix3 (y 0) (y 1) (y 2) := by
  funext a
  match a with
  | ⟨0, _⟩ => rfl
  | ⟨1, _⟩ => rfl
  | ⟨2, _⟩ => rfl

section Agree
variable (m : (ℓ : Loc nD τ sig) → Buf (Elt Ideal) ℓ) (c : Dev nD) (V0 : Valuation Cert.ReferenceIdeal.τ Cert.ReferenceIdeal.sig (Elt Ideal))

/-- The reference's arguments are the kernel's. -/
def Same : Prop :=
  V0 (Proc.devRef .tc Cert.ReferenceIdeal.main_arg0) = arg m c main_arg0
  ∧ V0 (Proc.devRef .tc Cert.ReferenceIdeal.main_arg1) = arg m c main_arg1
  ∧ V0 (Proc.devRef .tc Cert.ReferenceIdeal.main_arg2) = arg m c main_arg2
  ∧ V0 (Proc.devRef .tc Cert.ReferenceIdeal.main_arg3) = arg m c main_arg3
  ∧ V0 (Proc.devRef .tc Cert.ReferenceIdeal.main_arg4) = arg m c main_arg4
  ∧ V0 (Proc.devRef .tc Cert.ReferenceIdeal.main_arg5) = arg m c main_arg5
  ∧ V0 (Proc.devRef .tc Cert.ReferenceIdeal.main_arg6) = arg m c main_arg6
  ∧ V0 (Proc.devRef .tc Cert.ReferenceIdeal.main_arg7) = arg m c main_arg7
  ∧ V0 (Proc.devRef .tc Cert.ReferenceIdeal.main_arg8) = arg m c main_arg8
  ∧ V0 (Proc.devRef .tc Cert.ReferenceIdeal.main_arg9) = arg m c main_arg9
  ∧ V0 (Proc.devRef .tc Cert.ReferenceIdeal.main_arg10) = arg m c main_arg10
  ∧ V0 (Proc.devRef .tc Cert.ReferenceIdeal.main_arg11) = arg m c main_arg11
  ∧ V0 (Proc.devRef .tc Cert.ReferenceIdeal.main_arg12) = arg m c main_arg12
  ∧ V0 (Proc.devRef .tc Cert.ReferenceIdeal.main_arg13) = arg m c main_arg13
  ∧ V0 (Proc.devRef .tc Cert.ReferenceIdeal.main_arg14) = arg m c main_arg14
  ∧ V0 (Proc.devRef .tc Cert.ReferenceIdeal.main_arg15) = arg m c main_arg15
  ∧ V0 (Proc.devRef .tc Cert.ReferenceIdeal.main_arg16) = arg m c main_arg16
  ∧ V0 (Proc.devRef .tc Cert.ReferenceIdeal.main_arg17) = arg m c main_arg17
  ∧ V0 (Proc.devRef .tc Cert.ReferenceIdeal.main_arg18) = arg m c main_arg18
  ∧ V0 (Proc.devRef .tc Cert.ReferenceIdeal.main_arg19) = arg m c main_arg19
  ∧ V0 (Proc.devRef .tc Cert.ReferenceIdeal.main_arg20) = arg m c main_arg20
  ∧ V0 (Proc.devRef .tc Cert.ReferenceIdeal.main_arg21) = arg m c main_arg21
  ∧ V0 (Proc.devRef .tc Cert.ReferenceIdeal.main_arg22) = arg m c main_arg22
  ∧ V0 (Proc.devRef .tc Cert.ReferenceIdeal.main_arg23) = arg m c main_arg23

variable {m c V0}

theorem wts_eq (h : Same m c V0) : Ref.wts V0 = kw m c := by
  obtain ⟨e0, e1, e2, e3, e4, e5, e6, e7, e8, e9, e10, e11, e12, e13, e14, e15, e16, e17, e18, e19, e20, e21, e22, e23⟩ := h
  unfold Ref.wts kw
  rw [e2, e3, e4, e5, e6, e7, e8, e9, e10, e11, e12, e13, e14, e15, e16, e17, e18, e19, e20, e21, e22, e23]

theorem X_eq (h : Same m c V0) (b : Fin 4) : Ref.X V0 b = kX m c b := by
  unfold Ref.X kX
  rw [h.1, h.2.1]

theorem O_eq (h : Same m c V0) (hp : Cert.Pre_KernelIdeal_finite_scores m) (b : Fin 4) : Ref.O V0 b = kO m c b := by
  rw [kO_eq m c hp]
  unfold Ref.O
  rw [wts_eq h, X_eq h]

theorem sel_eq (h : Same m c V0) (hp : Cert.Pre_KernelIdeal_finite_scores m) (b : Fin 4) (k : Fin 1024) : Ref.sel V0 b k = ksel m c b k := by
  unfold Ref.sel ksel
  rw [wts_eq h, X_eq h, O_eq h hp]

/-- The layer's output at the token selected, and the position at it. -/
theorem rows0 (h : Same m c V0) (hp : Cert.Pre_KernelIdeal_finite_scores m) (b : Fin 4) (k : Fin 1024) (j : Fin 128) :
    out (Ref.wts V0) (Ref.X V0 b) (Ref.O V0 b) (Ref.sel V0 b k) j = (VC m c (Proc.devRef .tc main_v18) : S4x1024x128.Idx → EReal) (ix3 b k j) := by
  rw [v18_at, wts_eq h, X_eq h, O_eq h hp, sel_eq h hp]
theorem rows1 (h : Same m c V0) (hp : Cert.Pre_KernelIdeal_finite_scores m) (b : Fin 4) (k : Fin 1024) (j : Fin 128) :
    (V0 (Proc.devRef .tc Cert.ReferenceIdeal.main_arg1) : S4x2048x128.Idx → EReal) (ix3 b (Ref.sel V0 b k) j)
      = (VC m c (Proc.devRef .tc main_v19) : S4x1024x128.Idx → EReal) (ix3 b k j) := by
  rw [v19_at, h.2.1, sel_eq h hp]

end Agree

theorem algebraic_kernel : Cert.algebraic_KernelIdeal_ReferenceIdeal_pre_finite_scores := by
  intro m ρ m' ρ' hp he
  refine ⟨fun c => VC m c (Proc.devRef .tc main_v18), fun c => VC m c (Proc.devRef .tc main_v19),
    (θ_run Cert.KernelIdeal.defs _ _).mono (fun _ h => h.1) (run_values m ρ), ?_⟩
  refine (θ_run Cert.ReferenceIdeal.defs _ _).mono (fun r h c => ?_) (Cert.ReferenceIdeal.Value.run m' ρ')
  obtain ⟨h0, h1, ha⟩ := h c
  have hs : Same m c (launchContents m' c) := he c
  refine ⟨h0.trans ?_, h1.trans ?_, ha⟩
  · funext y
    rw [ix_eta y]
    exact (Ref.takes _ _ (Ref.sel (launchContents m' c)) (Ref.call1_at _) (y 0) (y 1) (y 2)).trans
      ((Ref.r_104 _ _ _ _).trans (rows0 hs hp (y 0) (y 1) (y 2)))
  · funext y
    rw [ix_eta y]
    exact (Ref.takes _ _ (Ref.sel (launchContents m' c)) (Ref.call2_at _) (y 0) (y 1) (y 2)).trans (rows1 hs hp (y 0) (y 1) (y 2))

end Cert.Proof.Whole

end
-- ==== Proof.lean ====
module

public import proofs.«01_k».proof.Defs
public import proofs.«01_k».proof.Proof.GatherClaims
public import proofs.«01_k».proof.Proof.WholeClaims
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.Encode
public import proofs.«01_k».proof.Proof.Gen.EncodeIdeal
public import proofs.«01_k».proof.Proof.Gen.EncodeIdeal.Frame
public import proofs.«01_k».proof.Proof.Gen.Encode.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_finite_scores
public import proofs.«01_k».proof.Proof.Gen.GatherReferenceIdeal.Run
public import Idealize.ShloMosaic.Adequacy
public import Idealize.ShloMosaic.Init

@[expose] public section

noncomputable section

namespace Cert.Proof

open Idealize.ShloMosaic Idealize.SL.Sem

/-- The gathers' reference is a straight line of host operations, and declares no semaphore. -/
theorem frame_gatherReference : Cert.quiescent_GatherReferenceIdeal := fun m ρ _ =>
  (θ_run Cert.GatherReferenceIdeal.defs _ _).mono (fun r h => ⟨fun c => (h c).2.2, sem_eq_zero_of_no_sems (by decide) r.2⟩)
    (Cert.GatherReferenceIdeal.Value.run (F := Ideal) m ρ)

/-- The TensorCore call alone: the generated frames. -/
theorem frame_encodeIdeal : Cert.quiescent_EncodeIdeal := fun m ρ _ => Cert.EncodeIdeal.Gen.frame m ρ
theorem frame_encode : Cert.quiescent_Encode := fun m ρ _ => Cert.Encode.Gen.frame m ρ

theorem claim : Cert.Claim :=
  ⟨Cert.Gather.Gen.facts, Cert.GatherIdeal.Gen.facts, Cert.GatherReferenceIdeal.Gen.facts, Cert.Encode.Gen.facts,
    Cert.EncodeIdeal.Gen.facts, Cert.KernelIdeal.Gen.facts, Cert.ReferenceIdeal.Gen.facts, Cert.Pre_ids_in_range.Gen.facts,
    Cert.Pre_finite_scores.Gen.facts,
    GatherCall.frame_gather, GatherCall.frame_gatherIdeal, frame_gatherReference, frame_encode, frame_encodeIdeal,
    Whole.frame_kernel, Whole.frame_kernel_finite, Whole.frame_reference, Whole.frame_reference_finite,
    trivial, GatherCall.algebraic_gather, trivial, Whole.algebraic_kernel⟩

end Cert.Proof

end
